-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v29_0)) (v2 : (c : Dev Cert.KernelIdeal.nD) → Buf (Elt Ideal) ((c.tc : Thread Cert.KernelIdeal.nD Cert.KernelIdeal.τ).loc Cert.KernelIdeal.main_v29_1)) (v3 : (c : Dev Cert.KernelIdeal.nD) → Buf (Elt Ideal) ((c.tc : Thread Cert.KernelIdeal.nD Cert.KernelIdeal.τ).loc Cert.KernelIdeal.main_v29_2)) (v4 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_v29_1) = v2 c
          ∧ r.2.mem ((c.tc : Thread Cert.KernelIdeal.nD Cert.KernelIdeal.τ).loc Cert.KernelIdeal.main_v29_2) = v3 c
          ∧ r.2.mem ((c.tc : Thread Cert.KernelIdeal.nD Cert.KernelIdeal.τ).loc Cert.KernelIdeal.main_v31) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v134) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_v10) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v9) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v4) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v7) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S8192x16x64 : Shape := ⟨3, ![8192, 16, 64]⟩
abbrev S8192x4x64 : Shape := ⟨3, ![8192, 4, 64]⟩
abbrev S16 : Shape := ⟨1, ![16]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S8192x16x64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S8192x16x64 .f32 := Host.absf main_arg4
  let main_cst_6 : FVec F S_ .f32 := constant S_ .f32 0x7F800000#32
  let main_v20 : FVec F S8192x16x64 .f32 := broadcastInDim S8192x16x64 ![] bcast_S_S8192x16x64 main_cst_6
  let main_v21 : IVec S8192x16x64 1 := cmpf .olt main_v19 main_v20
  let main_c_7 : IVec S_ 1 := constantI S_ 1 1#1
  let main_v22 : IVec S_ 1 := (fun x v => Host.reduce IntOp.andi x v reducesTo_S8192x16x64_S_d0_1_2 h_S_) main_v21 main_c_7
  let main_v23 : IVec S_ 1 := andi main_v18 main_v22
  main_v23

def fn {F : FTy → Type} [FloatOps F] (main_arg0 : FVec F S8192x16x64 .f32) (main_arg1 : FVec F S8192x4x64 .f32) (main_arg2 : FVec F S8192x4x64 .f32) (main_arg3 : FVec F S16 .f32) (main_arg4 : FVec F S8192x16x64 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x4x64 .f32 := Host.absf main_arg1
  let main_cst_0 : FVec F S_ .f32 := constant S_ .f32 0x7F800000#32
  let main_v5 : FVec F S8192x4x64 .f32 := broadcastInDim S8192x4x64 ![] bcast_S_S8192x4x64 main_cst_0
  let main_v6 : IVec S8192x4x64 1 := cmpf .olt main_v4 main_v5
  let main_c_1 : IVec S_ 1 := constantI S_ 1 1#1
  let main_v7 : IVec S_ 1 := (fun x v => Host.reduce IntOp.andi x v reducesTo_S8192x4x64_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Pre_finite3.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := Host.absf main_arg3
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : IVec S_ 1 := andi main_v9 main_v13
  main_v14
-- ==== Kernel.lean ====
abbrev S8192x16x64 : Shape := ⟨3, ![8192, 16, 64]⟩
abbrev S8192x4x64 : Shape := ⟨3, ![8192, 4, 64]⟩
abbrev S16 : Shape := ⟨1, ![16]⟩
abbrev S8192x1024 : Shape := ⟨2, ![8192, 1024]⟩
abbrev S_ : Shape := ⟨0, ![]⟩
abbrev S8192x256 : Shape := ⟨2, ![8192, 256]⟩
abbrev S16x1x1 : Shape := ⟨3, ![16, 1, 1]⟩
abbrev S16x1x128 : Shape := ⟨3, ![16, 1, 128]⟩
abbrev S16x64x8192 : Shape := ⟨3, ![16, 64, 8192]⟩
abbrev S16x8192x64 : Shape := ⟨3, ![16, 8192, 64]⟩
abbrev S4x8192x64 : Shape := ⟨3, ![4, 8192, 64]⟩
abbrev S64x128x4x64 : Shape := ⟨4, ![64, 128, 4, 64]⟩
abbrev S4x64x64x128 : Shape := ⟨4, ![4, 64, 64, 128]⟩
abbrev S16x1x8192 : Shape := ⟨3, ![16, 1, 8192]⟩
abbrev S4x64x128 : Shape := ⟨3, ![4, 64, 128]⟩
abbrev S1x8192x64 : Shape := ⟨3, ![1, 8192, 64]⟩
abbrev S1x64x64x128 : Shape := ⟨4, ![1, 64, 64, 128]⟩
abbrev S4x1x128 : Shape := ⟨3, ![4, 1, 128]⟩
abbrev S256x512 : Shape := ⟨2, ![256, 512]⟩
abbrev S1x64x128 : Shape := ⟨3, ![1, 64, 128]⟩
abbrev S64x128 : Shape := ⟨2, ![64, 128]⟩
abbrev S64x512 : Shape := ⟨2, ![64, 512]⟩
abbrev S1x1x128 : Shape := ⟨3, ![1, 1, 128]⟩
abbrev S1x128 : Shape := ⟨2, ![1, 128]⟩
abbrev S1x512 : Shape := ⟨2, ![1, 512]⟩
abbrev S1x256x64 : Shape := ⟨3, ![1, 256, 64]⟩
abbrev S256x64 : Shape := ⟨2, ![256, 64]⟩
abbrev S512 : Shape := ⟨1, ![512]⟩
abbrev S1x1x64x128 : Shape := ⟨4, ![1, 1, 64, 128]⟩
abbrev S128x512 : Shape := ⟨2, ![128, 512]⟩
abbrev S4x128x64 : Shape := ⟨3, ![4, 128, 64]⟩
abbrev S8192x64 : Shape := ⟨2, ![8192, 64]⟩
abbrev S1x128x64 : Shape := ⟨3, ![1, 128, 64]⟩
abbrev S128x64 : Shape := ⟨2, ![128, 64]⟩
abbrev S512x64 : Shape := ⟨2, ![512, 64]⟩
abbrev S16x128 : Shape := ⟨2, ![16, 128]⟩

abbrev nBuf : Space → Nat
  | .hbm => 43
  | .vmem => 40
  | .smem => 0
  | _ => 0

abbrev bufTy : (tb : Table) → Fin (tcTables nBuf tb) → BufTy
  | .hbm, ⟨0, _⟩ => ⟨S8192x16x64, .f32⟩
  | .hbm, ⟨1, _⟩ => ⟨S8192x4x64, .f32⟩
  | .hbm, ⟨2, _⟩ => ⟨S8192x4x64, .f32⟩
  | .hbm, ⟨3, _⟩ => ⟨S16, .f32⟩
  | .hbm, ⟨4, _⟩ => ⟨S8192x16x64, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x256, .f32⟩
  | .hbm, ⟨11, _⟩ => ⟨S8192x256, .bf16⟩
  | .hbm, ⟨12, _⟩ => ⟨S8192x256, .f32⟩
  | .hbm, ⟨13, _⟩ => ⟨S8192x256, .bf16⟩
  | .hbm, ⟨14, _⟩ => ⟨S8192x1024, .f32⟩
  | .hbm, ⟨15, _⟩ => ⟨S8192x1024, .bf16⟩
  | .hbm, ⟨16, _⟩ => ⟨S16x1x1, .f32⟩
  | .hbm, ⟨17, _⟩ => ⟨S16x1x128, .f32⟩
  | .hbm, ⟨18, _⟩ => ⟨S8192x16x64, .bf16⟩
  | .hbm, ⟨19, _⟩ => ⟨S16x64x8192, .bf16⟩
  | .hbm, ⟨20, _⟩ => ⟨S8192x16x64, .bf16⟩
  | .hbm, ⟨21, _⟩ => ⟨S16x8192x64, .bf16⟩
  | .hbm, ⟨22, _⟩ => ⟨S8192x4x64, .bf16⟩
  | .hbm, ⟨23, _⟩ => ⟨S4x8192x64, .bf16⟩
  | .hbm, ⟨24, _⟩ => ⟨S64x128x4x64, .bf16⟩
  | .hbm, ⟨25, _⟩ => ⟨S4x64x64x128, .bf16⟩
  | .hbm, ⟨26, _⟩ => ⟨S8192x4x64, .bf16⟩
  | .hbm, ⟨27, _⟩ => ⟨S4x8192x64, .bf16⟩
  | .hbm, ⟨28, _⟩ => ⟨S64x128x4x64, .bf16⟩
  | .hbm, ⟨29, _⟩ => ⟨S4x64x64x128, .bf16⟩
  | .hbm, ⟨30, _⟩ => ⟨S16x64x8192, .f32⟩
  | .hbm, ⟨31, _⟩ => ⟨S16x1x8192, .f32⟩
  | .hbm, ⟨32, _⟩ => ⟨S8192x16x64, .bf16⟩
  | .hbm, ⟨33, _⟩ => ⟨S16x8192x64, .bf16⟩
  | .hbm, ⟨34, _⟩ => ⟨S8192x16x64, .bf16⟩
  | .hbm, ⟨35, _⟩ => ⟨S16x64x8192, .bf16⟩
  | .hbm, ⟨36, _⟩ => ⟨S16x64x8192, .f32⟩
  | .hbm, ⟨37, _⟩ => ⟨S4x8192x64, .f32⟩
  | .hbm, ⟨38, _⟩ => ⟨S4x8192x64, .f32⟩
  | .hbm, ⟨39, _⟩ => ⟨S16x1x128, .f32⟩
  | .hbm, ⟨40, _⟩ => ⟨S16x128, .f32⟩
  | .hbm, ⟨41, _⟩ => ⟨S_, .f32⟩
  | .hbm, ⟨42, _⟩ => ⟨S16, .f32⟩
  | .local _ .vmem, ⟨0, _⟩ => ⟨S4x64x128, .bf16⟩
  | .local _ .vmem, ⟨1, _⟩ => ⟨S4x64x128, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x64x64x128, .bf16⟩
  | .local _ .vmem, ⟨5, _⟩ => ⟨S1x64x64x128, .bf16⟩
  | .local _ .vmem, ⟨6, _⟩ => ⟨S4x1x128, .f32⟩
  | .local _ .vmem, ⟨7, _⟩ => ⟨S4x1x128, .f32⟩
  | .local _ .vmem, ⟨8, _⟩ => ⟨S4x64x128, .f32⟩
  | .local _ .vmem, ⟨9, _⟩ => ⟨S4x64x128, .f32⟩
  | .local _ .vmem, ⟨10, _⟩ => ⟨S4x1x128, .f32⟩
  | .local _ .vmem, ⟨11, _⟩ => ⟨S4x1x128, .f32⟩
  | .local _ .vmem, ⟨12, _⟩ => ⟨S4x64x128, .bf16⟩
  | .local _ .vmem, ⟨13, _⟩ => ⟨S4x64x128, .bf16⟩
  | .local _ .vmem, ⟨14, _⟩ => ⟨S4x128x64, .bf16⟩
  | .local _ .vmem, ⟨15, _⟩ => ⟨S4x128x64, .bf16⟩
  | .local _ .vmem, ⟨16, _⟩ => ⟨S1x8192x64, .bf16⟩
  | .local _ .vmem, ⟨17, _⟩ => ⟨S1x8192x64, .bf16⟩
  | .local _ .vmem, ⟨18, _⟩ => ⟨S1x64x64x128, .bf16⟩
  | .local _ .vmem, ⟨19, _⟩ => ⟨S1x64x64x128, .bf16⟩
  | .local _ .vmem, ⟨20, _⟩ => ⟨S1x8192x64, .bf16⟩
  | .local _ .vmem, ⟨21, _⟩ => ⟨S1x8192x64, .bf16⟩
  | .local _ .vmem, ⟨22, _⟩ => ⟨S4x1x128, .f32⟩
  | .local _ .vmem, ⟨23, _⟩ => ⟨S4x1x128, .f32⟩
  | .local _ .vmem, ⟨24, _⟩ => ⟨S4x64x128, .f32⟩
  | .local _ .vmem, ⟨25, _⟩ => ⟨S4x64x128, .f32⟩
  | .local _ .vmem, ⟨26, _⟩ => ⟨S4x128x64, .bf16⟩
  | .local _ .vmem, ⟨27, _⟩ => ⟨S4x128x64, .bf16⟩
  | .local _ .vmem, ⟨28, _⟩ => ⟨S4x64x128, .bf16⟩
  | .local _ .vmem, ⟨29, _⟩ => ⟨S4x64x128, .bf16⟩
  | .local _ .vmem, ⟨30, _⟩ => ⟨S4x1x128, .f32⟩
  | .local _ .vmem, ⟨31, _⟩ => ⟨S4x1x128, .f32⟩
  | .local _ .vmem, ⟨32, _⟩ => ⟨S4x64x128, .f32⟩
  | .local _ .vmem, ⟨33, _⟩ => ⟨S4x64x128, .f32⟩
  | .local _ .vmem, ⟨34, _⟩ => ⟨S1x8192x64, .f32⟩
  | .local _ .vmem, ⟨35, _⟩ => ⟨S1x8192x64, .f32⟩
  | .local _ .vmem, ⟨36, _⟩ => ⟨S1x8192x64, .f32⟩
  | .local _ .vmem, ⟨37, _⟩ => ⟨S1x8192x64, .f32⟩
  | .local _ .vmem, ⟨38, _⟩ => ⟨S4x1x128, .f32⟩
  | .local _ .vmem, ⟨39, _⟩ => ⟨S4x1x128, .f32⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24_0 : Ref sig .tc := ⟨.hbm, 30, rfl⟩
abbrev main_v24_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v29_2 : Ref sig .tc := ⟨.hbm, 38, rfl⟩
abbrev main_v29_3 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc1_stg12_1 : Ref sig .tc := ⟨.vmem, 37, rfl⟩
abbrev cc1_stg13_0 : Ref sig .tc := ⟨.vmem, 38, rfl⟩
abbrev cc1_stg13_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc1_sem12_1 : DmaSem sig := 37
abbrev cc1_sem13_0 : DmaSem sig := 38
abbrev cc1_sem13_1 : DmaSem sig := 39

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  v2
def k0_off1 (i : grid0.Coords) : Fin 3 → Nat :=
  let c0_28 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c128_i32 : BitVec 32 := 128#32
  let v2 : BitVec 32 := Scalar.muli v1 c128_i32
  let v3 : BitVec 32 := v2
  let v50 : Index := Scalar.indexCast v3
  let c0_29 : Index := 0#32
  ![0, v50.toNat, 0]
def k0_off2 (i : grid0.Coords) : Fin 4 → Nat :=
  let c0_34 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v70 : Index := Scalar.indexCast v1
  let c0_35 : Index := 0#32
  let c0_36 : Index := 0#32
  ![0, v70.toNat, 0, 0]
def k0_off3 (i : grid0.Coords) : Fin 4 → Nat :=
  let c0_39 : Index := 0#32
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c1_i32_38 : BitVec 32 := 1#32
  let v75 : BitVec 32 := Scalar.addi v1 c1_i32_38
  let v76 : Index := Scalar.indexCast v75
  let c0_40 : Index := 0#32
  let c0_41 : Index := 0#32
  ![0, v76.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 64], ![false, false]⟩

def k1_mult1 (i : grid1.Coords) : BitVec 32 :=
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c128_i32 : BitVec 32 := 128#32
  let v5 : BitVec 32 := Scalar.muli v4 c128_i32
  v5
def k1_off1 (i : grid1.Coords) : Fin 3 → Nat :=
  let c0_90 : Index := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c128_i32 : BitVec 32 := 128#32
  let v5 : BitVec 32 := Scalar.muli v4 c128_i32
  let v6 : BitVec 32 := v5
  let v102 : Index := Scalar.indexCast v6
  let c0_91 : Index := 0#32
  ![0, v102.toNat, 0]
def k1_off2 (i : grid1.Coords) : Fin 4 → Nat :=
  let c0_97 : Index := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let v119 : Index := Scalar.indexCast v4
  let c0_98 : Index := 0#32
  let c0_99 : Index := 0#32
  ![0, v119.toNat, 0, 0]
def k1_off3 (i : grid1.Coords) : Fin 4 → Nat :=
  let c0_102 : Index := 0#32
  let arg1 : BitVec 32 := BitVec.ofNat 32 (i 1).val
  let c1_i32 : BitVec 32 := 1#32
  let v3 : BitVec 32 := Scalar.subi arg1 c1_i32
  let c0_i32_1 : BitVec 32 := 0#32
  let v4 : BitVec 32 := Scalar.maxsi v3 c0_i32_1
  let c1_i32_101 : BitVec 32 := 1#32
  let v124 : BitVec 32 := Scalar.addi v4 c1_i32_101
  let v125 : Index := Scalar.indexCast v124
  let c0_103 : Index := 0#32
  let c0_104 : Index := 0#32
  ![0, v125.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x64x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x64x64x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x8192x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S4x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S4x64x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S4x128x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S4x64x128 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S4x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S4x64x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x8192x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x8192x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S4x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]
-- ==== ReferenceIdeal.lean ====
abbrev S8192x16x64 : Shape := ⟨3, ![8192, 16, 64]⟩
abbrev S8192x4x64 : Shape := ⟨3, ![8192, 4, 64]⟩
abbrev S16 : Shape := ⟨1, ![16]⟩
abbrev S64x128x4x4x64 : Shape := ⟨5, ![64, 128, 4, 4, 64]⟩
abbrev S64x128x4x64 : Shape := ⟨4, ![64, 128, 4, 64]⟩
abbrev S1x128x4x64 : Shape := ⟨4, ![1, 128, 4, 64]⟩
abbrev S_ : Shape := ⟨0, ![]⟩
abbrev S63x128x4x64 : Shape := ⟨4, ![63, 128, 4, 64]⟩
abbrev S64x256x4x64 : Shape := ⟨4, ![64, 256, 4, 64]⟩
abbrev S64x4x256x128x4 : Shape := ⟨5, ![64, 4, 256, 128, 4]⟩
abbrev S64x4x4x128x256 : Shape := ⟨5, ![64, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S4x4 : Shape := ⟨2, ![4, 4]⟩
abbrev S1x4x4x1x1 : Shape := ⟨5, ![1, 4, 4, 1, 1]⟩
abbrev S64x4x4x128x1 : Shape := ⟨5, ![64, 4, 4, 128, 1]⟩
abbrev S64x4x4x128x257 : Shape := ⟨5, ![64, 4, 4, 128, 257]⟩
abbrev S64x4x4x128 : Shape := ⟨4, ![64, 4, 4, 128]⟩
abbrev S64x4x64x4x128 : Shape := ⟨5, ![64, 4, 64, 4, 128]⟩
abbrev S64x4x64x256 : Shape := ⟨4, ![64, 4, 64, 256]⟩
abbrev S64x4x128x4x64 : Shape := ⟨5, ![64, 4, 128, 4, 64]⟩
abbrev S64x4x256x64 : Shape := ⟨4, ![64, 4, 256, 64]⟩
abbrev S16x64x8192 : Shape := ⟨3, ![16, 64, 8192]⟩
abbrev S4x8192x64 : Shape := ⟨3, ![4, 8192, 64]⟩

abbrev nBuf : Space → Nat
  | .hbm => 178
  | .vmem => 0
  | .smem => 0
  | _ => 0

abbrev hbmTy0_0 (i : Nat) : BufTy := match i % 128 with
  | 0 => ⟨S8192x16x64, .f32⟩
  | 1 => ⟨S8192x4x64, .f32⟩
  | 2 => ⟨S8192x4x64, .f32⟩
  | 3 => ⟨S16, .f32⟩
  | 4 => ⟨S8192x16x64, .f32⟩
  | 5 => ⟨S64x128x4x4x64, .f32⟩
  | 6 => ⟨S64x128x4x64, .f32⟩
  | 7 => ⟨S1x128x4x64, .f32⟩
  | 8 => ⟨S_, .f32⟩
  | 9 => ⟨S1x128x4x64, .f32⟩
  | 10 => ⟨S63x128x4x64, .f32⟩
  | 11 => ⟨S64x128x4x64, .f32⟩
  | 12 => ⟨S_, .f32⟩
  | 13 => ⟨S1x128x4x64, .f32⟩
  | 14 => ⟨S64x256x4x64, .f32⟩
  | 15 => ⟨S64x128x4x64, .f32⟩
  | 16 => ⟨S1x128x4x64, .f32⟩
  | 17 => ⟨S_, .f32⟩
  | 18 => ⟨S1x128x4x64, .f32⟩
  | 19 => ⟨S63x128x4x64, .f32⟩
  | 20 => ⟨S64x128x4x64, .f32⟩
  | 21 => ⟨S_, .f32⟩
  | 22 => ⟨S1x128x4x64, .f32⟩
  | 23 => ⟨S64x256x4x64, .f32⟩
  | 24 => ⟨S64x4x256x128x4, .f32⟩
  | 25 => ⟨S64x4x4x128x256, .f32⟩
  | 26 => ⟨S_, .f32⟩
  | 27 => ⟨S64x4x4x128x256, .f32⟩
  | 28 => ⟨S64x4x4x128x256, .f32⟩
  | 29 => ⟨S128, .i32⟩
  | 30 => ⟨S128x1, .i32⟩
  | 31 => ⟨S256, .i32⟩
  | 32 => ⟨S1x256, .i32⟩
  | 33 => ⟨S_, .i32⟩
  | 34 => ⟨S128x1, .i32⟩
  | 35 => ⟨S128x1, .i32⟩
  | 36 => ⟨S128x256, .i32⟩
  | 37 => ⟨S128x256, .i32⟩
  | 38 => ⟨S128x256, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S64, .i32⟩
  | 47 => ⟨S64x1x1, .i32⟩
  | 48 => ⟨S_, .i32⟩
  | 49 => ⟨S64x1x1, .i32⟩
  | 50 => ⟨S64x1x1, .i1⟩
  | 51 => ⟨S1x1x256, .i32⟩
  | 52 => ⟨S_, .i32⟩
  | 53 => ⟨S1x1x256, .i32⟩
  | 54 => ⟨S1x1x256, .i1⟩
  | 55 => ⟨S64x1x256, .i1⟩
  | 56 => ⟨S64x1x256, .i1⟩
  | 57 => ⟨S64x1x256, .i1⟩
  | 58 => ⟨S1x128x256, .i1⟩
  | 59 => ⟨S64x1x256, .i1⟩
  | 60 => ⟨S64x128x256, .i1⟩
  | 61 => ⟨S64x128x256, .i1⟩
  | 62 => ⟨S64x128x256, .i1⟩
  | 63 => ⟨S64x1x1x128x256, .i1⟩
  | 64 => ⟨S_, .f32⟩
  | 65 => ⟨S_, .f32⟩
  | 66 => ⟨S64x4x4x128x256, .i1⟩
  | 67 => ⟨S64x4x4x128x256, .f32⟩
  | 68 => ⟨S64x4x4x128x256, .f32⟩
  | 69 => ⟨S_, .f32⟩
  | 70 => ⟨S64x4x4x128x256, .f32⟩
  | 71 => ⟨S4x4, .f32⟩
  | 72 => ⟨S1x4x4x1x1, .f32⟩
  | 73 => ⟨S64x4x4x128x1, .f32⟩
  | 74 => ⟨S64x4x4x128x257, .f32⟩
  | 75 => ⟨S_, .f32⟩
  | 76 => ⟨S64x4x4x128, .f32⟩
  | 77 => ⟨S64x4x4x128x1, .f32⟩
  | 78 => ⟨S64x4x4x128x257, .f32⟩
  | 79 => ⟨S64x4x4x128x257, .i1⟩
  | 80 => ⟨S64x4x4x128x257, .f32⟩
  | 81 => ⟨S_, .f32⟩
  | 82 => ⟨S64x4x4x128, .f32⟩
  | 83 => ⟨S_, .f32⟩
  | 84 => ⟨S64x4x4x128, .f32⟩
  | 85 => ⟨S64x4x4x128, .f32⟩
  | 86 => ⟨S_, .f32⟩
  | 87 => ⟨S64x4x4x128, .f32⟩
  | 88 => ⟨S64x4x4x128, .i1⟩
  | 89 => ⟨S_, .f32⟩
  | 90 => ⟨S64x4x4x128, .f32⟩
  | 91 => ⟨S64x4x4x128, .i1⟩
  | 92 => ⟨S_, .f32⟩
  | 93 => ⟨S64x4x4x128, .f32⟩
  | 94 => ⟨S_, .f32⟩
  | 95 => ⟨S64x4x4x128, .f32⟩
  | 96 => ⟨S_, .f32⟩
  | 97 => ⟨S64x4x4x128, .f32⟩
  | 98 => ⟨S64x4x4x128, .f32⟩
  | 99 => ⟨S64x4x4x128, .f32⟩
  | 100 => ⟨S64x4x4x128x1, .f32⟩
  | 101 => ⟨S64x4x4x128x257, .f32⟩
  | 102 => ⟨S64x4x4x128x257, .f32⟩
  | 103 => ⟨S64x4x4x128x257, .f32⟩
  | 104 => ⟨S_, .f32⟩
  | 105 => ⟨S64x4x4x128, .f32⟩
  | 106 => ⟨S64x4x4x128x1, .f32⟩
  | 107 => ⟨S64x4x4x128x257, .f32⟩
  | 108 => ⟨S64x4x4x128x257, .f32⟩
  | 109 => ⟨S64x4x4x128x1, .f32⟩
  | 110 => ⟨S_, .f32⟩
  | 111 => ⟨S64x4x4x128x1, .f32⟩
  | 112 => ⟨S64x4x4x128x1, .f32⟩
  | 113 => ⟨S64x4x4x128x256, .f32⟩
  | 114 => ⟨S64x4x64x4x128, .f32⟩
  | 115 => ⟨S64x128x4x4x64, .f32⟩
  | 116 => ⟨S8192x16x64, .f32⟩
  | 117 => ⟨S64x128x4x4x64, .f32⟩
  | 118 => ⟨S64x4x64x4x128, .f32⟩
  | 119 => ⟨S64x4x4x128x256, .f32⟩
  | 120 => ⟨S64x4x64x256, .f32⟩
  | 121 => ⟨S64x256x4x64, .f32⟩
  | 122 => ⟨S_, .f32⟩
  | 123 => ⟨S64x4x4x128x257, .f32⟩
  | 124 => ⟨S64x4x4x128x257, .f32⟩
  | 125 => ⟨S64x4x4x128x257, .f32⟩
  | 126 => ⟨S64x4x4x128x257, .f32⟩
  | 127 => ⟨S_, .f32⟩
  | _ => ⟨S8192x16x64, .f32⟩

abbrev hbmTy0_1 (i : Nat) : BufTy := match i % 128 with
  | 0 => ⟨S64x4x4x128, .f32⟩
  | 1 => ⟨S64x4x4x128x1, .f32⟩
  | 2 => ⟨S64x4x4x128x1, .f32⟩
  | 3 => ⟨S64x4x4x128x257, .f32⟩
  | 4 => ⟨S64x4x4x128x257, .f32⟩
  | 5 => ⟨S_, .f32⟩
  | 6 => ⟨S64x4x4x128, .f32⟩
  | 7 => ⟨S64x4x4x128x257, .f32⟩
  | 8 => ⟨S64x4x4x128x257, .f32⟩
  | 9 => ⟨S64x4x4x128x257, .f32⟩
  | 10 => ⟨S64x4x4x128x256, .f32⟩
  | 11 => ⟨S64x4x4x128x1, .f32⟩
  | 12 => ⟨S_, .f32⟩
  | 13 => ⟨S4x4, .f32⟩
  | 14 => ⟨S1x4x4x1x1, .f32⟩
  | 15 => ⟨S_, .f32⟩
  | 16 => ⟨S4x4, .f32⟩
  | 17 => ⟨S16, .f32⟩
  | 18 => ⟨S_, .f32⟩
  | 19 => ⟨S64x4x4x128x256, .f32⟩
  | 20 => ⟨S64x4x4x128x256, .f32⟩
  | 21 => ⟨S_, .f32⟩
  | 22 => ⟨S64x4x4x128x256, .f32⟩
  | 23 => ⟨S64x4x4x128x256, .f32⟩
  | 24 => ⟨S64x4x256x128x4, .f32⟩
  | 25 => ⟨S64x4x128x4x64, .f32⟩
  | 26 => ⟨S64x128x4x4x64, .f32⟩
  | 27 => ⟨S64x4x256x64, .f32⟩
  | 28 => ⟨S64x256x4x64, .f32⟩
  | 29 => ⟨S64x128x4x64, .f32⟩
  | 30 => ⟨S64x128x4x64, .f32⟩
  | 31 => ⟨S1x128x4x64, .f32⟩
  | 32 => ⟨S63x128x4x64, .f32⟩
  | 33 => ⟨S_, .f32⟩
  | 34 => ⟨S64x128x4x64, .f32⟩
  | 35 => ⟨S64x128x4x64, .f32⟩
  | 36 => ⟨S8192x4x64, .f32⟩
  | 37 => ⟨S64x128x4x64, .f32⟩
  | 38 => ⟨S64x128x4x64, .f32⟩
  | 39 => ⟨S1x128x4x64, .f32⟩
  | 40 => ⟨S63x128x4x64, .f32⟩
  | 41 => ⟨S_, .f32⟩
  | 42 => ⟨S64x128x4x64, .f32⟩
  | 43 => ⟨S64x128x4x64, .f32⟩
  | 44 => ⟨S8192x4x64, .f32⟩
  | 45 => ⟨S8192x16x64, .f32⟩
  | 46 => ⟨S16x64x8192, .f32⟩
  | 47 => ⟨S16x64x8192, .f32⟩
  | 48 => ⟨S4x8192x64, .f32⟩
  | 49 => ⟨S4x8192x64, .f32⟩
  | _ => ⟨S8192x16x64, .f32⟩

abbrev hbmTy (i : Nat) : BufTy := match i / 128 with
  | 0 => hbmTy0_0 i
  | 1 => hbmTy0_1 i
  | _ => ⟨S8192x16x64, .f32⟩

abbrev bufTy : (tb : Table) → Fin (tcTables nBuf tb) → BufTy
  | .hbm, ⟨i, _⟩ => hbmTy i
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_call0_v0 : Ref sig .tc := ⟨.hbm, 65, rfl⟩
abbrev main_v49_1 : Ref sig .tc := ⟨.hbm, 66, rfl⟩
abbrev main_call0_v2 : Ref sig .tc := ⟨.hbm, 67, rfl⟩
abbrev main_v49_0 : Ref sig .tc := ⟨.hbm, 68, rfl⟩
abbrev main_call0_cst : Ref sig .tc := ⟨.hbm, 69, rfl⟩
abbrev main_v49_2 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_17 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_18 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_19 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_20 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_21 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_cst_22 : Ref sig .tc := ⟨.hbm, 140, rfl⟩
abbrev main_v106 : Ref sig .tc := ⟨.hbm, 141, rfl⟩
abbrev main_v107 : Ref sig .tc := ⟨.hbm, 142, rfl⟩
abbrev main_cst_23 : Ref sig .tc := ⟨.hbm, 143, rfl⟩
abbrev main_v108 : Ref sig .tc := ⟨.hbm, 144, rfl⟩
abbrev main_v109 : Ref sig .tc := ⟨.hbm, 145, rfl⟩
abbrev main_call1_cst : Ref sig .tc := ⟨.hbm, 146, rfl⟩
abbrev main_call1_v0 : Ref sig .tc := ⟨.hbm, 147, rfl⟩
abbrev main_v110 : Ref sig .tc := ⟨.hbm, 148, rfl⟩
abbrev main_cst_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_cst_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_cst_26 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .f32⟩
  | .hbm, ⟨4, _⟩ => ⟨S8192x2816, .f32⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1024x256, .f32⟩
  | .local _ .vmem, ⟨7, _⟩ => ⟨S1024x256, .f32⟩
  | .local _ .vmem, ⟨8, _⟩ => ⟨S1024x256, .f32⟩
  | .local _ .vmem, ⟨9, _⟩ => ⟨S1024x256, .f32⟩
  | .local _ .vmem, ⟨10, _⟩ => ⟨S1024x256, .bf16⟩
  | .local _ .vmem, ⟨11, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x1024, .f32⟩
  | .hbm, ⟨8, _⟩ => ⟨S2816x1024, .f32⟩
  | .hbm, ⟨9, _⟩ => ⟨S1024x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]
-- ==== Kernel3.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S256x1024, .bf16⟩
  | .local _ .vmem, ⟨3, _⟩ => ⟨S256x1024, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .bf16⟩
  | .hbm, ⟨28, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S2816x1024 : Shape := ⟨2, ![2816, 1024]⟩
abbrev S_ : Shape := ⟨0, ![]⟩
abbrev S8192x1024 : Shape := ⟨2, ![8192, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S_, .f32⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S1024x8192 : Shape := ⟨2, ![1024, 8192]⟩
abbrev S1024x1024 : Shape := ⟨2, ![1024, 1024]⟩
abbrev S8192x1024 : Shape := ⟨2, ![8192, 1024]⟩

abbrev nBuf : Space → Nat
  | .hbm => 4
  | .vmem => 8
  | .smem => 0
  | _ => 0

abbrev bufTy : (tb : Table) → Fin (tcTables nBuf tb) → BufTy
  | .hbm, ⟨0, _⟩ => ⟨S1024x8192, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S1024x8192 : Shape := ⟨2, ![1024, 8192]⟩
abbrev S1024x1024 : Shape := ⟨2, ![1024, 1024]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S1024x1024, .bf16⟩
  | .hbm, ⟨2, _⟩ => ⟨S8192x1024, .f32⟩
  | .hbm, ⟨3, _⟩ => ⟨S1024x8192, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S1024x8192 : Shape := ⟨2, ![1024, 8192]⟩
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S1024x8192 : Shape := ⟨2, ![1024, 8192]⟩
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S1024x8192, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1536x1024 : Shape := ⟨2, ![1536, 1024]⟩
abbrev S8192x1536 : Shape := ⟨2, ![8192, 1536]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1536, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1536x1024 : Shape := ⟨2, ![1536, 1024]⟩
abbrev S1024x1536 : Shape := ⟨2, ![1024, 1536]⟩
abbrev S8192x1536 : Shape := ⟨2, ![8192, 1536]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1536x1024, .bf16⟩
  | .hbm, ⟨2, _⟩ => ⟨S8192x1024, .f32⟩
  | .hbm, ⟨3, _⟩ => ⟨S1536x1024, .f32⟩
  | .hbm, ⟨4, _⟩ => ⟨S1024x1536, .f32⟩
  | .hbm, ⟨5, _⟩ => ⟨S8192x1536, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1536 : Shape := ⟨2, ![8192, 1536]⟩
abbrev S8192x1024 : Shape := ⟨2, ![8192, 1024]⟩
abbrev S1536x1024 : Shape := ⟨2, ![1536, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 11
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S1536x1024, .f32⟩
  | .hbm, ⟨9, _⟩ => ⟨S1024x1536, .f32⟩
  | .hbm, ⟨10, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S8192x1536 : Shape := ⟨2, ![8192, 1536]⟩
abbrev S1536x1024 : Shape := ⟨2, ![1536, 1024]⟩
abbrev S8192x1024 : Shape := ⟨2, ![8192, 1024]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1536 : Shape := ⟨2, ![8192, 1536]⟩
abbrev S1536x1024 : Shape := ⟨2, ![1536, 1024]⟩
abbrev S_ : Shape := ⟨0, ![]⟩
abbrev S8192x1024 : Shape := ⟨2, ![8192, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1536x1024, .bf16⟩
  | .hbm, ⟨2, _⟩ => ⟨S_, .f32⟩
  | .hbm, ⟨3, _⟩ => ⟨S8192x1024, .f32⟩
  | .hbm, ⟨4, _⟩ => ⟨S1536x1024, .f32⟩
  | .hbm, ⟨5, _⟩ => ⟨S1024x1536, .f32⟩
  | .hbm, ⟨6, _⟩ => ⟨S8192x1536, .f32⟩
  | .hbm, ⟨7, _⟩ => ⟨S8192x1536, .f32⟩
  | .hbm, ⟨8, _⟩ => ⟨S8192x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | .hbm, ⟨6, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel18.lean ====
abbrev S8192x3200 : Shape := ⟨2, ![8192, 3200]⟩
abbrev S8192x1024 : Shape := ⟨2, ![8192, 1024]⟩
abbrev S3200x1024 : Shape := ⟨2, ![3200, 1024]⟩
abbrev S1024x640 : Shape := ⟨2, ![1024, 640]⟩
abbrev S1024x1024 : Shape := ⟨2, ![1024, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S3200x1024, .f32⟩
  | .local _ .vmem, ⟨0, _⟩ => ⟨S1024x640, .bf16⟩
  | .local _ .vmem, ⟨1, _⟩ => ⟨S1024x640, .bf16⟩
  | .local _ .vmem, ⟨2, _⟩ => ⟨S1024x1024, .bf16⟩
  | .local _ .vmem, ⟨3, _⟩ => ⟨S1024x1024, .bf16⟩
  | .local _ .vmem, ⟨4, _⟩ => ⟨S640x1024, .f32⟩
  | .local _ .vmem, ⟨5, _⟩ => ⟨S640x1024, .f32⟩
  | .local _ .vmem, ⟨6, _⟩ => ⟨S640x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x3200 : Shape := ⟨2, ![8192, 3200]⟩
abbrev S8192x1024 : Shape := ⟨2, ![8192, 1024]⟩
abbrev S_ : Shape := ⟨0, ![]⟩
abbrev S3200x1024 : Shape := ⟨2, ![3200, 1024]⟩
abbrev S1024x3200 : Shape := ⟨2, ![1024, 3200]⟩

abbrev nBuf : Space → Nat
  | .hbm => 11
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S8192x1024, .bf16⟩
  | .hbm, ⟨2, _⟩ => ⟨S_, .f32⟩
  | .hbm, ⟨3, _⟩ => ⟨S3200x1024, .f32⟩
  | .hbm, ⟨4, _⟩ => ⟨S8192x1024, .f32⟩
  | .hbm, ⟨5, _⟩ => ⟨S1024x3200, .f32⟩
  | .hbm, ⟨6, _⟩ => ⟨S8192x3200, .f32⟩
  | .hbm, ⟨7, _⟩ => ⟨S8192x3200, .f32⟩
  | .hbm, ⟨8, _⟩ => ⟨S3200x1024, .f32⟩
  | .hbm, ⟨9, _⟩ => ⟨S1024x3200, .f32⟩
  | .hbm, ⟨10, _⟩ => ⟨S3200x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel19.lean ====
abbrev S8192x3200 : Shape := ⟨2, ![8192, 3200]⟩
abbrev S3200x1024 : Shape := ⟨2, ![3200, 1024]⟩
abbrev S8192x1024 : Shape := ⟨2, ![8192, 1024]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32_6 : BitVec 32 := 4#32
  let v11 : BitVec 1 := Scalar.cmpi .eq arg2 c4_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x3200 : Shape := ⟨2, ![8192, 3200]⟩
abbrev S3200x1024 : Shape := ⟨2, ![3200, 1024]⟩
abbrev S_ : Shape := ⟨0, ![]⟩
abbrev S8192x1024 : Shape := ⟨2, ![8192, 1024]⟩
abbrev S1024x3200 : Shape := ⟨2, ![1024, 3200]⟩

abbrev nBuf : Space → Nat
  | .hbm => 9
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S3200x1024, .bf16⟩
  | .hbm, ⟨2, _⟩ => ⟨S_, .f32⟩
  | .hbm, ⟨3, _⟩ => ⟨S8192x1024, .f32⟩
  | .hbm, ⟨4, _⟩ => ⟨S3200x1024, .f32⟩
  | .hbm, ⟨5, _⟩ => ⟨S1024x3200, .f32⟩
  | .hbm, ⟨6, _⟩ => ⟨S8192x3200, .f32⟩
  | .hbm, ⟨7, _⟩ => ⟨S8192x3200, .f32⟩
  | .hbm, ⟨8, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x256 : Shape := ⟨2, ![8192, 256]⟩
abbrev S256x1024 : Shape := ⟨2, ![256, 1024]⟩
abbrev S8192x1024 : Shape := ⟨2, ![8192, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S8192x1024, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x256 : Shape := ⟨2, ![8192, 256]⟩
abbrev S256x1024 : Shape := ⟨2, ![256, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x1024, .bf16⟩
  | .hbm, ⟨2, _⟩ => ⟨S256x1024, .f32⟩
  | .hbm, ⟨3, _⟩ => ⟨S8192x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel21.lean ====
abbrev S8192x256 : Shape := ⟨2, ![8192, 256]⟩
abbrev S8192x1024 : Shape := ⟨2, ![8192, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S256x1024, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v12 : BitVec 1 := Scalar.cmpi .eq arg2 c7_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.OneText.lean ====
/- The kernel's program is printed twice, once for machine floats and once for the reals. No operation was rewritten, so
   the two prints are one text: each kernel body, each launch and @main of the one IS the other's. What is proved of
   one print at every carrier therefore holds of the other. -/
module

public import proofs.«01_k».proof.Proof.Gen.Kernel
public import proofs.«01_k».proof.Proof.Gen.KernelIdeal

@[expose] public section

set_option maxHeartbeats 8000000

noncomputable section

namespace Cert.Proof.OneText

open Idealize.ShloMosaic Idealize.SL.Sem

variable {F : FTy → Type} [FloatOps F]

theorem k0_part1 : Cert.Kernel.k0_part1 (F := F) = Cert.KernelIdeal.k0_part1 (F := F) := by
  delta Cert.Kernel.k0_part1 Cert.KernelIdeal.k0_part1; rfl
theorem k0_part2 : Cert.Kernel.k0_part2 (F := F) = Cert.KernelIdeal.k0_part2 (F := F) := by
  delta Cert.Kernel.k0_part2 Cert.KernelIdeal.k0_part2; rfl
theorem k0_part3 : Cert.Kernel.k0_part3 (F := F) = Cert.KernelIdeal.k0_part3 (F := F) := by
  delta Cert.Kernel.k0_part3 Cert.KernelIdeal.k0_part3; rfl

/-- The forward call's body. -/
theorem cc0 : Cert.Kernel.cc0_swa_fwd (F := F) = Cert.KernelIdeal.cc0_swa_fwd (F := F) := by
  delta Cert.Kernel.cc0_swa_fwd Cert.KernelIdeal.cc0_swa_fwd
  rw [k0_part1, k0_part2, k0_part3]; rfl

theorem k1_part1 : Cert.Kernel.k1_part1 (F := F) = Cert.KernelIdeal.k1_part1 (F := F) := by
  delta Cert.Kernel.k1_part1 Cert.KernelIdeal.k1_part1; rfl
theorem k1_part2 : Cert.Kernel.k1_part2 (F := F) = Cert.KernelIdeal.k1_part2 (F := F) := by
  delta Cert.Kernel.k1_part2 Cert.KernelIdeal.k1_part2; rfl
theorem k1_part3 : Cert.Kernel.k1_part3 (F := F) = Cert.KernelIdeal.k1_part3 (F := F) := by
  delta Cert.Kernel.k1_part3 Cert.KernelIdeal.k1_part3; rfl
theorem k1_part4 : Cert.Kernel.k1_part4 (F := F) = Cert.KernelIdeal.k1_part4 (F := F) := by
  delta Cert.Kernel.k1_part4 Cert.KernelIdeal.k1_part4; rfl
theorem k1_part5 : Cert.Kernel.k1_part5 (F := F) = Cert.KernelIdeal.k1_part5 (F := F) := by
  delta Cert.Kernel.k1_part5 Cert.KernelIdeal.k1_part5; rfl
theorem k1_part6 : Cert.Kernel.k1_part6 (F := F) = Cert.KernelIdeal.k1_part6 (F := F) := by
  delta Cert.Kernel.k1_part6 Cert.KernelIdeal.k1_part6; rfl

/-- The backward call's body. -/
theorem cc1 : Cert.Kernel.cc1_swa_bwd (F := F) = Cert.KernelIdeal.cc1_swa_bwd (F := F) := by
  delta Cert.Kernel.cc1_swa_bwd Cert.KernelIdeal.cc1_swa_bwd
  rw [k1_part1, k1_part2, k1_part3, k1_part4, k1_part5, k1_part6]; rfl

/-- The bodies' table. -/
theorem defs₀ : Cert.Kernel.defs₀ (F := F) = Cert.KernelIdeal.defs₀ (F := F) := by
  delta Cert.Kernel.defs₀ Cert.KernelIdeal.defs₀
  refine congrArg Defs.onTc (funext fun ℓ => ?_)
  match ℓ with
  | ⟨0, _⟩ =>
    refine funext fun ts => ?_
    obtain ⟨t, s⟩ := ts
    dsimp only
    rw [cc0]
    rfl
  | ⟨1, _⟩ =>
    refine funext fun ts => ?_
    obtain ⟨t, s⟩ := ts
    dsimp only
    rw [cc1]
    rfl
  | ⟨_ + 2, h⟩ => exact absurd h (Nat.not_lt.2 (Nat.le_add_left _ _))

theorem pcfgs : Cert.Kernel.pcfgs (F := F) = Cert.KernelIdeal.pcfgs (F := F) := rfl

/-- The program's table: the bodies' and the two launches'. -/
theorem defs : Cert.Kernel.defs (F := F) = Cert.KernelIdeal.defs (F := F) := by
  delta Cert.Kernel.defs Cert.KernelIdeal.defs
  rw [defs₀]; rfl

theorem main : Cert.Kernel.main (F := F) = Cert.KernelIdeal.main (F := F) := by
  delta Cert.Kernel.main Cert.KernelIdeal.main; rfl

end Cert.Proof.OneText

end
-- ==== Proof.Blocks.lean ====
/-
  What one grid point of each kernel computes, as functions of the blocks its windows show it, over any element values.

  The forward kernel `swa_fwd` handles one group of four query heads and one block of 128 queries: it lays the four heads'
  queries side by side as 512 lanes, scores them against the 256 keys of the block's window, and leaves the attention's
  output and the logarithm of its normalizer.  The backward kernel `swa_bwd` recomputes the probabilities from that
  logarithm, leaves the query gradient, and adds its share to the key, value and sink gradients, which stay in place while
  the grid walks over one group's query blocks.
-/
module

public import proofs.«01_k».proof.Proof.Gen.KernelIdeal.Skeleton
public import Idealize.ShloMosaic.Lib.Pipeline.FrameBody
public import Idealize.ShloMosaic.Lib.VecWindow
public import Idealize.ShloMosaic.Lib.Pointwise

@[expose] public section

noncomputable section

namespace Cert.Proof.Swa

open Cert.KernelIdeal Cert.KernelIdeal.Gen
open Idealize.ShloMosaic

variable {F : FTy → Type} [FloatOps F]

/-! ### Pieces of a block -/

section Pieces
variable {e : EltTy}

/-- Heads 0 to 3 of a block of columns (64 features by 128 queries each). -/
abbrev colHead0 (x : Vec F S4x64x128 e) : Vec F S1x64x128 e := View.ld (Val := Elt F) x (Rect.unit ![0, 0, 0] S1x64x128.size inb_S4x64x128_S1x64x128_0_0_0)
abbrev colHead1 (x : Vec F S4x64x128 e) : Vec F S1x64x128 e := View.ld (Val := Elt F) x (Rect.unit ![1, 0, 0] S1x64x128.size inb_S4x64x128_S1x64x128_1_0_0)
abbrev colHead2 (x : Vec F S4x64x128 e) : Vec F S1x64x128 e := View.ld (Val := Elt F) x (Rect.unit ![2, 0, 0] S1x64x128.size inb_S4x64x128_S1x64x128_2_0_0)
abbrev colHead3 (x : Vec F S4x64x128 e) : Vec F S1x64x128 e := View.ld (Val := Elt F) x (Rect.unit ![3, 0, 0] S1x64x128.size inb_S4x64x128_S1x64x128_3_0_0)

/-- Heads 0 to 3 of a block of rows (128 queries by 64 features each). -/
abbrev rowHead0 (x : Vec F S4x128x64 e) : Vec F S1x128x64 e := View.ld (Val := Elt F) x (Rect.unit ![0, 0, 0] S1x128x64.size inb_S4x128x64_S1x128x64_0_0_0)
abbrev rowHead1 (x : Vec F S4x128x64 e) : Vec F S1x128x64 e := View.ld (Val := Elt F) x (Rect.unit ![1, 0, 0] S1x128x64.size inb_S4x128x64_S1x128x64_1_0_0)
abbrev rowHead2 (x : Vec F S4x128x64 e) : Vec F S1x128x64 e := View.ld (Val := Elt F) x (Rect.unit ![2, 0, 0] S1x128x64.size inb_S4x128x64_S1x128x64_2_0_0)
abbrev rowHead3 (x : Vec F S4x128x64 e) : Vec F S1x128x64 e := View.ld (Val := Elt F) x (Rect.unit ![3, 0, 0] S1x128x64.size inb_S4x128x64_S1x128x64_3_0_0)

/-- Heads 0 to 3 of a block holding one number per query. -/
abbrev laneHead0 (x : Vec F S4x1x128 e) : Vec F S1x1x128 e := View.ld (Val := Elt F) x (Rect.unit ![0, 0, 0] S1x1x128.size inb_S4x1x128_S1x1x128_0_0_0)
abbrev laneHead1 (x : Vec F S4x1x128 e) : Vec F S1x1x128 e := View.ld (Val := Elt F) x (Rect.unit ![1, 0, 0] S1x1x128.size inb_S4x1x128_S1x1x128_1_0_0)
abbrev laneHead2 (x : Vec F S4x1x128 e) : Vec F S1x1x128 e := View.ld (Val := Elt F) x (Rect.unit ![2, 0, 0] S1x1x128.size inb_S4x1x128_S1x1x128_2_0_0)
abbrev laneHead3 (x : Vec F S4x1x128 e) : Vec F S1x1x128 e := View.ld (Val := Elt F) x (Rect.unit ![3, 0, 0] S1x1x128.size inb_S4x1x128_S1x1x128_3_0_0)

end Pieces

/-- The 512 lanes of four heads put back as four blocks of 128 columns. -/
def spreadCols (v : FVec F S64x512 .f32) : Vec F S4x64x128 .f32 :=
  fun y => v (ix2 (n0 := 64) (n1 := 512) (y 1) ⟨128 * (y 0).val + (y 2).val, by
    have h0 : (y 0).val < 4 := (y 0).isLt
    have h2 : (y 2).val < 128 := (y 2).isLt
    omega⟩)

/-- The 512 lanes of four heads put back as four rows of 128 numbers. -/
def spreadLanes (v : FVec F S1x512 .f32) : Vec F S4x1x128 .f32 :=
  fun y => v (ix2 (n0 := 1) (n1 := 512) 0 ⟨128 * (y 0).val + (y 2).val, by
    have h0 : (y 0).val < 4 := (y 0).isLt
    have h2 : (y 2).val < 128 := (y 2).isLt
    omega⟩)

/-! ### The forward kernel's point -/

section Forward
variable (i : grid0.Coords) (x0 : Vec F S4x64x128 .bf16) (x1 : Vec F S1x8192x64 .bf16) (x2 : Vec F S1x64x64x128 .bf16) (x3 : Vec F S4x1x128 .f32)

/-- The running maximum of the scores and the sink, lane by lane. -/
def fMax : FVec F S1x512 .f32 :=
  k0_pay9 (k0_pay4 i) (k0_pay5 (colHead0 x0)) (k0_pay6 (colHead1 x0)) (colHead2 x0) (colHead3 x0) (laneHead0 x3) (laneHead1 x3) (laneHead2 x3) (laneHead3 x3)
    (View.ld (Val := Elt F) x1 (Rect.unit (s := S1x8192x64) (k0_off1 i) S1x256x64.size (k0_off1_inb i)))

/-- The normalizer, lane by lane. -/
def fSum : FVec F S1x512 .f32 :=
  k0_pay11 (k0_pay4 i) (k0_pay5 (colHead0 x0)) (k0_pay6 (colHead1 x0)) (colHead2 x0) (colHead3 x0) (laneHead0 x3) (laneHead1 x3) (laneHead2 x3) (laneHead3 x3)
    (View.ld (Val := Elt F) x1 (Rect.unit (s := S1x8192x64) (k0_off1 i) S1x256x64.size (k0_off1_inb i)))

/-- The unnormalized probabilities. -/
def fProb : FVec F S256x512 .bf16 :=
  k0_pay12 (k0_pay4 i) (k0_pay5 (colHead0 x0)) (k0_pay6 (colHead1 x0)) (colHead2 x0) (colHead3 x0) (laneHead0 x3) (laneHead1 x3) (laneHead2 x3) (laneHead3 x3)
    (View.ld (Val := Elt F) x1 (Rect.unit (s := S1x8192x64) (k0_off1 i) S1x256x64.size (k0_off1_inb i)))

/-- The attention's output, one lane per head and query. -/
def fOut : FVec F S64x512 .f32 :=
  k0_pay13 (fSum i x0 x1 x3) (fProb i x0 x1 x3)
    (View.ld (Val := Elt F) x2 (Rect.unit (s := S1x64x64x128) (k0_off2 i) S1x1x64x128.size (k0_off2_inb i)))
    (View.ld (Val := Elt F) x2 (Rect.unit (s := S1x64x64x128) (k0_off3 i) S1x1x64x128.size (k0_off3_inb i)))

/-- The logarithm of the normalizer of the scores as they are. -/
def fLse : FVec F S1x512 .f32 := k0_pay14 (fMax i x0 x1 x3) (fSum i x0 x1 x3)

end Forward

/-! ### The backward kernel's point -/

section Backward
variable (i : grid1.Coords) (x0 : Vec F S4x64x128 .bf16) (x1 : Vec F S4x128x64 .bf16) (x2 : Vec F S1x8192x64 .bf16) (x3 : Vec F S1x64x64x128 .bf16)
  (x4 : Vec F S1x8192x64 .bf16) (x5 : Vec F S4x1x128 .f32) (x6 : Vec F S4x64x128 .f32) (x7 : Vec F S4x128x64 .bf16) (x8 : Vec F S4x64x128 .bf16)
  (x9 : Vec F S4x1x128 .f32)

/-- The four heads' query columns, output-gradient columns, normalizer logarithms, sinks and output columns, side by side. -/
def bQcol : FVec F S64x512 .bf16 := k1_pay7 (k1_pay6 (colHead0 x0)) (colHead1 x0) (colHead2 x0) (colHead3 x0)
def bDoCol : FVec F S64x512 .bf16 := k1_pay8 (colHead0 x8) (colHead1 x8) (colHead2 x8) (colHead3 x8)
def bLse : FVec F S1x512 .f32 := k1_pay9 (laneHead0 x9) (laneHead1 x9) (laneHead2 x9) (laneHead3 x9)
def bSink : FVec F S1x512 .f32 := k1_pay11 (k1_pay10 (laneHead0 x5)) (laneHead1 x5) (laneHead2 x5) (laneHead3 x5)
def bOcol : FVec F S64x512 .f32 := k1_pay12 (colHead0 x6) (colHead1 x6) (colHead2 x6) (colHead3 x6)
/-- The four heads' query rows and output-gradient rows, one under the other. -/
def bQrow : FVec F S512x64 .bf16 := k1_pay13 (rowHead0 x1) (rowHead1 x1) (rowHead2 x1) (rowHead3 x1)
def bDoRow : FVec F S512x64 .bf16 := k1_pay14 (rowHead0 x7) (rowHead1 x7) (rowHead2 x7) (rowHead3 x7)

/-- The inner product of a query's output with its gradient. -/
def bDelta : FVec F S1x512 .f32 := k1_pay15 (bDoCol x8) (bOcol x6)

/-- The probabilities. -/
def bProb : FVec F S256x512 .f32 :=
  k1_pay16 (k1_pay5 i) (bQcol x0) (bLse x9) (View.ld (Val := Elt F) x2 (Rect.unit (s := S1x8192x64) (k1_off1 i) S1x256x64.size (k1_off1_inb i)))

/-- The gradient of the scores. -/
def bDs : FVec F S256x512 .bf16 :=
  k1_pay17 (k1_pay5 i) (bQcol x0) (bDoCol x8) (bLse x9) (bOcol x6)
    (View.ld (Val := Elt F) x2 (Rect.unit (s := S1x8192x64) (k1_off1 i) S1x256x64.size (k1_off1_inb i)))
    (View.ld (Val := Elt F) x4 (Rect.unit (s := S1x8192x64) (k1_off1 i) S1x256x64.size (k1_off1_inb i)))

/-- The query gradient. -/
def bDq : FVec F S64x512 .f32 :=
  k1_pay19 (bDs i x0 x2 x4 x6 x8 x9)
    (k1_pay18 (k1_pay5 i) (bQcol x0) (bDoCol x8) (bLse x9) (bOcol x6)
      (View.ld (Val := Elt F) x2 (Rect.unit (s := S1x8192x64) (k1_off1 i) S1x256x64.size (k1_off1_inb i)))
      (View.ld (Val := Elt F) x4 (Rect.unit (s := S1x8192x64) (k1_off1 i) S1x256x64.size (k1_off1_inb i)))
      (View.ld (Val := Elt F) x3 (Rect.unit (s := S1x64x64x128) (k1_off2 i) S1x1x64x128.size (k1_off2_inb i))))
    (View.ld (Val := Elt F) x3 (Rect.unit (s := S1x64x64x128) (k1_off3 i) S1x1x64x128.size (k1_off3_inb i)))

/-- The sink gradient's share, lane by lane. -/
def bDsink : FVec F S1x512 .f32 := k1_pay20 (bLse x9) (bSink x5) (bDelta x6 x8)

/-- The key gradient after the point's share is added to what was there (`a`): the 256 rows of the block's window change. -/
def addDk (a : Vec F S1x8192x64 .f32) : Vec F S1x8192x64 .f32 :=
  VecWindow.put a (k1_off1 i) S1x256x64.size
    (k1_pay30 (bQrow x1) (bDs i x0 x2 x4 x6 x8 x9) (View.ld (Val := Elt F) a (Rect.unit (s := S1x8192x64) (k1_off1 i) S1x256x64.size (k1_off1_inb i))))

/-- The value gradient likewise. -/
def addDv (a : Vec F S1x8192x64 .f32) : Vec F S1x8192x64 .f32 :=
  VecWindow.put a (k1_off1 i) S1x256x64.size
    (k1_pay1 (bDoRow x7) (bProb i x0 x2 x9) (View.ld (Val := Elt F) a (Rect.unit (s := S1x8192x64) (k1_off1 i) S1x256x64.size (k1_off1_inb i))))

/-- The sink gradient likewise, every lane of the four heads. -/
def addDsink (a : Vec F S4x1x128 .f32) : Vec F S4x1x128 .f32 := addf a (spreadLanes (bDsink x5 x6 x8 x9))

end Backward

end Cert.Proof.Swa
end
-- ==== Proof.FwdBody.lean ====
/-
  The forward kernel's body, run once on any staging buffers: from the four input blocks it leaves the output block and the
  normalizer's logarithm that Blocks.lean names, whatever the two output buffers held.
-/
module

public import proofs.«01_k».proof.Proof.Blocks
public import proofs.«01_k».proof.Proof.Gen.KernelIdeal.Launch
public import proofs.«01_k».proof.Proof.Gen.KernelIdeal.Points
public import Idealize.ShloMosaic.Lib.WholeRead
public import Idealize.ShloMosaic.Lib.Tactic

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A load of a whole buffer that holds the block `X` reads the piece of `X` under the load's rectangle. -/
theorem readAt_ld {sp : Space} {s : Shape} {e : EltTy} {m : Memref sig .tc sp s e} (h : m.IsWhole) (X : s.Idx → Elt F e) (r : Rect s) :
    View.readAt (Elt F) m.view r.toLoadRect (h.unread X) = View.ld (Val := Elt F) X r :=
  funext fun x => h.readAt_unread X _ x

/-- Four stores of one head's columns each leave the four heads' columns. -/
theorem read_cols (m : Memref sig .tc .vmem S4x64x128 .f32) (f : m.view.ty.Contents (Elt F)) (v : FVec F S64x512 .f32)
    (p0 p1 p2 p3 : Vec F S1x64x128 .f32)
    (h0 : p0 = shapeCast S1x64x128 (extractStridedSlice S64x128 ![0, 0] v slices_S64x512_o0_0_S64x128) shapeCasts_S64x128_S1x64x128)
    (h1 : p1 = shapeCast S1x64x128 (extractStridedSlice S64x128 ![0, 128] v slices_S64x512_o0_128_S64x128) shapeCasts_S64x128_S1x64x128)
    (h2 : p2 = shapeCast S1x64x128 (extractStridedSlice S64x128 ![0, 256] v slices_S64x512_o0_256_S64x128) shapeCasts_S64x128_S1x64x128)
    (h3 : p3 = shapeCast S1x64x128 (extractStridedSlice S64x128 ![0, 384] v slices_S64x512_o0_384_S64x128) shapeCasts_S64x128_S1x64x128) :
    m.view.read (Elt F) (m.view.writes (Elt F) f
      [⟨Rect.unit ![3, 0, 0] S1x64x128.size inb_S4x64x128_S1x64x128_3_0_0, p3⟩,
       ⟨Rect.unit ![2, 0, 0] S1x64x128.size inb_S4x64x128_S1x64x128_2_0_0, p2⟩,
       ⟨Rect.unit ![1, 0, 0] S1x64x128.size inb_S4x64x128_S1x64x128_1_0_0, p1⟩,
       ⟨Rect.unit ![0, 0, 0] S1x64x128.size inb_S4x64x128_S1x64x128_0_0_0, p0⟩]) = spreadCols v := by
  have hunit (g : ℕ) (hg : g < 4) (hs : S64x512.Slices ![0, 128 * g] S64x128) (hb : ∀ a, ![g, 0, 0] a + S1x64x128.size a ≤ S4x64x128.size a)
      (x : S1x64x128.Idx) :
      shapeCast S1x64x128 (extractStridedSlice S64x128 ![0, 128 * g] v hs) shapeCasts_S64x128_S1x64x128 x
        = spreadCols v ((Rect.unit (s := S4x64x128) ![g, 0, 0] S1x64x128.size hb).emb x) := by
    idx_vars x
    pointwise []
    unfold spreadCols
    refine congrArg v (congrArg₂ ix2 (Fin.ext ?_) (Fin.ext ?_))
    · show x1.val = 0 + 1 * x1.val
      omega
    · show 128 * g + x2.val = 128 * (g + 1 * x0.val) + (0 + 1 * x2.val)
      have := x0.isLt
      omega
  refine funext fun y => View.read_writes_apply_of_pieces (Val := Elt F) m.view f (spreadCols v) _ ?_ y ?_
  · intro p hp
    simp only [List.mem_cons, List.not_mem_nil, or_false] at hp
    rcases hp with rfl | rfl | rfl | rfl
    · exact fun x => (congrFun h3 x).trans (hunit 3 (by decide) _ inb_S4x64x128_S1x64x128_3_0_0 x)
    · exact fun x => (congrFun h2 x).trans (hunit 2 (by decide) _ inb_S4x64x128_S1x64x128_2_0_0 x)
    · exact fun x => (congrFun h1 x).trans (hunit 1 (by decide) _ inb_S4x64x128_S1x64x128_1_0_0 x)
    · exact fun x => (congrFun h0 x).trans (hunit 0 (by decide) _ inb_S4x64x128_S1x64x128_0_0_0 x)
  · exact View.cover_of_tiled _ (s := S4x64x128) ![1, 64, 128] (by sl_kernel_rfl) y

/-- Four stores of one head's lanes each leave the four heads' lanes. -/
theorem read_lanes (m : Memref sig .tc .vmem S4x1x128 .f32) (f : m.view.ty.Contents (Elt F)) (v : FVec F S1x512 .f32)
    (p0 p1 p2 p3 : Vec F S1x1x128 .f32)
    (h0 : p0 = shapeCast S1x1x128 (extractStridedSlice S1x128 ![0, 0] v slices_S1x512_o0_0_S1x128) shapeCasts_S1x128_S1x1x128)
    (h1 : p1 = shapeCast S1x1x128 (extractStridedSlice S1x128 ![0, 128] v slices_S1x512_o0_128_S1x128) shapeCasts_S1x128_S1x1x128)
    (h2 : p2 = shapeCast S1x1x128 (extractStridedSlice S1x128 ![0, 256] v slices_S1x512_o0_256_S1x128) shapeCasts_S1x128_S1x1x128)
    (h3 : p3 = shapeCast S1x1x128 (extractStridedSlice S1x128 ![0, 384] v slices_S1x512_o0_384_S1x128) shapeCasts_S1x128_S1x1x128) :
    m.view.read (Elt F) (m.view.writes (Elt F) f
      [⟨Rect.unit ![3, 0, 0] S1x1x128.size inb_S4x1x128_S1x1x128_3_0_0, p3⟩,
       ⟨Rect.unit ![2, 0, 0] S1x1x128.size inb_S4x1x128_S1x1x128_2_0_0, p2⟩,
       ⟨Rect.unit ![1, 0, 0] S1x1x128.size inb_S4x1x128_S1x1x128_1_0_0, p1⟩,
       ⟨Rect.unit ![0, 0, 0] S1x1x128.size inb_S4x1x128_S1x1x128_0_0_0, p0⟩]) = spreadLanes v := by
  have hunit (g : ℕ) (hg : g < 4) (hs : S1x512.Slices ![0, 128 * g] S1x128) (hb : ∀ a, ![g, 0, 0] a + S1x1x128.size a ≤ S4x1x128.size a)
      (x : S1x1x128.Idx) :
      shapeCast S1x1x128 (extractStridedSlice S1x128 ![0, 128 * g] v hs) shapeCasts_S1x128_S1x1x128 x
        = spreadLanes v ((Rect.unit (s := S4x1x128) ![g, 0, 0] S1x1x128.size hb).emb x) := by
    idx_vars x
    pointwise []
    unfold spreadLanes
    refine congrArg v (congrArg₂ ix2 (Fin.ext ?_) (Fin.ext ?_))
    · omega
    · show 128 * g + x2.val = 128 * (g + 1 * x0.val) + (0 + 1 * x2.val)
      have := x0.isLt
      omega
  refine funext fun y => View.read_writes_apply_of_pieces (Val := Elt F) m.view f (spreadLanes v) _ ?_ y ?_
  · intro p hp
    simp only [List.mem_cons, List.not_mem_nil, or_false] at hp
    rcases hp with rfl | rfl | rfl | rfl
    · exact fun x => (congrFun h3 x).trans (hunit 3 (by decide) _ inb_S4x1x128_S1x1x128_3_0_0 x)
    · exact fun x => (congrFun h2 x).trans (hunit 2 (by decide) _ inb_S4x1x128_S1x1x128_2_0_0 x)
    · exact fun x => (congrFun h1 x).trans (hunit 1 (by decide) _ inb_S4x1x128_S1x1x128_1_0_0 x)
    · exact fun x => (congrFun h0 x).trans (hunit 0 (by decide) _ inb_S4x1x128_S1x1x128_0_0_0 x)
  · exact View.cover_of_tiled _ (s := S4x1x128) ![1, 1, 128] (by sl_kernel_rfl) y

set_option maxHeartbeats 1000000 in
/-- The forward body on any six whole buffers. -/
theorem fwd_run (c : Dev nD) (i : grid0.Coords)
    (arg2 : Memref sig .tc .vmem S4x64x128 .bf16) (harg2 : arg2.IsWhole) (arg3 : Memref sig .tc .vmem S1x8192x64 .bf16) (harg3 : arg3.IsWhole)
    (arg4 : Memref sig .tc .vmem S1x64x64x128 .bf16) (harg4 : arg4.IsWhole) (arg5 : Memref sig .tc .vmem S4x1x128 .f32) (harg5 : arg5.IsWhole)
    (arg6 : Memref sig .tc .vmem S4x64x128 .f32) (harg6 : arg6.IsWhole) (arg7 : Memref sig .tc .vmem S4x1x128 .f32) (harg7 : arg7.IsWhole)
    (x0 : Vec F S4x64x128 .bf16) (x1 : Vec F S1x8192x64 .bf16) (x2 : Vec F S1x64x64x128 .bf16) (x3 : Vec F S4x1x128 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (spreadCols (fOut i x0 x1 x2 x3))
            ∗ owns (c : Thread nD τ) arg7 fullShare (spreadLanes (fLse i x0 x1 x3))) -∗ K ⟨⟩))
      ⊢ wp frame (wpE (defs₀ (F := F)) Variants.none c none) E
          (cc0_swa_fwd i arg2 harg2 arg3 harg3 arg4 harg4 arg5 harg5 arg6 harg6 arg7 harg7) K := by
  simp only [cc0_swa_fwd_eq_skeleton]; unfold cc0_swa_fwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; swap; · iexact H4
    ipureintro
    refine read_cols arg6 _ (fOut i x0 x1 x2 x3) _ _ _ _ ?_ ?_ ?_ ?_ <;> sl_unfold_run_names <;> simp only [readAt_ld] <;> rfl
  iexists _; isplitr; swap; · iexact H5
  ipureintro
  refine read_lanes arg7 _ (fLse i x0 x1 x3) _ _ _ _ ?_ ?_ ?_ ?_ <;> sl_unfold_run_names <;> simp only [readAt_ld] <;> rfl

end Cert.Proof.Swa
end
-- ==== Proof.FwdRegion.lean ====
/-
  The forward call, over any contents `V` of the device's buffers at its entry: what each staging buffer holds before and
  after the body at every grid point, and the body's obligation to the pipeline.
-/
module

public import proofs.«01_k».proof.Proof.FwdBody

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Dev nD → Valuation τ sig (Elt F))

/-- The block window `w` of the forward call shows at point `t`. -/
def fBlk (c : Dev nD) (w : Fin cfg0.W) (t : Fin cfg0.N) : Vec F ((cfg0.win w).xblock (cfg0.grid.coords t)) (cfg0.win w).elt :=
  ((cfg0.win w).blk t).view.read (Elt F) (V c (Pipeline.arrRef spec0 w))

/-- The forward call's proof data: inputs keep their blocks, outputs hold what the body computes from them. -/
def fDat (c : Dev nD) : Dat τ (Elt F) Unit ℕ (UR sig nD τ) ℕ cfg0 c where
  A w := V c (Pipeline.arrRef spec0 w)
  after w t := match w with
    | ⟨0, _⟩ => fBlk V c 0 t
    | ⟨1, _⟩ => fBlk V c 1 t
    | ⟨2, _⟩ => fBlk V c 2 t
    | ⟨3, _⟩ => fBlk V c 3 t
    | ⟨4, _⟩ => spreadCols (fOut (grid0.coords t) (fBlk V c 0 t) (fBlk V c 1 t) (fBlk V c 2 t) (fBlk V c 3 t))
    | ⟨5, _⟩ => spreadLanes (fLse (grid0.coords t) (fBlk V c 0 t) (fBlk V c 1 t) (fBlk V c 3 t))
  Φ _ := Pipeline.ΦA spec0 c
  q _ := fullShare
  owed _ := 0

theorem fDat_A (c : Dev nD) (w : Fin cfg0.W) : (fDat V c).A w = V c (Pipeline.arrRef spec0 w) := by dsimp only [fDat]
theorem fAfter0 (c : Dev nD) (t : Fin cfg0.N) : (fDat V c).after 0 t = fBlk V c 0 t := by dsimp only [fDat]
theorem fAfter1 (c : Dev nD) (t : Fin cfg0.N) : (fDat V c).after 1 t = fBlk V c 1 t := by dsimp only [fDat]
theorem fAfter2 (c : Dev nD) (t : Fin cfg0.N) : (fDat V c).after 2 t = fBlk V c 2 t := by dsimp only [fDat]
theorem fAfter3 (c : Dev nD) (t : Fin cfg0.N) : (fDat V c).after 3 t = fBlk V c 3 t := by dsimp only [fDat]
theorem fAfter4 (c : Dev nD) (t : Fin cfg0.N) : (fDat V c).after 4 t
    = spreadCols (fOut (grid0.coords t) (fBlk V c 0 t) (fBlk V c 1 t) (fBlk V c 2 t) (fBlk V c 3 t)) := by dsimp only [fDat]
theorem fAfter5 (c : Dev nD) (t : Fin cfg0.N) : (fDat V c).after 5 t
    = spreadLanes (fLse (grid0.coords t) (fBlk V c 0 t) (fBlk V c 1 t) (fBlk V c 3 t)) := by dsimp only [fDat]

theorem fBefore0 (c : Dev nD) (t : Fin cfg0.N) (d) : (fDat V c).before 0 t d = fBlk V c 0 t :=
  ((fDat V c).before_in_eq_fetched 0 rfl (fun _ => rfl) (fun _ _ _ => rfl)
    (fun t => by rw [fAfter0]; unfold Dat.blockOf fBlk; rw [fDat_A]; try rfl) t d).trans (by unfold Dat.fetched Dat.blockOf fBlk; rw [fDat_A]; try rfl)
theorem fBefore1 (c : Dev nD) (t : Fin cfg0.N) (d) : (fDat V c).before 1 t d = fBlk V c 1 t :=
  ((fDat V c).before_in_eq_fetched 1 rfl (fun _ => rfl) (fun _ _ _ => rfl)
    (fun t => by rw [fAfter1]; unfold Dat.blockOf fBlk; rw [fDat_A]; try rfl) t d).trans (by unfold Dat.fetched Dat.blockOf fBlk; rw [fDat_A]; try rfl)
theorem fBefore2 (c : Dev nD) (t : Fin cfg0.N) (d) : (fDat V c).before 2 t d = fBlk V c 2 t :=
  ((fDat V c).before_in_eq_fetched 2 rfl (fun _ => rfl) (fun _ _ _ => rfl)
    (fun t => by rw [fAfter2]; unfold Dat.blockOf fBlk; rw [fDat_A]; try rfl) t d).trans (by unfold Dat.fetched Dat.blockOf fBlk; rw [fDat_A]; try rfl)
theorem fBefore3 (c : Dev nD) (t : Fin cfg0.N) (d) : (fDat V c).before 3 t d = fBlk V c 3 t :=
  ((fDat V c).before_in_eq_fetched 3 rfl (fun _ => rfl) (fun _ _ _ => rfl)
    (fun t => by rw [fAfter3]; unfold Dat.blockOf fBlk; rw [fDat_A]; try rfl) t d).trans (by unfold Dat.fetched Dat.blockOf fBlk; rw [fDat_A]; try rfl)

/-- The body at any point, from what the pipeline hands it to what the proof data says it leaves. -/
theorem fSound (c : Dev nD) (t : Fin cfg0.N) :
    iprop((fDat V c).Φ t.castSucc ∗ (fDat V c).owesAt () t.castSucc
      ∗ (∃ d, owns (c : Thread nD τ) (st0_0 t) fullShare ((fDat V c).before 0 t d))
      ∗ (∃ d, owns (c : Thread nD τ) (st0_1 t) fullShare ((fDat V c).before 1 t d))
      ∗ (∃ d, owns (c : Thread nD τ) (st0_2 t) fullShare ((fDat V c).before 2 t d))
      ∗ (∃ d, owns (c : Thread nD τ) (st0_3 t) fullShare ((fDat V c).before 3 t d))
      ∗ (∃ d, owns (c : Thread nD τ) (st0_4 t) fullShare ((fDat V c).before 4 t d))
      ∗ (∃ d, owns (c : Thread nD τ) (st0_5 t) fullShare ((fDat V c).before 5 t d)))
    ⊢ wp frame (wpE (defs₀ (F := F)) Variants.none c none) Set.univ (bodyAt0 t) (fun _ =>
      iprop((fDat V c).Φ t.succ ∗ (fDat V c).owesAt () t.succ
      ∗ owns (c : Thread nD τ) (st0_0 t) fullShare ((fDat V c).after 0 t)
      ∗ owns (c : Thread nD τ) (st0_1 t) fullShare ((fDat V c).after 1 t)
      ∗ owns (c : Thread nD τ) (st0_2 t) fullShare ((fDat V c).after 2 t)
      ∗ owns (c : Thread nD τ) (st0_3 t) fullShare ((fDat V c).after 3 t)
      ∗ owns (c : Thread nD τ) (st0_4 t) fullShare ((fDat V c).after 4 t)
      ∗ owns (c : Thread nD τ) (st0_5 t) fullShare ((fDat V c).after 5 t))) := by
  unfold bodyAt0
  simp only [fBefore0, fBefore1, fBefore2, fBefore3]
  rw [show (fDat V c).Φ t.succ = (fDat V c).Φ t.castSucc from rfl,
    show (fDat V c).owesAt () t.succ = (fDat V c).owesAt () t.castSucc from rfl,
    fAfter0, fAfter1, fAfter2, fAfter3, fAfter4, fAfter5]
  iintro ⟨HΦ, Ho, ⟨%d0, H0⟩, ⟨%d1, H1⟩, ⟨%d2, H2⟩, ⟨%d3, H3⟩, ⟨%d4, H4⟩, ⟨%d5, H5⟩⟩
  iapply (fwd_run c (grid0.coords t) _ _ _ _ _ _ _ _ _ _ _ _ (fBlk V c 0 t) (fBlk V c 1 t) (fBlk V c 2 t) (fBlk V c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The forward call's obligation to the pipeline. -/
theorem fObligation (c : Dev nD) : BodyObligation (fDat V c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (fSound V c t) rfl .rfl fun _ => .rfl

end Cert.Proof.Swa
end
-- ==== Proof.Offsets.lean ====
/-
  Where a point's loads and stores fall, in closed form: the block `i` of 128 queries sees the 256 keys that start 128 rows
  before its own (at row 0 for the first block).
-/
module

public import proofs.«01_k».proof.Proof.Gen.KernelIdeal.Skeleton
public import Idealize.ShloMosaic.Lib.Exec

@[expose] public section

namespace Cert.Proof.Swa

open Cert.KernelIdeal Cert.KernelIdeal.Gen
open Idealize.ShloMosaic

/-- The window's first row, out of the block's number. -/
theorem row_eq : ∀ n : Fin 64, (Scalar.indexCast (Scalar.muli (Scalar.maxsi (Scalar.subi (BitVec.ofNat 32 n.val) 1#32) 0#32) 128#32)).toNat = 128 * (n.val - 1) := by
  decide +kernel

/-- The window's first tile. -/
theorem tile_eq : ∀ n : Fin 64, (Scalar.indexCast (Scalar.maxsi (Scalar.subi (BitVec.ofNat 32 n.val) 1#32) 0#32)).toNat = n.val - 1 := by
  decide +kernel

/-- The window's second tile. -/
theorem tile_succ_eq : ∀ n : Fin 64, (Scalar.indexCast (Scalar.addi (Scalar.maxsi (Scalar.subi (BitVec.ofNat 32 n.val) 1#32) 0#32) 1#32)).toNat = n.val - 1 + 1 := by
  decide +kernel

theorem k0_off1_eq (i : grid0.Coords) : k0_off1 i = ![0, 128 * ((i 1).val - 1), 0] :=
  congrArg (fun n : ℕ => ![0, n, 0]) (row_eq (i 1))
theorem k0_off2_eq (i : grid0.Coords) : k0_off2 i = ![0, (i 1).val - 1, 0, 0] :=
  congrArg (fun n : ℕ => ![0, n, 0, 0]) (tile_eq (i 1))
theorem k0_off3_eq (i : grid0.Coords) : k0_off3 i = ![0, (i 1).val - 1 + 1, 0, 0] :=
  congrArg (fun n : ℕ => ![0, n, 0, 0]) (tile_succ_eq (i 1))
theorem k1_off1_eq (i : grid1.Coords) : k1_off1 i = ![0, 128 * ((i 1).val - 1), 0] :=
  congrArg (fun n : ℕ => ![0, n, 0]) (row_eq (i 1))
theorem k1_off2_eq (i : grid1.Coords) : k1_off2 i = ![0, (i 1).val - 1, 0, 0] :=
  congrArg (fun n : ℕ => ![0, n, 0, 0]) (tile_eq (i 1))
theorem k1_off3_eq (i : grid1.Coords) : k1_off3 i = ![0, (i 1).val - 1 + 1, 0, 0] :=
  congrArg (fun n : ℕ => ![0, n, 0, 0]) (tile_succ_eq (i 1))

instance (i : grid1.Coords) : ClosedOff (k1_off1 i) := ⟨![0, 128 * ((i 1).val - 1), 0], k1_off1_eq i⟩

/-- Whether a point is the first of its group, as the kernel decides it. -/
theorem first_iff : ∀ n : Fin 64, Scalar.cmpi .ne (Scalar.extui (Scalar.cmpi .eq (BitVec.ofNat 32 n.val) 0#32)) 0#32 = 1#1 ↔ n.val = 0 := by
  decide +kernel

end Cert.Proof.Swa
end
-- ==== Proof.BwdStores.lean ====
/-
  What the backward kernel's stores leave in the three accumulated gradients.
-/
module

public import proofs.«01_k».proof.Proof.FwdBody
public import proofs.«01_k».proof.Proof.Offsets
public import proofs.«01_k».proof.Proof.Gen.KernelIdeal.Launch
public import proofs.«01_k».proof.Proof.Gen.KernelIdeal.Points
public import Idealize.ShloMosaic.Lib.WholeRead
public import Idealize.ShloMosaic.Lib.Tactic

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Four stores, one per head's lanes, over any earlier stores leave what the four payloads agree on. -/
theorem read_heads (m : Memref sig .tc .vmem S4x1x128 .f32) (f : m.view.ty.Contents (Elt F)) (L : List (View.Piece (Elt F) S4x1x128 .f32)) (G : Vec F S4x1x128 .f32)
    (p0 p1 p2 p3 : Vec F S1x1x128 .f32)
    (h0 : ∀ x, p0 x = G ((Rect.unit (s := S4x1x128) ![0, 0, 0] S1x1x128.size inb_S4x1x128_S1x1x128_0_0_0).emb x))
    (h1 : ∀ x, p1 x = G ((Rect.unit (s := S4x1x128) ![1, 0, 0] S1x1x128.size inb_S4x1x128_S1x1x128_1_0_0).emb x))
    (h2 : ∀ x, p2 x = G ((Rect.unit (s := S4x1x128) ![2, 0, 0] S1x1x128.size inb_S4x1x128_S1x1x128_2_0_0).emb x))
    (h3 : ∀ x, p3 x = G ((Rect.unit (s := S4x1x128) ![3, 0, 0] S1x1x128.size inb_S4x1x128_S1x1x128_3_0_0).emb x)) :
    m.view.read (Elt F) (m.view.writes (Elt F) f
      (⟨Rect.unit ![3, 0, 0] S1x1x128.size inb_S4x1x128_S1x1x128_3_0_0, p3⟩ ::
       ⟨Rect.unit ![2, 0, 0] S1x1x128.size inb_S4x1x128_S1x1x128_2_0_0, p2⟩ ::
       ⟨Rect.unit ![1, 0, 0] S1x1x128.size inb_S4x1x128_S1x1x128_1_0_0, p1⟩ ::
       ⟨Rect.unit ![0, 0, 0] S1x1x128.size inb_S4x1x128_S1x1x128_0_0_0, p0⟩ :: L)) = G := by
  refine funext fun y => View.read_writes_apply_of_pieces (Val := Elt F) m.view (m.view.writes (Elt F) f L) G
    [⟨Rect.unit ![3, 0, 0] S1x1x128.size inb_S4x1x128_S1x1x128_3_0_0, p3⟩,
     ⟨Rect.unit ![2, 0, 0] S1x1x128.size inb_S4x1x128_S1x1x128_2_0_0, p2⟩,
     ⟨Rect.unit ![1, 0, 0] S1x1x128.size inb_S4x1x128_S1x1x128_1_0_0, p1⟩,
     ⟨Rect.unit ![0, 0, 0] S1x1x128.size inb_S4x1x128_S1x1x128_0_0_0, p0⟩] ?_ y ?_
  · intro p hp
    simp only [List.mem_cons, List.not_mem_nil, or_false] at hp
    rcases hp with rfl | rfl | rfl | rfl
    exacts [h3, h2, h1, h0]
  · exact View.cover_of_tiled _ (s := S4x1x128) ![1, 1, 128] (by sl_kernel_rfl) y

/-- A head's lanes after the point's share is added: what the four stores carry. -/
theorem head_add (g : ℕ) (hg : g < 4) (a : Vec F S4x1x128 .f32) (v : FVec F S1x512 .f32) (hs : S1x512.Slices ![0, 128 * g] S1x128)
    (hb : ∀ a, ![g, 0, 0] a + S1x1x128.size a ≤ S4x1x128.size a) (x : S1x1x128.Idx) :
    shapeCast S1x1x128 (addf (shapeCast S1x128 (View.ld (Val := Elt F) a (Rect.unit (s := S4x1x128) ![g, 0, 0] S1x1x128.size hb)) shapeCasts_S1x1x128_S1x128)
        (extractStridedSlice S1x128 ![0, 128 * g] v hs)) shapeCasts_S1x128_S1x1x128 x
      = addf a (spreadLanes v) ((Rect.unit (s := S4x1x128) ![g, 0, 0] S1x1x128.size hb).emb x) := by
  idx_vars x
  pointwise []
  have e : (Rect.unit (s := S4x1x128) ![g, 0, 0] ![1, 1, 128] hb).emb (ix3 x0 x1 x2) = ix3 (n0 := 4) (n1 := 1) (n2 := 128) ⟨g, hg⟩ 0 x2 := by
    funext b
    match b with
    | ⟨0, _⟩ => exact Fin.ext (by show g + 1 * x0.val = g; omega)
    | ⟨1, _⟩ => exact Fin.ext (by show 0 + 1 * x1.val = 0; omega)
    | ⟨2, _⟩ => exact Fin.ext (by show 0 + 1 * x2.val = x2.val; omega)
  rw [e]
  rfl

/-- A load after one store of the whole buffer reads the stored block. -/
theorem readAt_whole {sp : Space} {s : Shape} {e : EltTy} (v : View sig .tc sp s e) (f : v.ty.Contents (Elt F)) {off off' size : Fin s.rank → ℕ} (inb : ∀ a, off a + s.size a ≤ s.size a)
    (inb' : ∀ a, off' a + size a ≤ s.size a) (w : (Rect.unit off s.size inb).shape.Idx → Elt F e) :
    v.readAt (Elt F) (Rect.unit off' size inb').toLoadRect (v.writes (Elt F) f [⟨Rect.unit off s.size inb, w⟩]) = View.ld (Val := Elt F) (S := s) w (Rect.unit off' size inb') :=
  funext fun _ => congrFun (View.read_writes_full v f inb w []) _

/-- A load of one head's lanes does not see a store of another's. -/
theorem readAt_miss (v : View sig .tc .vmem S4x1x128 .f32) (f : v.ty.Contents (Elt F)) (g g' : ℕ) (hg : g ≠ g') (hb : ∀ a, ![g, 0, 0] a + ![1, 1, 128] a ≤ S4x1x128.size a)
    (hb' : ∀ a, ![g', 0, 0] a + ![1, 1, 128] a ≤ S4x1x128.size a) (p : (Rect.unit (s := S4x1x128) ![g', 0, 0] ![1, 1, 128] hb').shape.Idx → Elt F .f32)
    (L : List (View.Piece (Elt F) S4x1x128 .f32)) :
    v.readAt (Elt F) (Rect.unit (s := S4x1x128) ![g, 0, 0] ![1, 1, 128] hb).toLoadRect (v.writes (Elt F) f (⟨Rect.unit ![g', 0, 0] ![1, 1, 128] hb', p⟩ :: L))
      = v.readAt (Elt F) (Rect.unit (s := S4x1x128) ![g, 0, 0] ![1, 1, 128] hb).toLoadRect (v.writes (Elt F) f L) :=
  funext fun x => View.read_writes_cons_unit_of_not_mem v f hb' p L _ rfl 0 (by
    have e : (((Rect.unit (s := S4x1x128) ![g, 0, 0] ![1, 1, 128] hb).toLoadRect.idx x 0).val : ℕ) = g + 1 * (x 0).val := rfl
    have hx : (x 0).val < 1 := (x 0).isLt
    rw [e]
    show g + 1 * (x 0).val < g' ∨ g' + 1 ≤ g + 1 * (x 0).val
    omega)

end Cert.Proof.Swa
end
-- ==== Proof.BwdBody.lean ====
/-
  The backward kernel's body, run on any staging buffers: at the first query block of a group, where it clears the three
  gradients it accumulates, and at a later one, where it adds to what they hold.
-/
module

public import proofs.«01_k».proof.Proof.BwdStores
public import proofs.«01_k».proof.Proof.Gen.KernelIdeal.Launch
public import proofs.«01_k».proof.Proof.Gen.KernelIdeal.Points
public import Idealize.ShloMosaic.Lib.WholeRead
public import Idealize.ShloMosaic.Lib.Tactic

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem bwd_next (c : Dev nD) (i : grid1.Coords)
    (arg2 : Memref sig .tc .vmem S4x64x128 .bf16) (harg2 : arg2.IsWhole)
    (arg3 : Memref sig .tc .vmem S4x128x64 .bf16) (harg3 : arg3.IsWhole)
    (arg4 : Memref sig .tc .vmem S1x8192x64 .bf16) (harg4 : arg4.IsWhole)
    (arg5 : Memref sig .tc .vmem S1x64x64x128 .bf16) (harg5 : arg5.IsWhole)
    (arg6 : Memref sig .tc .vmem S1x8192x64 .bf16) (harg6 : arg6.IsWhole)
    (arg7 : Memref sig .tc .vmem S4x1x128 .f32) (harg7 : arg7.IsWhole)
    (arg8 : Memref sig .tc .vmem S4x64x128 .f32) (harg8 : arg8.IsWhole)
    (arg9 : Memref sig .tc .vmem S4x128x64 .bf16) (harg9 : arg9.IsWhole)
    (arg10 : Memref sig .tc .vmem S4x64x128 .bf16) (harg10 : arg10.IsWhole)
    (arg11 : Memref sig .tc .vmem S4x1x128 .f32) (harg11 : arg11.IsWhole)
    (arg12 : Memref sig .tc .vmem S4x64x128 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S4x1x128 .f32) (harg15 : arg15.IsWhole)
    (hc : ¬ Scalar.cmpi .ne (Scalar.extui (Scalar.cmpi .eq (BitVec.ofNat 32 (i 1).val) 0#32)) 0#32 = 1#1)
    (x0 : Vec F S4x64x128 .bf16) (x1 : Vec F S4x128x64 .bf16) (x2 : Vec F S1x8192x64 .bf16) (x3 : Vec F S1x64x64x128 .bf16) (x4 : Vec F S1x8192x64 .bf16) (x5 : Vec F S4x1x128 .f32) (x6 : Vec F S4x64x128 .f32) (x7 : Vec F S4x128x64 .bf16) (x8 : Vec F S4x64x128 .bf16) (x9 : Vec F S4x1x128 .f32)
    (a11 : Vec F S1x8192x64 .f32) (a12 : Vec F S1x8192x64 .f32) (a13 : Vec F S4x1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare a11 ∗ owns (c : Thread nD τ) arg14 fullShare a12 ∗ owns (c : Thread nD τ) arg15 fullShare a13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (spreadCols (bDq i x0 x2 x3 x4 x6 x8 x9)) ∗ owns (c : Thread nD τ) arg13 fullShare (addDk i x0 x1 x2 x4 x6 x8 x9 a11) ∗ owns (c : Thread nD τ) arg14 fullShare (addDv i x0 x2 x7 x9 a12) ∗ owns (c : Thread nD τ) arg15 fullShare (addDsink x5 x6 x8 x9 a13)) -∗ K ⟨⟩))
      ⊢ wp frame (wpE (defs₀ (F := F)) Variants.none c none) E
          (cc1_swa_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_swa_bwd_eq_skeleton]; unfold cc1_swa_bwd_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hf12; obtain rfl := harg15.eq_unread hf13
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine read_cols arg12 _ (bDq i x0 x2 x3 x4 x6 x8 x9) _ _ _ _ ?_ ?_ ?_ ?_ <;> sl_unfold_run_names <;> simp only [readAt_ld] <;> rfl
  isplitl [H11]
  · iexists _; isplitr; swap; · iexact H11
    ipureintro
    sl_unfold_run_names
    simp only [readAt_ld]
    refine (View.read_writes_cons_put arg13.view _ _ _ _ rfl).trans ?_
    rw [View.writes_nil, harg13.read_unread]
    rfl
  isplitl [H12]
  · iexists _; isplitr; swap; · iexact H12
    ipureintro
    sl_unfold_run_names
    simp only [readAt_ld]
    refine (View.read_writes_cons_put arg14.view _ _ _ _ rfl).trans ?_
    rw [View.writes_nil, harg14.read_unread]
    rfl
  iexists _; isplitr; swap; · iexact H13
  ipureintro
  sl_unfold_run_names
  simp only [readAt_ld]
  refine read_heads arg15 _ _ (addDsink x5 x6 x8 x9 a13) _ _ _ _ ?_ ?_ ?_ ?_
  · exact head_add 0 (by decide) a13 (bDsink x5 x6 x8 x9) slices_S1x512_o0_0_S1x128 inb_S4x1x128_S1x1x128_0_0_0
  · exact head_add 1 (by decide) a13 (bDsink x5 x6 x8 x9) slices_S1x512_o0_128_S1x128 inb_S4x1x128_S1x1x128_1_0_0
  · exact head_add 2 (by decide) a13 (bDsink x5 x6 x8 x9) slices_S1x512_o0_256_S1x128 inb_S4x1x128_S1x1x128_2_0_0
  · exact head_add 3 (by decide) a13 (bDsink x5 x6 x8 x9) slices_S1x512_o0_384_S1x128 inb_S4x1x128_S1x1x128_3_0_0

end Cert.Proof.Swa
end
-- ==== Proof.BwdFirst.lean ====
/-
  The backward kernel's body, run on any staging buffers: at the first query block of a group, where it clears the three
  gradients it accumulates, and at a later one, where it adds to what they hold.
-/
module

public import proofs.«01_k».proof.Proof.BwdStores
public import proofs.«01_k».proof.Proof.Gen.KernelIdeal.Launch
public import proofs.«01_k».proof.Proof.Gen.KernelIdeal.Points
public import Idealize.ShloMosaic.Lib.WholeRead
public import Idealize.ShloMosaic.Lib.Tactic

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
theorem bwd_first (c : Dev nD) (i : grid1.Coords)
    (arg2 : Memref sig .tc .vmem S4x64x128 .bf16) (harg2 : arg2.IsWhole)
    (arg3 : Memref sig .tc .vmem S4x128x64 .bf16) (harg3 : arg3.IsWhole)
    (arg4 : Memref sig .tc .vmem S1x8192x64 .bf16) (harg4 : arg4.IsWhole)
    (arg5 : Memref sig .tc .vmem S1x64x64x128 .bf16) (harg5 : arg5.IsWhole)
    (arg6 : Memref sig .tc .vmem S1x8192x64 .bf16) (harg6 : arg6.IsWhole)
    (arg7 : Memref sig .tc .vmem S4x1x128 .f32) (harg7 : arg7.IsWhole)
    (arg8 : Memref sig .tc .vmem S4x64x128 .f32) (harg8 : arg8.IsWhole)
    (arg9 : Memref sig .tc .vmem S4x128x64 .bf16) (harg9 : arg9.IsWhole)
    (arg10 : Memref sig .tc .vmem S4x64x128 .bf16) (harg10 : arg10.IsWhole)
    (arg11 : Memref sig .tc .vmem S4x1x128 .f32) (harg11 : arg11.IsWhole)
    (arg12 : Memref sig .tc .vmem S4x64x128 .f32) (harg12 : arg12.IsWhole)
    (arg13 : Memref sig .tc .vmem S1x8192x64 .f32) (harg13 : arg13.IsWhole)
    (arg14 : Memref sig .tc .vmem S1x8192x64 .f32) (harg14 : arg14.IsWhole)
    (arg15 : Memref sig .tc .vmem S4x1x128 .f32) (harg15 : arg15.IsWhole)
    (hc : Scalar.cmpi .ne (Scalar.extui (Scalar.cmpi .eq (BitVec.ofNat 32 (i 1).val) 0#32)) 0#32 = 1#1)
    (x0 : Vec F S4x64x128 .bf16) (x1 : Vec F S4x128x64 .bf16) (x2 : Vec F S1x8192x64 .bf16) (x3 : Vec F S1x64x64x128 .bf16) (x4 : Vec F S1x8192x64 .bf16) (x5 : Vec F S4x1x128 .f32) (x6 : Vec F S4x64x128 .f32) (x7 : Vec F S4x128x64 .bf16) (x8 : Vec F S4x64x128 .bf16) (x9 : Vec F S4x1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare (spreadCols (bDq i x0 x2 x3 x4 x6 x8 x9)) ∗ owns (c : Thread nD τ) arg13 fullShare (addDk i x0 x1 x2 x4 x6 x8 x9 (k1_pay2 (F := F))) ∗ owns (c : Thread nD τ) arg14 fullShare (addDv i x0 x2 x7 x9 (k1_pay3 (F := F))) ∗ owns (c : Thread nD τ) arg15 fullShare (addDsink x5 x6 x8 x9 (k1_pay4 (F := F)))) -∗ K ⟨⟩))
      ⊢ wp frame (wpE (defs₀ (F := F)) Variants.none c none) E
          (cc1_swa_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc1_swa_bwd_eq_skeleton]; unfold cc1_swa_bwd_skel
  simp only [k1_part1_eq_skeleton, k1_part2_eq_skeleton, k1_part3_eq_skeleton, k1_part4_eq_skeleton, k1_part5_eq_skeleton, k1_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap; · iexact H10
    ipureintro
    refine read_cols arg12 _ (bDq i x0 x2 x3 x4 x6 x8 x9) _ _ _ _ ?_ ?_ ?_ ?_ <;> sl_unfold_run_names <;> simp only [readAt_ld] <;> rfl
  isplitl [H11]
  · iexists _; isplitr; swap; · iexact H11
    ipureintro
    sl_unfold_run_names
    simp only [readAt_ld]
    rw [readAt_whole]
    refine (View.read_writes_cons_put arg13.view _ _ _ _ rfl).trans ?_
    rw [View.read_writes_full]
    rfl
  isplitl [H12]
  · iexists _; isplitr; swap; · iexact H12
    ipureintro
    sl_unfold_run_names
    simp only [readAt_ld]
    rw [readAt_whole]
    refine (View.read_writes_cons_put arg14.view _ _ _ _ rfl).trans ?_
    rw [View.read_writes_full]
    rfl
  iexists _; isplitr; swap; · iexact H13
  ipureintro
  sl_unfold_run_names
  simp (disch := decide) only [readAt_ld, View.readCov, readAt_miss, readAt_whole]
  refine read_heads arg15 _ _ (addDsink x5 x6 x8 x9 k1_pay4) _ _ _ _ ?_ ?_ ?_ ?_
  · exact fun x => (congrArg (fun z => k1_pay22 _ _ _ z x) (readAt_whole _ _ _ _ _)).trans
      (head_add 0 (by decide) k1_pay4 (bDsink x5 x6 x8 x9) slices_S1x512_o0_0_S1x128 inb_S4x1x128_S1x1x128_0_0_0 x)
  · exact fun x => (congrArg (fun z => k1_pay25 (k1_pay24 _ _ _ z) x) (readAt_whole _ _ _ _ _)).trans
      (head_add 1 (by decide) k1_pay4 (bDsink x5 x6 x8 x9) slices_S1x512_o0_128_S1x128 inb_S4x1x128_S1x1x128_1_0_0 x)
  · exact fun x => (congrArg (fun z => k1_pay27 _ z x) (readAt_whole _ _ _ _ _)).trans
      (head_add 2 (by decide) k1_pay4 (bDsink x5 x6 x8 x9) slices_S1x512_o0_256_S1x128 inb_S4x1x128_S1x1x128_2_0_0 x)
  · exact fun x => (congrArg (fun z => k1_pay29 _ z x) (readAt_whole _ _ _ _ _)).trans
      (head_add 3 (by decide) k1_pay4 (bDsink x5 x6 x8 x9) slices_S1x512_o0_384_S1x128 inb_S4x1x128_S1x1x128_3_0_0 x)

end Cert.Proof.Swa
end
-- ==== Proof.BwdRegion.lean ====
/-
  The backward call, over any contents `V` of the device's buffers at its entry: what each staging buffer holds before and
  after the body at every grid point, and the body's obligation to the pipeline.  The key, value and sink gradients of one
  group stay in their buffers over the group's 64 query blocks: the first block starts from zeros, every later one adds to
  what the block before it left.
-/
module

public import proofs.«01_k».proof.Proof.BwdBody
public import proofs.«01_k».proof.Proof.BwdFirst

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (V : Dev nD → Valuation τ sig (Elt F))

/-- The block window `w` of the backward call shows at point `t`. -/
def bBlk (c : Dev nD) (w : Fin cfg1.W) (t : Fin cfg1.N) : Vec F ((cfg1.win w).xblock (cfg1.grid.coords t)) (cfg1.win w).elt :=
  ((cfg1.win w).blk t).view.read (Elt F) (V c (Pipeline.arrRef spec1 w))

/-- A quantity kept over the points of one group: it restarts from `z` at the group's first point, and every point applies
    its step `g`. -/
def kept {α : Type} (z : α) (g : Fin cfg1.N → α → α) : (n : ℕ) → n < cfg1.N → α
  | 0, h => g ⟨0, h⟩ z
  | n + 1, h => g ⟨n + 1, h⟩ (if (n + 1) % 64 = 0 then z else kept z g n (Nat.lt_of_succ_lt h))

theorem kept_first {α : Type} (z : α) (g : Fin cfg1.N → α → α) (t : Fin cfg1.N) (h : t.val % 64 = 0) :
    kept z g t.val t.isLt = g t z := by
  obtain ⟨n, hn⟩ := t
  cases n with
  | zero => rfl
  | succ n => simp only [kept]; rw [if_pos h]

theorem kept_next {α : Type} (z : α) (g : Fin cfg1.N → α → α) (t : Fin cfg1.N) (h : ¬ t.val % 64 = 0) :
    kept z g t.val t.isLt = g t (kept z g (t.val - 1) (Nat.lt_of_le_of_lt (Nat.sub_le _ _) t.isLt)) := by
  obtain ⟨n, hn⟩ := t
  cases n with
  | zero => exact absurd rfl h
  | succ n => simp only [kept]; rw [if_neg h]; rfl

/-- One point's step of the three kept gradients. -/
def dkStep (c : Dev nD) (t : Fin cfg1.N) : Vec F S1x8192x64 .f32 → Vec F S1x8192x64 .f32 :=
  addDk (grid1.coords t) (bBlk V c 0 t) (bBlk V c 1 t) (bBlk V c 2 t) (bBlk V c 4 t) (bBlk V c 6 t) (bBlk V c 8 t) (bBlk V c 9 t)
def dvStep (c : Dev nD) (t : Fin cfg1.N) : Vec F S1x8192x64 .f32 → Vec F S1x8192x64 .f32 :=
  addDv (grid1.coords t) (bBlk V c 0 t) (bBlk V c 2 t) (bBlk V c 7 t) (bBlk V c 9 t)
def dsinkStep (c : Dev nD) (t : Fin cfg1.N) : Vec F S4x1x128 .f32 → Vec F S4x1x128 .f32 :=
  addDsink (bBlk V c 5 t) (bBlk V c 6 t) (bBlk V c 8 t) (bBlk V c 9 t)

/-- The backward call's proof data: inputs keep their blocks, the query gradient holds its block, and the three kept
    gradients what the group's points so far have added. -/
def bDat (c : Dev nD) : Dat τ (Elt F) Unit ℕ (UR sig nD τ) ℕ cfg1 c where
  A w := V c (Pipeline.arrRef spec1 w)
  after w t := match w with
    | ⟨0, _⟩ => bBlk V c 0 t
    | ⟨1, _⟩ => bBlk V c 1 t
    | ⟨2, _⟩ => bBlk V c 2 t
    | ⟨3, _⟩ => bBlk V c 3 t
    | ⟨4, _⟩ => bBlk V c 4 t
    | ⟨5, _⟩ => bBlk V c 5 t
    | ⟨6, _⟩ => bBlk V c 6 t
    | ⟨7, _⟩ => bBlk V c 7 t
    | ⟨8, _⟩ => bBlk V c 8 t
    | ⟨9, _⟩ => bBlk V c 9 t
    | ⟨10, _⟩ => spreadCols (bDq (grid1.coords t) (bBlk V c 0 t) (bBlk V c 2 t) (bBlk V c 3 t) (bBlk V c 4 t) (bBlk V c 6 t) (bBlk V c 8 t) (bBlk V c 9 t))
    | ⟨11, _⟩ => kept k1_pay2 (dkStep V c) t.val t.isLt
    | ⟨12, _⟩ => kept k1_pay3 (dvStep V c) t.val t.isLt
    | ⟨13, _⟩ => kept k1_pay4 (dsinkStep V c) t.val t.isLt
  Φ _ := Pipeline.ΦA spec1 c
  q _ := fullShare
  owed _ := 0

theorem bDat_A (c : Dev nD) (w : Fin cfg1.W) : (bDat V c).A w = V c (Pipeline.arrRef spec1 w) := by dsimp only [bDat]

theorem bAfter0 (c : Dev nD) (t : Fin cfg1.N) : (bDat V c).after 0 t = bBlk V c 0 t := by dsimp only [bDat]
theorem bAfter1 (c : Dev nD) (t : Fin cfg1.N) : (bDat V c).after 1 t = bBlk V c 1 t := by dsimp only [bDat]
theorem bAfter2 (c : Dev nD) (t : Fin cfg1.N) : (bDat V c).after 2 t = bBlk V c 2 t := by dsimp only [bDat]
theorem bAfter3 (c : Dev nD) (t : Fin cfg1.N) : (bDat V c).after 3 t = bBlk V c 3 t := by dsimp only [bDat]
theorem bAfter4 (c : Dev nD) (t : Fin cfg1.N) : (bDat V c).after 4 t = bBlk V c 4 t := by dsimp only [bDat]
theorem bAfter5 (c : Dev nD) (t : Fin cfg1.N) : (bDat V c).after 5 t = bBlk V c 5 t := by dsimp only [bDat]
theorem bAfter6 (c : Dev nD) (t : Fin cfg1.N) : (bDat V c).after 6 t = bBlk V c 6 t := by dsimp only [bDat]
theorem bAfter7 (c : Dev nD) (t : Fin cfg1.N) : (bDat V c).after 7 t = bBlk V c 7 t := by dsimp only [bDat]
theorem bAfter8 (c : Dev nD) (t : Fin cfg1.N) : (bDat V c).after 8 t = bBlk V c 8 t := by dsimp only [bDat]
theorem bAfter9 (c : Dev nD) (t : Fin cfg1.N) : (bDat V c).after 9 t = bBlk V c 9 t := by dsimp only [bDat]
theorem bAfter10 (c : Dev nD) (t : Fin cfg1.N) : (bDat V c).after 10 t = spreadCols (bDq (grid1.coords t) (bBlk V c 0 t) (bBlk V c 2 t) (bBlk V c 3 t) (bBlk V c 4 t) (bBlk V c 6 t) (bBlk V c 8 t) (bBlk V c 9 t)) := by dsimp only [bDat]
theorem bAfter11 (c : Dev nD) (t : Fin cfg1.N) : (bDat V c).after 11 t = kept k1_pay2 (dkStep V c) t.val t.isLt := by dsimp only [bDat]
theorem bAfter12 (c : Dev nD) (t : Fin cfg1.N) : (bDat V c).after 12 t = kept k1_pay3 (dvStep V c) t.val t.isLt := by dsimp only [bDat]
theorem bAfter13 (c : Dev nD) (t : Fin cfg1.N) : (bDat V c).after 13 t = kept k1_pay4 (dsinkStep V c) t.val t.isLt := by dsimp only [bDat]

theorem bBefore0 (c : Dev nD) (t : Fin cfg1.N) (d) : (bDat V c).before 0 t d = bBlk V c 0 t :=
  ((bDat V c).before_in_eq_fetched 0 rfl (fun _ => rfl) (fun _ _ _ => rfl)
    (fun t => by rw [bAfter0]; unfold Dat.blockOf bBlk; rw [bDat_A]; try rfl) t d).trans (by unfold Dat.fetched Dat.blockOf bBlk; rw [bDat_A]; try rfl)
theorem bBefore1 (c : Dev nD) (t : Fin cfg1.N) (d) : (bDat V c).before 1 t d = bBlk V c 1 t :=
  ((bDat V c).before_in_eq_fetched 1 rfl (fun _ => rfl) (fun _ _ _ => rfl)
    (fun t => by rw [bAfter1]; unfold Dat.blockOf bBlk; rw [bDat_A]; try rfl) t d).trans (by unfold Dat.fetched Dat.blockOf bBlk; rw [bDat_A]; try rfl)
theorem bBefore2 (c : Dev nD) (t : Fin cfg1.N) (d) : (bDat V c).before 2 t d = bBlk V c 2 t :=
  ((bDat V c).before_in_eq_fetched 2 rfl (fun _ => rfl) (fun _ _ _ => rfl)
    (fun t => by rw [bAfter2]; unfold Dat.blockOf bBlk; rw [bDat_A]; try rfl) t d).trans (by unfold Dat.fetched Dat.blockOf bBlk; rw [bDat_A]; try rfl)
theorem bBefore3 (c : Dev nD) (t : Fin cfg1.N) (d) : (bDat V c).before 3 t d = bBlk V c 3 t :=
  ((bDat V c).before_in_eq_fetched 3 rfl (fun _ => rfl) (fun _ _ _ => rfl)
    (fun t => by rw [bAfter3]; unfold Dat.blockOf bBlk; rw [bDat_A]; try rfl) t d).trans (by unfold Dat.fetched Dat.blockOf bBlk; rw [bDat_A]; try rfl)
theorem bBefore4 (c : Dev nD) (t : Fin cfg1.N) (d) : (bDat V c).before 4 t d = bBlk V c 4 t :=
  ((bDat V c).before_in_eq_fetched 4 rfl (fun _ => rfl) (fun _ _ _ => rfl)
    (fun t => by rw [bAfter4]; unfold Dat.blockOf bBlk; rw [bDat_A]; try rfl) t d).trans (by unfold Dat.fetched Dat.blockOf bBlk; rw [bDat_A]; try rfl)
theorem bBefore5 (c : Dev nD) (t : Fin cfg1.N) (d) : (bDat V c).before 5 t d = bBlk V c 5 t :=
  ((bDat V c).before_in_eq_fetched 5 rfl (fun _ => rfl) (fun _ _ _ => rfl)
    (fun t => by rw [bAfter5]; unfold Dat.blockOf bBlk; rw [bDat_A]; try rfl) t d).trans (by unfold Dat.fetched Dat.blockOf bBlk; rw [bDat_A]; try rfl)
theorem bBefore6 (c : Dev nD) (t : Fin cfg1.N) (d) : (bDat V c).before 6 t d = bBlk V c 6 t :=
  ((bDat V c).before_in_eq_fetched 6 rfl (fun _ => rfl) (fun _ _ _ => rfl)
    (fun t => by rw [bAfter6]; unfold Dat.blockOf bBlk; rw [bDat_A]; try rfl) t d).trans (by unfold Dat.fetched Dat.blockOf bBlk; rw [bDat_A]; try rfl)
theorem bBefore7 (c : Dev nD) (t : Fin cfg1.N) (d) : (bDat V c).before 7 t d = bBlk V c 7 t :=
  ((bDat V c).before_in_eq_fetched 7 rfl (fun _ => rfl) (fun _ _ _ => rfl)
    (fun t => by rw [bAfter7]; unfold Dat.blockOf bBlk; rw [bDat_A]; try rfl) t d).trans (by unfold Dat.fetched Dat.blockOf bBlk; rw [bDat_A]; try rfl)
theorem bBefore8 (c : Dev nD) (t : Fin cfg1.N) (d) : (bDat V c).before 8 t d = bBlk V c 8 t :=
  ((bDat V c).before_in_eq_fetched 8 rfl (fun _ => rfl) (fun _ _ _ => rfl)
    (fun t => by rw [bAfter8]; unfold Dat.blockOf bBlk; rw [bDat_A]; try rfl) t d).trans (by unfold Dat.fetched Dat.blockOf bBlk; rw [bDat_A]; try rfl)
theorem bBefore9 (c : Dev nD) (t : Fin cfg1.N) (d) : (bDat V c).before 9 t d = bBlk V c 9 t :=
  ((bDat V c).before_in_eq_fetched 9 rfl (fun _ => rfl) (fun _ _ _ => rfl)
    (fun t => by rw [bAfter9]; unfold Dat.blockOf bBlk; rw [bDat_A]; try rfl) t d).trans (by unfold Dat.fetched Dat.blockOf bBlk; rw [bDat_A]; try rfl)

/-- The point before `t`. -/
abbrev prev (t : Fin cfg1.N) : Fin cfg1.N := ⟨t.val - 1, Nat.lt_of_le_of_lt (Nat.sub_le _ _) t.isLt⟩

/-- A kept gradient at a later point of its group is what the point before left. -/
theorem bBefore11 (c : Dev nD) (t : Fin cfg1.N) (h : ¬ t.val % 64 = 0) (d) : (bDat V c).before 11 t d = (bDat V c).after 11 (prev t) :=
  (bDat V c).before_out_kept 11 rfl t (fun h0 => h (by rw [h0])) (by
    rw [← Bool.not_eq_true, flush1_11]
    show ¬ (t.val - 1) % 64 = 63
    omega) (fun _ => rfl) (fun _ _ => rfl) d
theorem bBefore12 (c : Dev nD) (t : Fin cfg1.N) (h : ¬ t.val % 64 = 0) (d) : (bDat V c).before 12 t d = (bDat V c).after 12 (prev t) :=
  (bDat V c).before_out_kept 12 rfl t (fun h0 => h (by rw [h0])) (by
    rw [← Bool.not_eq_true, flush1_12]
    show ¬ (t.val - 1) % 64 = 63
    omega) (fun _ => rfl) (fun _ _ => rfl) d
theorem bBefore13 (c : Dev nD) (t : Fin cfg1.N) (h : ¬ t.val % 64 = 0) (d) : (bDat V c).before 13 t d = (bDat V c).after 13 (prev t) :=
  (bDat V c).before_out_kept 13 rfl t (fun h0 => h (by rw [h0])) (by
    rw [← Bool.not_eq_true, flush1_13]
    show ¬ (t.val - 1) % 64 = 63
    omega) (fun _ => rfl) (fun _ _ => rfl) d

/-- The query block of a point is its number modulo 64. -/
theorem coord_block : ∀ t : Fin cfg1.N, ((grid1.coords t) 1).val = t.val % 64 :=
  (by decide +kernel : ∀ t : Fin grid1.N, ((grid1.coords t) 1).val = t.val % 64)

/-- The body at any point, from what the pipeline hands it to what the proof data says it leaves. -/
theorem bSound (c : Dev nD) (t : Fin cfg1.N) :
    iprop((bDat V c).Φ t.castSucc ∗ (bDat V c).owesAt () t.castSucc
      ∗ (∃ d, owns (c : Thread nD τ) (st1_0 t) fullShare ((bDat V c).before 0 t d))
      ∗ (∃ d, owns (c : Thread nD τ) (st1_1 t) fullShare ((bDat V c).before 1 t d))
      ∗ (∃ d, owns (c : Thread nD τ) (st1_2 t) fullShare ((bDat V c).before 2 t d))
      ∗ (∃ d, owns (c : Thread nD τ) (st1_3 t) fullShare ((bDat V c).before 3 t d))
      ∗ (∃ d, owns (c : Thread nD τ) (st1_4 t) fullShare ((bDat V c).before 4 t d))
      ∗ (∃ d, owns (c : Thread nD τ) (st1_5 t) fullShare ((bDat V c).before 5 t d))
      ∗ (∃ d, owns (c : Thread nD τ) (st1_6 t) fullShare ((bDat V c).before 6 t d))
      ∗ (∃ d, owns (c : Thread nD τ) (st1_7 t) fullShare ((bDat V c).before 7 t d))
      ∗ (∃ d, owns (c : Thread nD τ) (st1_8 t) fullShare ((bDat V c).before 8 t d))
      ∗ (∃ d, owns (c : Thread nD τ) (st1_9 t) fullShare ((bDat V c).before 9 t d))
      ∗ (∃ d, owns (c : Thread nD τ) (st1_10 t) fullShare ((bDat V c).before 10 t d))
      ∗ (∃ d, owns (c : Thread nD τ) (st1_11 t) fullShare ((bDat V c).before 11 t d))
      ∗ (∃ d, owns (c : Thread nD τ) (st1_12 t) fullShare ((bDat V c).before 12 t d))
      ∗ (∃ d, owns (c : Thread nD τ) (st1_13 t) fullShare ((bDat V c).before 13 t d)))
    ⊢ wp frame (wpE (defs₀ (F := F)) Variants.none c none) Set.univ (bodyAt1 t) (fun _ =>
      iprop((bDat V c).Φ t.succ ∗ (bDat V c).owesAt () t.succ
      ∗ owns (c : Thread nD τ) (st1_0 t) fullShare ((bDat V c).after 0 t)
      ∗ owns (c : Thread nD τ) (st1_1 t) fullShare ((bDat V c).after 1 t)
      ∗ owns (c : Thread nD τ) (st1_2 t) fullShare ((bDat V c).after 2 t)
      ∗ owns (c : Thread nD τ) (st1_3 t) fullShare ((bDat V c).after 3 t)
      ∗ owns (c : Thread nD τ) (st1_4 t) fullShare ((bDat V c).after 4 t)
      ∗ owns (c : Thread nD τ) (st1_5 t) fullShare ((bDat V c).after 5 t)
      ∗ owns (c : Thread nD τ) (st1_6 t) fullShare ((bDat V c).after 6 t)
      ∗ owns (c : Thread nD τ) (st1_7 t) fullShare ((bDat V c).after 7 t)
      ∗ owns (c : Thread nD τ) (st1_8 t) fullShare ((bDat V c).after 8 t)
      ∗ owns (c : Thread nD τ) (st1_9 t) fullShare ((bDat V c).after 9 t)
      ∗ owns (c : Thread nD τ) (st1_10 t) fullShare ((bDat V c).after 10 t)
      ∗ owns (c : Thread nD τ) (st1_11 t) fullShare ((bDat V c).after 11 t)
      ∗ owns (c : Thread nD τ) (st1_12 t) fullShare ((bDat V c).after 12 t)
      ∗ owns (c : Thread nD τ) (st1_13 t) fullShare ((bDat V c).after 13 t))) := by
  unfold bodyAt1
  have hcoord := coord_block t
  have hfirst := first_iff ((grid1.coords t) 1)
  simp only [bBefore0, bBefore1, bBefore2, bBefore3, bBefore4, bBefore5, bBefore6, bBefore7, bBefore8, bBefore9]
  rw [show (bDat V c).Φ t.succ = (bDat V c).Φ t.castSucc from rfl,
    show (bDat V c).owesAt () t.succ = (bDat V c).owesAt () t.castSucc from rfl,
    bAfter0, bAfter1, bAfter2, bAfter3, bAfter4, bAfter5, bAfter6, bAfter7, bAfter8, bAfter9, bAfter10, bAfter11, bAfter12, bAfter13]
  by_cases h : t.val % 64 = 0
  · rw [kept_first _ _ t h, kept_first _ _ t h, kept_first _ _ t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (bwd_first c (grid1.coords t) _ _ _ _ _ _ _ _ _ _ _ _ _ _ _ _ _ _ _ _ _ _ _ _ _ _ _ _ (hfirst.mpr (hcoord.trans h)) (bBlk V c 0 t) (bBlk V c 1 t) (bBlk V c 2 t) (bBlk V c 3 t) (bBlk V c 4 t) (bBlk V c 5 t) (bBlk V c 6 t) (bBlk V c 7 t) (bBlk V c 8 t) (bBlk V c 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · simp only [bBefore11 V c t h, bBefore12 V c t h, bBefore13 V c t h, bAfter11, bAfter12, bAfter13]
    rw [kept_next _ _ t h, kept_next _ _ t h, kept_next _ _ t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (bwd_next c (grid1.coords t) _ _ _ _ _ _ _ _ _ _ _ _ _ _ _ _ _ _ _ _ _ _ _ _ _ _ _ _ (fun e => h (hcoord.symm.trans (hfirst.mp e))) (bBlk V c 0 t) (bBlk V c 1 t) (bBlk V c 2 t) (bBlk V c 3 t) (bBlk V c 4 t) (bBlk V c 5 t) (bBlk V c 6 t) (bBlk V c 7 t) (bBlk V c 8 t) (bBlk V c 9 t) (kept k1_pay2 (dkStep V c) (prev t).val (prev t).isLt) (kept k1_pay3 (dvStep V c) (prev t).val (prev t).isLt) (kept k1_pay4 (dsinkStep V c) (prev t).val (prev t).isLt) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The backward call's obligation to the pipeline. -/
theorem bObligation (c : Dev nD) : BodyObligation (bDat V c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (bSound V c t) rfl .rfl fun _ => .rfl

end Cert.Proof.Swa
end
-- ==== Proof.RegionSeg.lean ====
/-
  One kernel call as an item of the program: entered with the device's buffers at some contents, it leaves them at those
  contents overwritten by what its windows wrote back, the generator register and an empty debt riding along.
-/
module

public import proofs.«01_k».proof.Proof.Gen.KernelIdeal.Launch
public import proofs.«01_k».proof.Proof.Gen.KernelIdeal.Regions
public import Idealize.ShloMosaic.Lib.Pipeline.FrameTail

@[expose] public section

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg)

variable {F : FTy → Type} [FloatOps F]

local notation "𝕄" => MT nD τ sig Unit (Elt F) ℕ (UR sig nD τ) ℕ

/-- What rides beside the buffers between two items: the generator register, and nothing owed. -/
def riding (c : Dev nD) : sProp 𝕄 :=
  iprop((∃ r, prngReg c r) ∗ ∃ W, owes (c.tc : Thread nD τ) (0 : CellTallies nD τ sig Unit) W)

/-- No level is assigned to any semaphore. -/
abbrev noLev : GSem nD τ sig → Finset Unit := fun _ => ∅
abbrev zeroLev : GSem nD τ sig → Unit → ℕ := fun _ _ => 0

set_option backward.isDefEq.respectTransparency.types false in
/-- The item of the call of pipeline `p`, from the buffers at `V` to the buffers after it. -/
def callSeg (pdats : (p : Fin 2) → (c : Dev nD) → Dat τ (Elt F) Unit ℕ (UR sig nD τ) ℕ (cfgs p) c) (p : Fin 2)
    (kit : Pipeline.LaunchFacts (nD := nD) (τ := τ) cfgs p) (V : Dev nD → Valuation τ sig (Elt F))
    (hbody : ∀ c, Pipeline.BodyObligationLoose (pdats p c) (defs₀ (F := F)) Variants.none () Set.univ)
    (hshare : ∀ c w, (pdats p c).share w = fullShare) (howed : ∀ c t, (pdats p c).owed t = 0)
    (hA : ∀ c w, (pdats p c).A w = V c (Proc.devRef .tc (Pipeline.arrRef (cfgs p).spec w)))
    (hΦ : ∀ c t, (pdats p c).Φ t = Pipeline.ΦA (cfgs p).spec c) (hrec : ∀ c, (pdats p c).recorded 0 = Set.univ) :
    RegionSeg (pcfgs (F := F)) adm pdats () defs₀ Variants.none noLev zeroLev p :=
  have kitP : Pipeline.PLaunchFacts (nD := nD) (τ := τ) (pcfgs (F := F)) p := kit.toP
  { win := kitP.win.to₀
    block_pos := kitP.block_pos
    stage_whole := kitP.stage_whole
    K := PEmpty
    osem := fun k => k.elim
    ho := Pipeline.OwnSemFacts.none _
    hbody := hbody
    hwaits := Pipeline.hwaits_of_owed_zero (pcfgs (F := F)) adm pdats () noLev zeroLev p howed
    pre := fun c => iprop(StableHlo.held (c.tc : Thread nD τ) (Pipeline.ucRefs τ sig) (V c) ∗ riding c)
    post := fun c => iprop(StableHlo.held (c.tc : Thread nD τ) (Pipeline.ucRefs τ sig) (Pipeline.afterRegion (pdats p c) (V c)) ∗ riding c)
    X := fun c => iprop(∃ r, prngReg c r)
    Y := fun c => iprop(∃ r, prngReg c r)
    Z := fun c => Pipeline.unscopedRest (Ix := Unit) (Name := ℕ) (U := UR sig nD τ) (Lvl := ℕ) (cfgs p).spec c (fun b => V c (Proc.devRef .tc b))
    hentry := fun c => by
      rw [Pipeline.ownSems0_none,
        show StableHlo.held (c.tc : Thread nD τ) (Pipeline.ucRefs τ sig) (V c) = unscopedBufs c (fun b => V c (Proc.devRef .tc b))
          from (Pipeline.unscopedBufs_held (Ix := Unit) (Name := ℕ) (U := UR sig nD τ) (Lvl := ℕ) c (V c)).symm]
      have hsplit := Pipeline.arrays_of_unscopedBufs (p := p) (pcfgs (F := F)) adm pdats kitP.win kitP.arr_whole c (hshare c)
        (fun b => V c (Proc.devRef .tc b)) (fun w => hA c w)
      unfold riding
      iintro ⟨⟨Hub, Hp, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Dat.owesAt Pipeline.owesWithin
        rw [howed c 0]
        icases HO with ⟨%W, HO⟩
        iexists W; isplitr; · ipureintro; exact fun _ _ => Or.inl (by rw [hrec c]; trivial)
        iexact HO
      isplitl [Hp]; · iexact Hp
      iexact Hrest
    hin := fun c => by
      rw [hΦ]; unfold Pipeline.ΦA; iintro ⟨Hp, -, Hr⟩
      isplitl [Hr] <;> iassumption
    hout := fun c => by
      rw [hΦ, Pipeline.ownSems0_none]; unfold Pipeline.ΦA
      iintro ⟨Hr, Hp⟩
      isplitl [Hp]; · iexact Hp
      isplitr; · iempintro
      iexact Hr
    hexit := fun c => by
      have hjoin := Pipeline.unscopedBufs_of_arrays (p := p) (pcfgs (F := F)) adm (Ix := Unit) (Name := ℕ) (U := UR sig nD τ) (Lvl := ℕ)
        kitP.win kitP.arr_whole c pdats (hshare c)
        (fun b => V c (Proc.devRef .tc b)) (fun b => Pipeline.afterRegion (pdats p c) (V c) (Proc.devRef .tc b)) ((pdats p c).arrAt · (cfgs p).N)
        (fun w => (Pipeline.afterRegion_arr (pdats p c) (V c) kit.win.arr_inj w).symm)
        (fun b hb => Pipeline.afterRegion_of_not_arr (pdats p c) (V c)
          fun w h => hb (h ▸ Finset.mem_image.mpr ⟨w, Finset.mem_univ _, rfl⟩))
      rw [show StableHlo.held (c.tc : Thread nD τ) (Pipeline.ucRefs τ sig) (Pipeline.afterRegion (pdats p c) (V c))
            = unscopedBufs c (fun b => Pipeline.afterRegion (pdats p c) (V c) (Proc.devRef .tc b))
          from (Pipeline.unscopedBufs_held (Ix := Unit) (Name := ℕ) (U := UR sig nD τ) (Lvl := ℕ) c (Pipeline.afterRegion (pdats p c) (V c))).symm]
      unfold riding
      iintro ⟨Ha, HO, Hp, Hrest⟩
      imodintro
      isplitl [Ha Hrest]
      · iapply hjoin; isplitl [Ha] <;> iassumption
      isplitl [Hp]; · iexact Hp
      unfold Dat.owesAt Pipeline.owesWithin
      rw [howed c (Fin.last _)]
      icases HO with ⟨%W, -, HO⟩; iexists W; iexact HO }

end Cert.Proof.Swa
end
-- ==== Proof.Run.lean ====
/-
  The whole program's run, over any element values: from any memory with zero counters every fair execution ends, every
  buffer of the device outside the kernels' scratch then holds what the five items leave in it one after another
  (`W5`), every counter is back at zero, and the five arguments are as they were launched.
-/
module

public import proofs.«01_k».proof.Proof.FwdRegion
public import proofs.«01_k».proof.Proof.BwdRegion
public import proofs.«01_k».proof.Proof.RegionSeg
public import Idealize.ShloMosaic.Lib.Claim

@[expose] public section

noncomputable section

namespace Cert.Proof.Swa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ### The buffers after each item -/

/-- At launch. -/
def W0 (c : Dev nD) : Valuation τ sig (Elt F) := fun b => m (c, b)
/-- After the layouts in front of the forward call. -/
def W1 (c : Dev nD) : Valuation τ sig (Elt F) := StableHlo.after hostOps0 (W0 m c)
/-- After the forward call. -/
def W2 (c : Dev nD) : Valuation τ sig (Elt F) := Pipeline.afterRegion (fDat (W1 m) c) (W1 m c)
/-- After the layouts of the output's cotangent. -/
def W3 (c : Dev nD) : Valuation τ sig (Elt F) := StableHlo.after hostOps1 (W2 m c)
/-- After the backward call. -/
def W4 (c : Dev nD) : Valuation τ sig (Elt F) := Pipeline.afterRegion (bDat (W3 m) c) (W3 m c)
/-- After the sum over the sink gradient's lanes. -/
def W5 (c : Dev nD) : Valuation τ sig (Elt F) := StableHlo.after hostOps2 (W4 m c)

/-- Both calls' proof data, each over the buffers at its own entry. -/
def calls : (p : Fin 2) → (c : Dev nD) → Dat τ (Elt F) Unit ℕ (UR sig nD τ) ℕ (cfgs p) c
  | ⟨0, _⟩ => fun c => fDat (W1 m) c
  | ⟨1, _⟩ => fun c => bDat (W3 m) c

/-! ### The items -/

/-- A line of host operations as an item, from the buffers at `V`. -/
def lineSeg (ops : List (HloOp τ sig (Elt F))) (hsub : ops.Forall fun op => op.bufs ⊆ StableHlo.tcRefs τ sig)
    (hfresh : ops.Forall fun op => op.fresh = ∅) (V : Dev nD → Valuation τ sig (Elt F)) :
    HostSeg (Ix := Unit) (Name := ℕ) (U := UR sig nD τ) (Lvl := ℕ) (pcfgs (F := F)) defs₀ Variants.none noLev zeroLev :=
  HostSeg.ofOps _ _ _ _ _ (Pipeline.ucRefs τ sig) ops
    (fun op h => Pipeline.sub_ucRefs op ((List.forall_iff_forall_mem.mp hsub) op h))
    (fun op h => (List.forall_iff_forall_mem.mp hfresh) op h) V riding

def fSeg : RegionSeg (pcfgs (F := F)) adm (calls m) () defs₀ Variants.none noLev zeroLev 0 :=
  callSeg (calls m) 0 launch0 (W1 m) (fun c => (fObligation (W1 m) c).loose) (fun c => (fDat (W1 m) c).share_full fun _ => rfl)
    (fun _ _ => rfl) (fun c w => fDat_A (W1 m) c w) (fun _ _ => rfl) (fun _ => rfl)

def bSeg : RegionSeg (pcfgs (F := F)) adm (calls m) () defs₀ Variants.none noLev zeroLev 1 :=
  callSeg (calls m) 1 launch1 (W3 m) (fun c => (bObligation (W3 m) c).loose) (fun c => (bDat (W3 m) c).share_full fun _ => rfl)
    (fun _ _ => rfl) (fun c w => bDat_A (W3 m) c w) (fun _ _ => rfl) (fun _ => rfl)

/-- The program's items. -/
def items : List (Seg (pcfgs (F := F)) adm (calls m) () defs₀ Variants.none noLev zeroLev) :=
  [.host (lineSeg hostOps0 hostOps0_sub hostOps0_fresh (W0 m)), .region (fSeg m), .host (lineSeg hostOps1 hostOps1_sub hostOps1_fresh (W2 m)),
    .region (bSeg m), .host (lineSeg hostOps2 hostOps2_sub hostOps2_fresh (W4 m))]

/-! ### The run -/

set_option backward.isDefEq.respectTransparency.types false in
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = W5 m c (Proc.devRef .tc b))
      ∧ r.2.sem = fun _ => 0) := by
  refine Pipeline.θ_run_regions_kit_dev_sems (pcfgs (F := F)) adm (calls m) () cellOf_inj emb₁ defs₀ Variants.none noLev zeroLev m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c.tc : Thread nD τ) (Pipeline.ucRefs τ sig) (W0 m c) ∗ riding c))
    (Tₙ := fun c => StableHlo.held (c.tc : Thread nD τ) (Pipeline.ucRefs τ sig) (W5 m c))
    (hch := fun c => ⟨.rfl, .rfl, .rfl, .rfl, .rfl,
      (show iprop(StableHlo.held (c.tc : Thread nD τ) (Pipeline.ucRefs τ sig) (W5 m c) ∗ riding c) ⊢ (_ : sProp 𝕄) from by
        unfold riding
        iintro ⟨Hh, -, HO⟩
        isplitl [Hh] <;> iassumption)⟩)
    (hinit := by
      refine Pipeline.initEach noLev zeroLev fun c => ?_
      rw [show unscopedBufs c (fun b => m ((c.tc : Thread nD τ).loc b)) = StableHlo.held (c.tc : Thread nD τ) (Pipeline.ucRefs τ sig) (W0 m c)
          from Pipeline.unscopedBufs_held (Ix := Unit) (Name := ℕ) (U := UR sig nD τ) (Lvl := ℕ) c (W0 m c)]
      unfold riding
      iintro ⟨⟨Hh, -, HO, -, Hp, -⟩, -⟩
      imodintro
      isplitl [Hh]; · iexact Hh
      isplitl [Hp]; · iexists _; iexact Hp
      iexists _; iexact HO)
    (QY := fun c s => ∀ b ∈ Pipeline.ucRefs τ sig, s.mem ((c.tc : Thread nD τ).1, b) = W5 m c b)
    (hfin := fun c s' => by
      unfold StableHlo.held
      iintro ⟨Hh, HSI⟩
      ihave Hr := (pointsTo_read_all (Pipeline.ucRefs τ sig) (fun b => ((c.tc : Thread nD τ).1, b)) (W5 m c) s') $$ [Hh HSI]
      · isplitl [Hh] <;> iassumption
      imodintro; iexact Hr)
    (hQ := fun _ h hz => ⟨fun c b hb => h c (Proc.devRef .tc b) (Pipeline.devRef_mem_ucRefs hb),
      funext fun g => hz g (.inr (regions_no_unscoped g.2))⟩)

/-! ### What no item writes -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : ∀ w, r ≠ Pipeline.arrRef spec0 w) : W2 m c r = W1 m c r :=
  Pipeline.afterRegion_of_not_arr (fDat (W1 m) c) (W1 m c) h
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : ∀ w, r ≠ Pipeline.arrRef spec1 w) : W4 m c r = W3 m c r :=
  Pipeline.afterRegion_of_not_arr (bDat (W3 m) c) (W3 m c) h
theorem W5_of (c : Dev nD) (r : Ref sig .tc) (h : r ∉ hostOps2_W) : W5 m c r = W4 m c r :=
  StableHlo.after_of_writes_sub hostOps2 _ hostOps2_writes h

/-- A buffer that no host line writes and no call takes ends as it was launched. -/
theorem W5_launch (c : Dev nD) (r : Ref sig .tc) (h0 : r ∉ hostOps0_W) (h1 : r ∉ hostOps1_W) (h2 : r ∉ hostOps2_W)
    (hf : ∀ w, r ≠ Pipeline.arrRef spec0 w) (hb : ∀ w, r ≠ Pipeline.arrRef spec1 w) :
    W5 m c r = m ((c.tc : Thread nD τ).loc r) :=
  (W5_of m c r h2).trans <| (W4_of m c r hb).trans <| (W3_of m c r h1).trans <| (W2_of m c r hf).trans (W1_of m c r h0)

theorem W5_arg0 (c : Dev nD) : W5 m c main_arg0 = m ((c.tc : Thread nD τ).loc main_arg0) :=
  W5_launch m c main_arg0 (by decide) (by decide) (by decide) (by decide) (by decide)
theorem W5_arg1 (c : Dev nD) : W5 m c main_arg1 = m ((c.tc : Thread nD τ).loc main_arg1) :=
  W5_launch m c main_arg1 (by decide) (by decide) (by decide) (by decide) (by decide)
theorem W5_arg2 (c : Dev nD) : W5 m c main_arg2 = m ((c.tc : Thread nD τ).loc main_arg2) :=
  W5_launch m c main_arg2 (by decide) (by decide) (by decide) (by decide) (by decide)
theorem W5_arg3 (c : Dev nD) : W5 m c main_arg3 = m ((c.tc : Thread nD τ).loc main_arg3) :=
  W5_launch m c main_arg3 (by decide) (by decide) (by decide) (by decide) (by decide)
theorem W5_arg4 (c : Dev nD) : W5 m c main_arg4 = m ((c.tc : Thread nD τ).loc main_arg4) :=
  W5_launch m c main_arg4 (by decide) (by decide) (by decide) (by decide) (by decide)

/-- The frame: the arguments end as launched and every counter is at zero. -/
theorem frame_run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c main_arg0 rfl).trans (W5_arg0 m c), (h.1 c main_arg1 rfl).trans (W5_arg1 m c),
    (h.1 c main_arg2 rfl).trans (W5_arg2 m c), (h.1 c main_arg3 rfl).trans (W5_arg3 m c), (h.1 c main_arg4 rfl).trans (W5_arg4 m c)⟩, h.2⟩)
    (run_main m ρ)

end Cert.Proof.Swa
end
-- ==== Proof.Frames.lean ====
/- The frames: each program leaves its arguments as they were launched and every counter at zero. The two prints of the
   kernel's program are one text at two carriers, so one run serves both. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.OneText
public import proofs.«01_k».proof.Proof.Run
public import Idealize.ShloMosaic.Lib.Quiescent

@[expose] public section

set_option maxHeartbeats 4000000

noncomputable section

namespace Cert.Proof

open Idealize.ShloMosaic Idealize.SL.Sem

/-- The kernel's program over machine floats. -/
theorem frame_kernel : Cert.quiescent_Kernel := by
  intro m g _
  have h := Swa.frame_run (F := Bits) m g
  rw [OneText.defs, OneText.main]
  exact h

/-- The kernel's program over the reals. -/
theorem frame_ideal : Cert.quiescent_KernelIdeal := fun m g _ => Swa.frame_run (F := Ideal) m g

/-- The reference: a line of host operations, which writes none of its arguments and owns no counter. -/
theorem frame_reference : Cert.quiescent_ReferenceIdeal := fun m g _ =>
  (θ_run Cert.ReferenceIdeal.defs _ _).mono
    (fun r h => ⟨fun c => (h c).2.2.2.2.2, sem_eq_zero_of_no_sems (by decide) r.2⟩)
    (Cert.ReferenceIdeal.Value.run m g)

end Cert.Proof

end
-- ==== Proof.LayerFrames.lean ====
/- The frames of the references of the layers' calls: lines of host operations, which write none of their arguments and own no
   counter. -/
module

public import proofs.«01_k».proof.Defs
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.Gen.Reference18Ideal.Run
public import proofs.«01_k».proof.Proof.Gen.Reference19Ideal.Run
public import proofs.«01_k».proof.Proof.Gen.Reference20Ideal.Run
public import proofs.«01_k».proof.Proof.Gen.Reference21Ideal.Run
public import Idealize.ShloMosaic.Lib.Quiescent

@[expose] public section

noncomputable section

namespace Cert.Proof

open Idealize.ShloMosaic Idealize.SL.Sem

theorem frame_reference2 : Cert.quiescent_Reference2Ideal := fun m g _ => (θ_run Cert.Reference2Ideal.defs _ _).mono
  (fun r h => ⟨fun c => (h c).2.2.2, sem_eq_zero_of_no_sems (by decide) r.2⟩) (Cert.Reference2Ideal.Value.run m g)

theorem frame_reference3 : Cert.quiescent_Reference3Ideal := fun m g _ => (θ_run Cert.Reference3Ideal.defs _ _).mono
  (fun r h => ⟨fun c => (h c).2.2, sem_eq_zero_of_no_sems (by decide) r.2⟩) (Cert.Reference3Ideal.Value.run m g)

theorem frame_reference4 : Cert.quiescent_Reference4Ideal := fun m g _ => (θ_run Cert.Reference4Ideal.defs _ _).mono
  (fun r h => ⟨fun c => (h c).2, sem_eq_zero_of_no_sems (by decide) r.2⟩) (Cert.Reference4Ideal.Value.run m g)

theorem frame_reference5 : Cert.quiescent_Reference5Ideal := fun m g _ => (θ_run Cert.Reference5Ideal.defs _ _).mono
  (fun r h => ⟨fun c => (h c).2, sem_eq_zero_of_no_sems (by decide) r.2⟩) (Cert.Reference5Ideal.Value.run m g)

theorem frame_reference6 : Cert.quiescent_Reference6Ideal := fun m g _ => (θ_run Cert.Reference6Ideal.defs _ _).mono
  (fun r h => ⟨fun c => (h c).2, sem_eq_zero_of_no_sems (by decide) r.2⟩) (Cert.Reference6Ideal.Value.run m g)

theorem frame_reference7 : Cert.quiescent_Reference7Ideal := fun m g _ => (θ_run Cert.Reference7Ideal.defs _ _).mono
  (fun r h => ⟨fun c => (h c).2, sem_eq_zero_of_no_sems (by decide) r.2⟩) (Cert.Reference7Ideal.Value.run m g)

theorem frame_reference8 : Cert.quiescent_Reference8Ideal := fun m g _ => (θ_run Cert.Reference8Ideal.defs _ _).mono
  (fun r h => ⟨fun c => (h c).2, sem_eq_zero_of_no_sems (by decide) r.2⟩) (Cert.Reference8Ideal.Value.run m g)

theorem frame_reference9 : Cert.quiescent_Reference9Ideal := fun m g _ => (θ_run Cert.Reference9Ideal.defs _ _).mono
  (fun r h => ⟨fun c => (h c).2, sem_eq_zero_of_no_sems (by decide) r.2⟩) (Cert.Reference9Ideal.Value.run m g)

theorem frame_reference10 : Cert.quiescent_Reference10Ideal := fun m g _ => (θ_run Cert.Reference10Ideal.defs _ _).mono
  (fun r h => ⟨fun c => (h c).2, sem_eq_zero_of_no_sems (by decide) r.2⟩) (Cert.Reference10Ideal.Value.run m g)

theorem frame_reference11 : Cert.quiescent_Reference11Ideal := fun m g _ => (θ_run Cert.Reference11Ideal.defs _ _).mono
  (fun r h => ⟨fun c => (h c).2, sem_eq_zero_of_no_sems (by decide) r.2⟩) (Cert.Reference11Ideal.Value.run m g)

theorem frame_reference12 : Cert.quiescent_Reference12Ideal := fun m g _ => (θ_run Cert.Reference12Ideal.defs _ _).mono
  (fun r h => ⟨fun c => (h c).2, sem_eq_zero_of_no_sems (by decide) r.2⟩) (Cert.Reference12Ideal.Value.run m g)

theorem frame_reference13 : Cert.quiescent_Reference13Ideal := fun m g _ => (θ_run Cert.Reference13Ideal.defs _ _).mono
  (fun r h => ⟨fun c => (h c).2, sem_eq_zero_of_no_sems (by decide) r.2⟩) (Cert.Reference13Ideal.Value.run m g)

theorem frame_reference14 : Cert.quiescent_Reference14Ideal := fun m g _ => (θ_run Cert.Reference14Ideal.defs _ _).mono
  (fun r h => ⟨fun c => (h c).2, sem_eq_zero_of_no_sems (by decide) r.2⟩) (Cert.Reference14Ideal.Value.run m g)

theorem frame_reference15 : Cert.quiescent_Reference15Ideal := fun m g _ => (θ_run Cert.Reference15Ideal.defs _ _).mono
  (fun r h => ⟨fun c => (h c).2, sem_eq_zero_of_no_sems (by decide) r.2⟩) (Cert.Reference15Ideal.Value.run m g)

theorem frame_reference16 : Cert.quiescent_Reference16Ideal := fun m g _ => (θ_run Cert.Reference16Ideal.defs _ _).mono
  (fun r h => ⟨fun c => (h c).2, sem_eq_zero_of_no_sems (by decide) r.2⟩) (Cert.Reference16Ideal.Value.run m g)

theorem frame_reference17 : Cert.quiescent_Reference17Ideal := fun m g _ => (θ_run Cert.Reference17Ideal.defs _ _).mono
  (fun r h => ⟨fun c => (h c).2, sem_eq_zero_of_no_sems (by decide) r.2⟩) (Cert.Reference17Ideal.Value.run m g)

theorem frame_reference18 : Cert.quiescent_Reference18Ideal := fun m g _ => (θ_run Cert.Reference18Ideal.defs _ _).mono
  (fun r h => ⟨fun c => (h c).2, sem_eq_zero_of_no_sems (by decide) r.2⟩) (Cert.Reference18Ideal.Value.run m g)

theorem frame_reference19 : Cert.quiescent_Reference19Ideal := fun m g _ => (θ_run Cert.Reference19Ideal.defs _ _).mono
  (fun r h => ⟨fun c => (h c).2, sem_eq_zero_of_no_sems (by decide) r.2⟩) (Cert.Reference19Ideal.Value.run m g)

theorem frame_reference20 : Cert.quiescent_Reference20Ideal := fun m g _ => (θ_run Cert.Reference20Ideal.defs _ _).mono
  (fun r h => ⟨fun c => (h c).2, sem_eq_zero_of_no_sems (by decide) r.2⟩) (Cert.Reference20Ideal.Value.run m g)

theorem frame_reference21 : Cert.quiescent_Reference21Ideal := fun m g _ => (θ_run Cert.Reference21Ideal.defs _ _).mono
  (fun r h => ⟨fun c => (h c).2, sem_eq_zero_of_no_sems (by decide) r.2⟩) (Cert.Reference21Ideal.Value.run m g)

end Cert.Proof

end
-- ==== Proof.Spec.lean ====
/-
  The mathematics both programs are compared with, over the real numbers: attention of every query to the 128 keys that end
  at its own position, with one extra "sink" weight per head, and the gradients of a linear function of its output.

  Positions run over `Fin 8192`; a query head is `headIx h g`, head `g` of the group that shares the key head `h`.
-/
module

public import Mathlib.Analysis.SpecialFunctions.Log.Basic
public import Mathlib.Algebra.BigOperators.Fin

@[expose] public section

noncomputable section

namespace Cert.Proof.Swa

open Finset

/-- The query head `g` of group `h`, among the sixteen. -/
def headIx (h g : Fin 4) : Fin 16 := ⟨4 * h.val + g.val, by omega⟩

/-- Position `q` of block `n`. -/
def pos (n : Fin 64) (q : Fin 128) : Fin 8192 := ⟨128 * n.val + q.val, by omega⟩

/-- A query sees a key at its own position or at one of the 127 before. -/
def Sees (t k : Fin 8192) : Prop := k.val ≤ t.val ∧ t.val < k.val + 128

instance (t k : Fin 8192) : Decidable (Sees t k) := inferInstanceAs (Decidable (_ ∧ _))

/-- The operands: queries, keys, values, sinks and the weights of the linear function. -/
structure Operands where
  Q : Fin 8192 → Fin 16 → Fin 64 → ℝ
  K : Fin 8192 → Fin 4 → Fin 64 → ℝ
  V : Fin 8192 → Fin 4 → Fin 64 → ℝ
  B : Fin 16 → ℝ
  G : Fin 8192 → Fin 16 → Fin 64 → ℝ

namespace Operands

variable (x : Operands) (h g : Fin 4) (t k : Fin 8192) (d : Fin 64)

def score : ℝ := ∑ d, x.K k h d * (x.Q t (headIx h g) d * (1 / 8))

/-- The unnormalized weight of a key. -/
def weight : ℝ := if Sees t k then Real.exp (x.score h g t k) else 0

/-- The sink's unnormalized weight. -/
def sinkWeight : ℝ := Real.exp (x.B (headIx h g))

def total : ℝ := ∑ k, x.weight h g t k + x.sinkWeight h g

def prob : ℝ := x.weight h g t k / x.total h g t

/-- The attention's output. -/
def out : ℝ := ∑ k, x.V k h d * x.prob h g t k

/-- The gradient with respect to a probability. -/
def dprob : ℝ := ∑ d, x.V k h d * x.G t (headIx h g) d

/-- The inner product of the output with its gradient. -/
def delta : ℝ := ∑ d, x.out h g t d * x.G t (headIx h g) d

/-- The gradient with respect to a score. -/
def dscore : ℝ := x.prob h g t k * (x.dprob h g t k - x.delta h g t)

def dQ : ℝ := (∑ k, x.K k h d * x.dscore h g t k) * (1 / 8)
def dK : ℝ := ∑ t, ∑ g, x.dscore h g t k * (x.Q t (headIx h g) d * (1 / 8))
def dV : ℝ := ∑ t, ∑ g, x.prob h g t k * x.G t (headIx h g) d
def dB : ℝ := ∑ t, -(x.sinkWeight h g / x.total h g t * x.delta h g t)

theorem weight_nonneg : 0 ≤ x.weight h g t k := by
  unfold weight; split
  · exact (Real.exp_pos _).le
  · exact le_rfl

theorem sinkWeight_pos : 0 < x.sinkWeight h g := Real.exp_pos _

theorem total_pos : 0 < x.total h g t :=
  add_pos_of_nonneg_of_pos (sum_nonneg fun k _ => x.weight_nonneg h g t k) (x.sinkWeight_pos h g)

theorem prob_eq : x.prob h g t k = if Sees t k then Real.exp (x.score h g t k) / x.total h g t else 0 := by
  unfold prob weight; split <;> simp

theorem prob_of_not (hs : ¬ Sees t k) : x.prob h g t k = 0 := by rw [prob_eq, if_neg hs]
theorem dscore_of_not (hs : ¬ Sees t k) : x.dscore h g t k = 0 := by rw [dscore, x.prob_of_not h g t k hs, zero_mul]

/-- The inner product of the output with its gradient, out of the probabilities. -/
theorem delta_eq : x.delta h g t = ∑ k, x.prob h g t k * x.dprob h g t k := by
  unfold delta out dprob
  simp only [Finset.sum_mul, Finset.mul_sum]
  rw [Finset.sum_comm]
  exact sum_congr rfl fun k _ => sum_congr rfl fun d _ => by ring

end Operands

/-! ### Sums over a window of keys -/

/-- The keys the forward and backward kernels load for block `n`: 256 of them, from this one on. -/
def keyStart (n : Fin 64) : ℕ := 128 * (n.val - 1)

/-- Key `b` of block `n`'s window. -/
def winKey (n : Fin 64) (b : Fin 256) : Fin 8192 := ⟨keyStart n + b.val, by unfold keyStart; omega⟩

/-- A sum over all keys of something that vanishes on unseen keys is a sum over the window's keys. -/
theorem sum_winKey {M : Type} [AddCommMonoid M] (n : Fin 64) (q : Fin 128) (f : Fin 8192 → M) (hf : ∀ k, ¬ Sees (pos n q) k → f k = 0) :
    ∑ k, f k = ∑ b : Fin 256, f (winKey n b) := by
  have inj : Function.Injective (winKey n) := fun a b hab => by
    have := congrArg Fin.val hab; simp only [winKey] at this; exact Fin.ext (by omega)
  rw [← Finset.sum_image (f := f) (g := winKey n) (s := univ) (fun a _ b _ hab => inj hab)]
  refine (Finset.sum_subset (subset_univ _) fun k _ hk => hf k fun hs => hk ?_).symm
  have h1 : k.val ≤ 128 * n.val + q.val := hs.1
  have h2 : 128 * n.val + q.val < k.val + 128 := hs.2
  have hb : k.val - keyStart n < 256 := by unfold keyStart; omega
  exact Finset.mem_image.2 ⟨⟨k.val - keyStart n, hb⟩, mem_univ _, Fin.ext (by simp only [winKey]; unfold keyStart; omega)⟩

/-- The reference's window is the block's own keys and the block before; there is nothing before the first block. -/
theorem sum_bandKey {M : Type} [AddCommMonoid M] (n : Fin 64) (q : Fin 128) (f : Fin 8192 → M) (hf : ∀ k, ¬ Sees (pos n q) k → f k = 0) :
    ∑ k, f k = ∑ b : Fin 256, if hb : 128 ≤ 128 * n.val + b.val then f ⟨128 * n.val + b.val - 128, by omega⟩ else 0 := by
  rw [sum_winKey n q f hf]
  by_cases hn : n.val = 0
  · -- the first block: the reference's upper half is the kernel's lower half
    rw [Fin.sum_univ_add (a := 128) (b := 128) (fun b : Fin (128 + 128) => f (winKey n b)),
      Fin.sum_univ_add (a := 128) (b := 128) (fun b : Fin (128 + 128) => if hb : 128 ≤ 128 * n.val + b.val then f ⟨128 * n.val + b.val - 128, by omega⟩ else 0)]
    have e1 : ∑ i : Fin 128, f (winKey n (Fin.natAdd 128 i)) = 0 := sum_eq_zero fun i _ => hf _ fun hs => by
      have := hs.1; simp only [winKey, keyStart, pos, Fin.natAdd] at this; omega
    have e2 : (∑ i : Fin 128, if hb : 128 ≤ 128 * n.val + (Fin.castAdd 128 i).val then f ⟨128 * n.val + (Fin.castAdd 128 i).val - 128, by omega⟩ else 0) = 0 :=
      sum_eq_zero fun i _ => dif_neg (by simp only [Fin.val_castAdd]; omega)
    rw [e1, e2, add_zero, zero_add]
    refine sum_congr rfl fun i _ => ?_
    rw [dif_pos (by simp only [Fin.val_natAdd]; omega)]
    exact congrArg f (Fin.ext (by simp only [winKey, keyStart, Fin.val_castAdd, Fin.val_natAdd]; omega))
  · refine sum_congr rfl fun b _ => ?_
    rw [dif_pos (by omega)]
    exact congrArg f (Fin.ext (by simp only [winKey, keyStart]; omega))

/-- A sum over all positions, block by block. -/
theorem sum_pos {M : Type} [AddCommMonoid M] (f : Fin 8192 → M) : ∑ t, f t = ∑ n : Fin 64, ∑ q : Fin 128, f (pos n q) := by
  have e := Fintype.sum_equiv (⟨fun p => pos p.1 p.2, fun t => (⟨t.val / 128, by omega⟩, ⟨t.val % 128, by omega⟩),
      fun p => Prod.ext (Fin.ext (by show (128 * p.1.val + p.2.val) / 128 = p.1.val; omega)) (Fin.ext (by show (128 * p.1.val + p.2.val) % 128 = p.2.val; omega)),
      fun t => Fin.ext (by show 128 * (t.val / 128) + t.val % 128 = t.val; omega)⟩ : Fin 64 × Fin 128 ≃ Fin 8192)
    (fun p => f (pos p.1 p.2)) f (fun _ => rfl)
  rw [← e, Fintype.sum_prod_type]

end Cert.Proof.Swa
end
-- ==== Proof.Extended.lean ====
/-
  Real numbers inside the extended reals: sums, the maximum of a row, and the pieces of a softmax that stay real.
-/
module

public import Idealize.ShloMosaic.PureOps.Ideal.Laws
public import proofs.«01_k».proof.Proof.Spec

@[expose] public section

noncomputable section

namespace Cert.Proof.Swa

open Idealize.ShloMosaic

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_neg (r : ℝ) : -(r : EReal) = ((-r : ℝ) : EReal) := rfl
theorem coe_sub (r s : ℝ) : (r : EReal) - (s : EReal) = ((r - s : ℝ) : EReal) := rfl
theorem coe_mul (r s : ℝ) : (r : EReal) * (s : EReal) = ((r * s : ℝ) : EReal) := rfl
theorem coe_add (r s : ℝ) : (r : EReal) + (s : EReal) = ((r + s : ℝ) : EReal) := rfl

theorem coe_div (r s : ℝ) (hs : s ≠ 0) : Ideal.div (r : EReal) (s : EReal) = ((r / s : ℝ) : EReal) := by
  rw [Ideal.div_coe hs, coe_mul, mul_one_div]

/-- The maximum of a row none of whose entries is `⊤`, and of a real number, is a real number. -/
theorem max_real {ι : Type} [Fintype ι] (f : ι → EReal) (hf : ∀ i, f i ≠ ⊤) (s : ℝ) :
    ∃ m : ℝ, max (Finset.univ.fold max ⊥ f) (s : EReal) = (m : EReal) := by
  have h1 : Finset.univ.fold max ⊥ f ≠ ⊤ := ne_of_lt (Finset.fold_max_lt (b := (⊥ : EReal)) ⊤ |>.2 ⟨bot_lt_top, fun i _ => lt_top_iff_ne_top.2 (hf i)⟩)
  have h2 : max (Finset.univ.fold max ⊥ f) (s : EReal) ≠ ⊤ := by
    rcases max_choice (Finset.univ.fold max ⊥ f) (s : EReal) with e | e <;> rw [e]
    · exact h1
    · exact EReal.coe_ne_top s
  have h3 : max (Finset.univ.fold max ⊥ f) (s : EReal) ≠ ⊥ := fun h => EReal.coe_ne_bot s (le_bot_iff.1 (h ▸ le_max_right _ _))
  exact ⟨_, (EReal.coe_toReal h2 h3).symm⟩

theorem ofBits_bot : Ideal.ofBits .f32 0xFF800000#32 = ⊥ := by simp [Ideal.ofBits, Ideal.ieee]
theorem ofBits_masked_ne_top : Ideal.ofBits .f32 0xF149F2CA#32 ≠ ⊤ := by
  simp [Ideal.ofBits, Ideal.ieee, -EReal.coe_mul]
theorem ofBits_eighth : Ideal.ofBits .f32 0x3E000000#32 = ((1 / 8 : ℝ) : EReal) := by
  simp [Ideal.ofBits, Ideal.ieee, -EReal.coe_mul]; norm_num

end Cert.Proof.Swa
end
-- ==== Proof.HostIn.lean ====
/-
  What the layouts in front of the two calls leave in the calls' operands, at every index, when the arguments are reals.
-/
module

public import proofs.«01_k».proof.Proof.Run
public import proofs.«01_k».proof.Proof.Spec
public import proofs.«01_k».proof.Proof.Extended
public import Idealize.ShloMosaic.Lib.Pointwise
public import Idealize.ShloMosaic.Lib.StableHlo.RunRead
public import Idealize.ShloMosaic.Lib.Pipeline.ValueKit

@[expose] public section

set_option maxRecDepth 16384

noncomputable section

namespace Cert.Proof.Swa

open Cert.KernelIdeal Cert.KernelIdeal.Gen
open Idealize.ShloMosaic Idealize.ShloMosaic.TcCoe Idealize.ShloMosaic.Tactic

theorem scaled {X : EReal} {r : ℝ} (e : X = (r : EReal)) : X * Ideal.ofBits .f32 0x3E000000#32 = ((r * (1 / 8) : ℝ) : EReal) := by
  rw [e, ofBits_eighth, coe_mul]

/-- Device `c`'s arguments in memory `m` are the operands `x`. -/
structure Launched (x : Operands) (m : (ℓ : Loc nD τ sig) → Buf (Elt Ideal) ℓ) (c : Dev nD) : Prop where
  q : ∀ t a d, W0 m c (Proc.devRef .tc main_arg0) (ix3 (n0 := 8192) (n1 := 16) (n2 := 64) t a d) = (x.Q t a d : EReal)
  k : ∀ t h d, W0 m c (Proc.devRef .tc main_arg1) (ix3 (n0 := 8192) (n1 := 4) (n2 := 64) t h d) = (x.K t h d : EReal)
  v : ∀ t h d, W0 m c (Proc.devRef .tc main_arg2) (ix3 (n0 := 8192) (n1 := 4) (n2 := 64) t h d) = (x.V t h d : EReal)
  b : ∀ a, W0 m c (Proc.devRef .tc main_arg3) (ix1 (n0 := 16) a) = (x.B a : EReal)
  g : ∀ t a d, W0 m c (Proc.devRef .tc main_arg4) (ix3 (n0 := 8192) (n1 := 16) (n2 := 64) t a d) = (x.G t a d : EReal)

variable {x : Operands} {m : (ℓ : Loc nD τ sig) → Buf (Elt Ideal) ℓ} {c : Dev nD} (L : Launched x m c)
include L

/-- The query columns, scaled by 1/8. -/
theorem v13_at (a : Fin 16) (d : Fin 64) (t : Fin 8192) :
    W1 m c (Proc.devRef .tc main_v13) (ix3 (n0 := 16) (n1 := 64) (n2 := 8192) a d t) = ((x.Q t a d * (1 / 8) : ℝ) : EReal) := by
  unfold W1
  after_results
  pointwise []
  refine scaled (Eq.trans ?_ (L.q t a d))
  blk_ext []

/-- The query rows, scaled by 1/8. -/
theorem v15_at (a : Fin 16) (t : Fin 8192) (d : Fin 64) :
    W1 m c (Proc.devRef .tc main_v15) (ix3 (n0 := 16) (n1 := 8192) (n2 := 64) a t d) = ((x.Q t a d * (1 / 8) : ℝ) : EReal) := by
  unfold W1
  after_results
  pointwise []
  refine scaled (Eq.trans ?_ (L.q t a d))
  blk_ext []

theorem v11_at (a : Fin 16) (q : Fin 128) :
    W1 m c (Proc.devRef .tc main_v11) (ix3 (n0 := 16) (n1 := 1) (n2 := 128) a 0 q) = (x.B a : EReal) := by
  unfold W1
  after_results
  pointwise []
  refine Eq.trans ?_ (L.b a)
  blk_ext []

theorem v17_at (h : Fin 4) (t : Fin 8192) (d : Fin 64) :
    W1 m c (Proc.devRef .tc main_v17) (ix3 (n0 := 4) (n1 := 8192) (n2 := 64) h t d) = (x.K t h d : EReal) := by
  unfold W1
  after_results
  pointwise []
  refine Eq.trans ?_ (L.k t h d)
  blk_ext []

theorem v19_at (h : Fin 4) (j : Fin 64) (d : Fin 64) (q : Fin 128) :
    W1 m c (Proc.devRef .tc main_v19) (ix4 (n0 := 4) (n1 := 64) (n2 := 64) (n3 := 128) h j d q) = (x.K (pos j q) h d : EReal) := by
  unfold W1
  after_results
  pointwise []
  refine Eq.trans ?_ (L.k (pos j q) h d)
  unfold pos
  blk_ext []

theorem v21_at (h : Fin 4) (t : Fin 8192) (d : Fin 64) :
    W1 m c (Proc.devRef .tc main_v21) (ix3 (n0 := 4) (n1 := 8192) (n2 := 64) h t d) = (x.V t h d : EReal) := by
  unfold W1
  after_results
  pointwise []
  refine Eq.trans ?_ (L.v t h d)
  blk_ext []

theorem v23_at (h : Fin 4) (j : Fin 64) (d : Fin 64) (q : Fin 128) :
    W1 m c (Proc.devRef .tc main_v23) (ix4 (n0 := 4) (n1 := 64) (n2 := 64) (n3 := 128) h j d q) = (x.V (pos j q) h d : EReal) := by
  unfold W1
  after_results
  pointwise []
  refine Eq.trans ?_ (L.v (pos j q) h d)
  unfold pos
  blk_ext []

/-- The output's cotangent, as the first layouts leave it. -/
theorem v9_at (t : Fin 8192) (a : Fin 16) (d : Fin 64) :
    W1 m c (Proc.devRef .tc main_v9) (ix2 (n0 := 8192) (n1 := 1024) t ⟨a.val * 64 + d.val, by omega⟩) = (x.G t a d : EReal) := by
  unfold W1
  after_results
  pointwise []
  refine Eq.trans ?_ (L.g t a d)
  blk_ext []

theorem v26_at (a : Fin 16) (t : Fin 8192) (d : Fin 64) :
    W3 m c (Proc.devRef .tc main_v26) (ix3 (n0 := 16) (n1 := 8192) (n2 := 64) a t d) = (x.G t a d : EReal) := by
  unfold W3
  after_results
  pointwise []
  rw [W2_of m c main_v9 (by decide)]
  exact v9_at L t a d

theorem v28_at (a : Fin 16) (d : Fin 64) (t : Fin 8192) :
    W3 m c (Proc.devRef .tc main_v28) (ix3 (n0 := 16) (n1 := 64) (n2 := 8192) a d t) = (x.G t a d : EReal) := by
  unfold W3
  after_results
  pointwise []
  rw [W2_of m c main_v9 (by decide)]
  exact v9_at L t a d

end Cert.Proof.Swa
end
-- ==== Proof.Lanes.lean ====
/-
  The blocks of four heads laid side by side, read at a lane: lane `128 g + q` is query `q` of head `g`.
-/
module

public import proofs.«01_k».proof.Proof.Blocks

@[expose] public section

set_option maxRecDepth 16384

noncomputable section

namespace Cert.Proof.Swa

open Cert.KernelIdeal Cert.KernelIdeal.Gen
open Idealize.ShloMosaic

/-- The head of a lane, and its query within the block. -/
def headOf (l : Fin 512) : Fin 4 := ⟨l.val / 128, by omega⟩
def queryOf (l : Fin 512) : Fin 128 := ⟨l.val % 128, by omega⟩

variable {F : FTy → Type} [FloatOps F]

/-- Four pieces one after the other are one array of four heads when each piece is its head. -/
theorem ladder {α : Type} (f : Fin 4 → Fin 128 → α) (l : Fin 512) (y0 y1 y2 y3 : Fin 128 → α)
    (h0 : ∀ q, y0 q = f 0 q) (h1 : ∀ q, y1 q = f 1 q) (h2 : ∀ q, y2 q = f 2 q) (h3 : ∀ q, y3 q = f 3 q) :
    (if h : l.val < 128 then y0 ⟨l.val, h⟩ else if h' : l.val - 128 < 128 then y1 ⟨l.val - 128, h'⟩
      else if h'' : l.val - 128 - 128 < 128 then y2 ⟨l.val - 128 - 128, h''⟩ else y3 ⟨l.val - 128 - 128 - 128, by omega⟩)
      = f (headOf l) (queryOf l) := by
  have e : ∀ (k : Fin 4) (q : Fin 128), l.val = 128 * k.val + q.val → f (headOf l) (queryOf l) = f k q := fun k q hl => by
    have a : headOf l = k := Fin.ext (by show l.val / 128 = k.val; omega)
    have b : queryOf l = q := Fin.ext (by show l.val % 128 = q.val; omega)
    rw [a, b]
  split
  · rw [h0]; exact (e 0 _ (by simp)).symm
  · split
    · rw [h1]; exact (e 1 _ (by simp; omega)).symm
    · split
      · rw [h2]; exact (e 2 _ (by simp; omega)).symm
      · rw [h3]; exact (e 3 _ (by simp; omega)).symm

theorem bQcol_at (x : Vec F S4x64x128 .bf16) (d : Fin 64) (l : Fin 512) :
    bQcol x (ix2 d l) = x (ix3 (headOf l) d (queryOf l)) := by
  pointwise [bQcol, k1_pay7, k1_pay6, colHead0, colHead1, colHead2, colHead3]
  exact ladder (fun g q => x (ix3 g d q)) l _ _ _ _ (fun _ => rfl) (fun _ => rfl) (fun _ => rfl) (fun _ => rfl)

theorem bDoCol_at (x : Vec F S4x64x128 .bf16) (d : Fin 64) (l : Fin 512) :
    bDoCol x (ix2 d l) = x (ix3 (headOf l) d (queryOf l)) := by
  pointwise [bDoCol, k1_pay8, colHead0, colHead1, colHead2, colHead3]
  exact ladder (fun g q => x (ix3 g d q)) l _ _ _ _ (fun _ => rfl) (fun _ => rfl) (fun _ => rfl) (fun _ => rfl)

theorem bOcol_at (x : Vec F S4x64x128 .f32) (d : Fin 64) (l : Fin 512) :
    bOcol x (ix2 d l) = x (ix3 (headOf l) d (queryOf l)) := by
  pointwise [bOcol, k1_pay12, colHead0, colHead1, colHead2, colHead3]
  exact ladder (fun g q => x (ix3 g d q)) l _ _ _ _ (fun _ => rfl) (fun _ => rfl) (fun _ => rfl) (fun _ => rfl)

theorem bLse_at (x : Vec F S4x1x128 .f32) (l : Fin 512) :
    bLse x (ix2 0 l) = x (ix3 (headOf l) 0 (queryOf l)) := by
  pointwise [bLse, k1_pay9, laneHead0, laneHead1, laneHead2, laneHead3]
  exact ladder (fun g q => x (ix3 g 0 q)) l _ _ _ _ (fun _ => rfl) (fun _ => rfl) (fun _ => rfl) (fun _ => rfl)

theorem bSink_at (x : Vec F S4x1x128 .f32) (l : Fin 512) :
    bSink x (ix2 0 l) = x (ix3 (headOf l) 0 (queryOf l)) := by
  pointwise [bSink, k1_pay11, k1_pay10, laneHead0, laneHead1, laneHead2, laneHead3]
  exact ladder (fun g q => x (ix3 g 0 q)) l _ _ _ _ (fun _ => rfl) (fun _ => rfl) (fun _ => rfl) (fun _ => rfl)

theorem bQrow_at (x : Vec F S4x128x64 .bf16) (d : Fin 64) (l : Fin 512) :
    bQrow x (ix2 l d) = x (ix3 (headOf l) (queryOf l) d) := by
  pointwise [bQrow, k1_pay13, rowHead0, rowHead1, rowHead2, rowHead3]
  exact ladder (fun g q => x (ix3 g q d)) l _ _ _ _ (fun _ => rfl) (fun _ => rfl) (fun _ => rfl) (fun _ => rfl)

theorem bDoRow_at (x : Vec F S4x128x64 .bf16) (d : Fin 64) (l : Fin 512) :
    bDoRow x (ix2 l d) = x (ix3 (headOf l) (queryOf l) d) := by
  pointwise [bDoRow, k1_pay14, rowHead0, rowHead1, rowHead2, rowHead3]
  exact ladder (fun g q => x (ix3 g q d)) l _ _ _ _ (fun _ => rfl) (fun _ => rfl) (fun _ => rfl) (fun _ => rfl)

/-- The lane of a head's query. -/
def lane (g : Fin 4) (q : Fin 128) : Fin 512 := ⟨128 * g.val + q.val, by omega⟩

@[simp] theorem headOf_lane (g : Fin 4) (q : Fin 128) : headOf (lane g q) = g := Fin.ext (by show (128 * g.val + q.val) / 128 = g.val; omega)
@[simp] theorem queryOf_lane (g : Fin 4) (q : Fin 128) : queryOf (lane g q) = q := Fin.ext (by show (128 * g.val + q.val) % 128 = q.val; omega)
theorem lane_of (l : Fin 512) : lane (headOf l) (queryOf l) = l := Fin.ext (by show 128 * (l.val / 128) + l.val % 128 = l.val; omega)

theorem spreadCols_at (v : FVec F S64x512 .f32) (g : Fin 4) (d : Fin 64) (q : Fin 128) :
    spreadCols v (ix3 g d q) = v (ix2 d (lane g q)) := rfl
theorem spreadLanes_at (v : FVec F S1x512 .f32) (g : Fin 4) (q : Fin 128) :
    spreadLanes v (ix3 g 0 q) = v (ix2 0 (lane g q)) := rfl

/-- A sum over the lanes is a sum over the heads and their queries. -/
theorem sum_lanes {M : Type} [AddCommMonoid M] (f : Fin 512 → M) : ∑ l, f l = ∑ g : Fin 4, ∑ q : Fin 128, f (lane g q) := by
  have e := Fintype.sum_equiv (⟨fun p => lane p.1 p.2, fun l => (headOf l, queryOf l), fun p => by simp, fun l => lane_of l⟩ : Fin 4 × Fin 128 ≃ Fin 512)
    (fun p => f (lane p.1 p.2)) f (fun _ => rfl)
  rw [← e, Fintype.sum_prod_type]

/-- The forward kernel's scores before the mask: the keys it loads times the heads' columns. -/
theorem k0_pay8_at (m : IVec S256x512 1) (x : Vec Ideal S4x64x128 .bf16) (y : Vec Ideal S1x256x64 .bf16) (b : Fin 256) (l : Fin 512) :
    k0_pay8 m (k0_pay5 (colHead0 x)) (k0_pay6 (colHead1 x)) (colHead2 x) (colHead3 x) y (ix2 b l)
      = Scalar.select (m (ix2 b l)) (∑ d : Fin 64, y (ix3 0 b d) * x (ix3 (headOf l) d (queryOf l))) (Ideal.ofBits .f32 0xF149F2CA#32) := by
  have e : k0_pay8 m (k0_pay5 (colHead0 x)) (k0_pay6 (colHead1 x)) (colHead2 x) (colHead3 x) y
      = select m (matmul dot_S256x64_S64x512_S256x512_1_0_0_1_n_n none (shapeCast S256x64 y shapeCasts_S1x256x64_S256x64) (bQcol x)
          (constant S256x512 .f32 0x00000000#32)) (broadcast S256x512 (Scalar.ofBits .f32 0xF149F2CA#32)) := rfl
  rw [e]
  pointwise []
  simp only [bQcol_at]

theorem k0_pay7_at (x : Vec F S4x1x128 .f32) (l : Fin 512) :
    k0_pay7 (laneHead0 x) (laneHead1 x) (laneHead2 x) (laneHead3 x) (ix2 0 l) = x (ix3 (headOf l) 0 (queryOf l)) := bSink_at x l

end Cert.Proof.Swa
end
-- ==== Proof.Mask.lean ====
/-
  Which keys of its window a query sees, as both kernels work it out on 32-bit words: exactly the keys at the query's own
  position and the 127 before it.
-/
module

public import proofs.«01_k».proof.Proof.Lanes
public import proofs.«01_k».proof.Proof.Spec

@[expose] public section

set_option maxRecDepth 16384

noncomputable section

namespace Cert.Proof.Swa

open Cert.KernelIdeal Cert.KernelIdeal.Gen
open Idealize.ShloMosaic

/-- A lane's query, as the kernels compute it. -/
theorem lane_word : ∀ l : Fin 512,
    Scalar.select (IntOp.andi (IntOp.xori (IntOp.cmpi CmpIPredicate.slt (IntOp.remsi ArithUnit.vector (BitVec.ofNat 32 l.val)
        (Scalar.select (Scalar.cmpi CmpIPredicate.eq 128#32 0#32) 1#32 128#32)) 0#32)
      (Scalar.cmpi CmpIPredicate.slt (Scalar.select (Scalar.cmpi CmpIPredicate.eq 128#32 0#32) 1#32 128#32) 0#32))
      (IntOp.cmpi CmpIPredicate.ne (IntOp.remsi ArithUnit.vector (BitVec.ofNat 32 l.val)
        (Scalar.select (Scalar.cmpi CmpIPredicate.eq 128#32 0#32) 1#32 128#32)) 0#32))
      (IntOp.addi (IntOp.remsi ArithUnit.vector (BitVec.ofNat 32 l.val) (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 l.val) (Scalar.select (Scalar.cmpi CmpIPredicate.eq 128#32 0#32) 1#32 128#32))
      = BitVec.ofNat 32 (l.val % 128) := by
  decide +kernel

/-- How far the window starts before the block: not at all for the first block, 128 rows for the others. -/
theorem shift_word : ∀ n : Fin 64,
    Scalar.subi (Scalar.muli (Scalar.maxsi (Scalar.subi (BitVec.ofNat 32 n.val) 1#32) 0#32) 128#32) (Scalar.muli (BitVec.ofNat 32 n.val) 128#32)
      = if n.val = 0 then 0#32 else 4294967168#32 := by
  decide +kernel

/-- A difference of two small words, out of their distance alone. -/
theorem sub_word (b : Fin 256) (q : Fin 128) :
    IntOp.subi (BitVec.ofNat 32 b.val) (BitVec.ofNat 32 q.val) = IntOp.subi (BitVec.ofNat 32 (b.val + 128 - q.val)) 128#32 := by
  apply BitVec.eq_of_toNat_eq
  simp only [IntOp.subi, BitVec.toNat_sub, BitVec.toNat_ofNat]
  omega

/-- The comparison of a key and a query at the distance `r - 128`, with the first block's shift. -/
theorem near_first : ∀ r : Fin 384,
    IntOp.andi (IntOp.cmpi CmpIPredicate.sle (IntOp.addi (IntOp.subi (BitVec.ofNat 32 r.val) 128#32) 0#32) 0#32)
      (IntOp.cmpi CmpIPredicate.sgt (IntOp.addi (IntOp.subi (BitVec.ofNat 32 r.val) 128#32) 0#32) 4294967168#32)
      = if r.val ≤ 128 ∧ 0 < r.val then 1#1 else 0#1 := by
  decide +kernel

/-- The same with a later block's shift. -/
theorem near_later : ∀ r : Fin 384,
    IntOp.andi (IntOp.cmpi CmpIPredicate.sle (IntOp.addi (IntOp.subi (BitVec.ofNat 32 r.val) 128#32) 4294967168#32) 0#32)
      (IntOp.cmpi CmpIPredicate.sgt (IntOp.addi (IntOp.subi (BitVec.ofNat 32 r.val) 128#32) 4294967168#32) 4294967168#32)
      = if r.val ≤ 256 ∧ 128 < r.val then 1#1 else 0#1 := by
  decide +kernel

theorem seen (n : Fin 64) (b : Fin 256) (q : Fin 128) :
    IntOp.andi (IntOp.cmpi CmpIPredicate.sle (IntOp.addi (IntOp.subi (BitVec.ofNat 32 b.val) (BitVec.ofNat 32 q.val)) (if n.val = 0 then 0#32 else 4294967168#32)) 0#32)
      (IntOp.cmpi CmpIPredicate.sgt (IntOp.addi (IntOp.subi (BitVec.ofNat 32 b.val) (BitVec.ofNat 32 q.val)) (if n.val = 0 then 0#32 else 4294967168#32)) 4294967168#32)
      = if Sees (pos n q) (winKey n b) then 1#1 else 0#1 := by
  by_cases hn : n.val = 0
  · rw [if_pos hn, sub_word, near_first ⟨b.val + 128 - q.val, by omega⟩]
    exact if_congr (by simp only [Sees, pos, winKey, keyStart]; omega) rfl rfl
  · rw [if_neg hn, sub_word, near_later ⟨b.val + 128 - q.val, by omega⟩]
    exact if_congr (by simp only [Sees, pos, winKey, keyStart]; omega) rfl rfl

theorem k0_mask_at (i : grid0.Coords) (n : Fin 64) (hn : n.val = (i 1).val) (b : Fin 256) (l : Fin 512) :
    k0_pay4 i (ix2 b l) = if Sees (pos n (queryOf l)) (winKey n b) then 1#1 else 0#1 := by
  refine Eq.trans ?_ (seen n b (queryOf l))
  pointwise [k0_pay4]
  rw [lane_word, ← hn, shift_word]
  rfl

theorem k1_mask_at (i : grid1.Coords) (n : Fin 64) (hn : n.val = (i 1).val) (b : Fin 256) (l : Fin 512) :
    k1_pay5 i (ix2 b l) = if Sees (pos n (queryOf l)) (winKey n b) then 1#1 else 0#1 := by
  refine Eq.trans ?_ (seen n b (queryOf l))
  pointwise [k1_pay5]
  rw [lane_word, ← hn, shift_word]
  rfl

end Cert.Proof.Swa
end
-- ==== Proof.FwdValue.lean ====
/-
  The forward kernel's point over the extended reals: on real operands it leaves the attention's output and the logarithm of
  its normalizer.
-/
module

public import proofs.«01_k».proof.Proof.Mask
public import proofs.«01_k».proof.Proof.Offsets
public import proofs.«01_k».proof.Proof.Extended

@[expose] public section

set_option maxRecDepth 16384

noncomputable section

namespace Cert.Proof.Swa

open Cert.KernelIdeal Cert.KernelIdeal.Gen
open Idealize.ShloMosaic

/-- The key row a point's window shows at `b`. -/
theorem window_row (off : Fin 3 → ℕ) (inb) (x1 : Vec Ideal S1x8192x64 .bf16) (n : Fin 64) (ho : off = ![0, 128 * (n.val - 1), 0]) (b : Fin 256) (d : Fin 64) :
    View.ld (Val := Elt Ideal) x1 (Rect.unit (s := S1x8192x64) off S1x256x64.size inb) (ix3 0 b d) = x1 (ix3 0 (winKey n b) d) := by
  subst ho
  pointwise []
  rfl

/-- The tile a point's window shows. -/
theorem window_tile (off : Fin 4 → ℕ) (inb) (x2 : Vec Ideal S1x64x64x128 .bf16) (j : Fin 64) (ho : off = ![0, j.val, 0, 0]) (d : Fin 64) (q : Fin 128) :
    View.ld (Val := Elt Ideal) x2 (Rect.unit (s := S1x64x64x128) off S1x1x64x128.size inb) (ix4 0 0 d q) = x2 (ix4 0 j d q) := by
  subst ho
  pointwise []

theorem k0_pay13_at (v : FVec Ideal S1x512 .f32) (w : FVec Ideal S256x512 .bf16) (y z : Vec Ideal S1x1x64x128 .bf16) (d : Fin 64) (l : Fin 512) :
    k0_pay13 v w y z (ix2 d l)
      = Ideal.div (∑ q : Fin 128, y (ix4 0 0 d q) * w (ix2 ⟨q.val, by omega⟩ l) + ∑ q : Fin 128, z (ix4 0 0 d q) * w (ix2 ⟨128 + q.val, by omega⟩ l)) (v (ix2 0 l)) := by
  pointwise [k0_pay13]

theorem k0_pay14_at (v w : FVec Ideal S1x512 .f32) (l : Fin 512) : k0_pay14 v w (ix2 0 l) = v (ix2 0 l) + Ideal.log (w (ix2 0 l)) := by
  pointwise [k0_pay14]

/-- A sum over a window's two tiles is the sum over its keys. -/
theorem sum_tiles (n : Fin 64) (hn : n.val - 1 + 1 < 64) (f : Fin 8192 → ℝ) :
    ∑ q : Fin 128, f (pos ⟨n.val - 1, by omega⟩ q) + ∑ q : Fin 128, f (pos ⟨n.val - 1 + 1, hn⟩ q) = ∑ b : Fin 256, f (winKey n b) := by
  rw [Fin.sum_univ_add (a := 128) (b := 128) (fun b : Fin (128 + 128) => f (winKey n b))]
  congr 1

/-- What a point's blocks hold: group `h` of four heads, block `n` of 128 queries. -/
structure FwdIn (x : Operands) (h : Fin 4) (n : Fin 64) (x0 : Vec Ideal S4x64x128 .bf16) (x1 : Vec Ideal S1x8192x64 .bf16)
    (x2 : Vec Ideal S1x64x64x128 .bf16) (x3 : Vec Ideal S4x1x128 .f32) : Prop where
  q : ∀ g d q, x0 (ix3 g d q) = ((x.Q (pos n q) (headIx h g) d * (1 / 8) : ℝ) : EReal)
  k : ∀ k d, x1 (ix3 0 k d) = (x.K k h d : EReal)
  v : ∀ j d q, x2 (ix4 0 j d q) = (x.V (pos j q) h d : EReal)
  b : ∀ g q, x3 (ix3 g 0 q) = (x.B (headIx h g) : EReal)

section
variable {x : Operands} {h : Fin 4} {n : Fin 64} {x0 : Vec Ideal S4x64x128 .bf16} {x1 : Vec Ideal S1x8192x64 .bf16} {x2 : Vec Ideal S1x64x64x128 .bf16} {x3 : Vec Ideal S4x1x128 .f32}
  (H : FwdIn x h n x0 x1 x2 x3) (i : grid0.Coords) (hi : n.val = (i 1).val)
include H hi

theorem fScore_at (b : Fin 256) (l : Fin 512) :
    k0_pay8 (k0_pay4 i) (k0_pay5 (colHead0 x0)) (k0_pay6 (colHead1 x0)) (colHead2 x0) (colHead3 x0)
        (View.ld (Val := Elt Ideal) x1 (Rect.unit (s := S1x8192x64) (k0_off1 i) S1x256x64.size (k0_off1_inb i))) (ix2 b l)
      = if Sees (pos n (queryOf l)) (winKey n b) then (x.score h (headOf l) (pos n (queryOf l)) (winKey n b) : EReal)
        else Ideal.ofBits .f32 0xF149F2CA#32 := by
  rw [k0_pay8_at, k0_mask_at i n hi]
  have e : ∑ d : Fin 64, View.ld (Val := Elt Ideal) x1 (Rect.unit (s := S1x8192x64) (k0_off1 i) S1x256x64.size (k0_off1_inb i)) (ix3 0 b d) * x0 (ix3 (headOf l) d (queryOf l))
      = (x.score h (headOf l) (pos n (queryOf l)) (winKey n b) : EReal) := by
    rw [Operands.score, ← coe_sum]
    exact Finset.sum_congr rfl fun d _ => by
      rw [window_row _ _ x1 n (by rw [k0_off1_eq, hi]), H.k, H.q]; rfl
  rw [e]
  split <;> rfl

/-- The row's maximum is a real number. -/
theorem fMax_at (l : Fin 512) : ∃ m : ℝ, fMax i x0 x1 x3 (ix2 0 l) = (m : EReal) := by
  obtain ⟨m, hm⟩ := max_real (fun b : Fin 256 => if Sees (pos n (queryOf l)) (winKey n b) then (x.score h (headOf l) (pos n (queryOf l)) (winKey n b) : EReal)
        else Ideal.ofBits .f32 0xF149F2CA#32) (fun b => by split; exacts [EReal.coe_ne_top _, ofBits_masked_ne_top]) (x.B (headIx h (headOf l)))
  refine ⟨m, Eq.trans ?_ hm⟩
  pointwise [fMax, k0_pay9, k0_pay7_at]
  rw [H.b, ofBits_bot]
  congr 2
  funext b
  exact fScore_at H i hi b l

/-- The unnormalized probabilities, against any real maximum. -/
theorem fProb_at (b : Fin 256) (l : Fin 512) (m : ℝ) (hm : fMax i x0 x1 x3 (ix2 0 l) = (m : EReal)) :
    fProb i x0 x1 x3 (ix2 b l) = ((x.weight h (headOf l) (pos n (queryOf l)) (winKey n b) * Real.exp (-m) : ℝ) : EReal) := by
  have hm' := hm
  unfold fMax at hm'
  pointwise [fProb, k0_pay12, k0_pay10]
  erw [hm', fScore_at H i hi b l, k0_mask_at i n hi]
  unfold Operands.weight
  split
  · rw [coe_sub]
    show ((Real.exp _ : ℝ) : EReal) = _
    rw [sub_eq_add_neg, Real.exp_add]
  · simp [Scalar.select]

theorem fSum_at (l : Fin 512) (m : ℝ) (hm : fMax i x0 x1 x3 (ix2 0 l) = (m : EReal)) :
    fSum i x0 x1 x3 (ix2 0 l) = ((x.total h (headOf l) (pos n (queryOf l)) * Real.exp (-m) : ℝ) : EReal) := by
  have hm' := hm
  unfold fMax at hm'
  have e : fSum i x0 x1 x3 (ix2 0 l) = ∑ b : Fin 256, fProb i x0 x1 x3 (ix2 b l)
      + Ideal.exp (k0_pay7 (laneHead0 x3) (laneHead1 x3) (laneHead2 x3) (laneHead3 x3) (ix2 0 l) - fMax i x0 x1 x3 (ix2 0 l)) := by
    pointwise [fSum, fProb, fMax, k0_pay11, k0_pay12]
    try rfl
  rw [e, hm, k0_pay7_at, H.b, coe_sub, Ideal.exp_coe]
  simp only [fProb_at H i hi _ l m hm]
  rw [coe_sum, coe_add, Operands.total, add_mul, Operands.sinkWeight, sub_eq_add_neg, Real.exp_add,
    sum_winKey n (queryOf l) (fun k => x.weight h (headOf l) (pos n (queryOf l)) k) (fun k hk => if_neg hk), Finset.sum_mul]

/-- The attention's output. -/
theorem fOut_at (d : Fin 64) (l : Fin 512) :
    fOut i x0 x1 x2 x3 (ix2 d l) = (x.out h (headOf l) (pos n (queryOf l)) d : EReal) := by
  obtain ⟨m, hm⟩ := fMax_at H i hi l
  have hw := fProb_at H i hi
  unfold fOut
  rw [k0_pay13_at, fSum_at H i hi l m hm]
  simp only [hw _ l m hm, window_tile (k0_off2 i) (k0_off2_inb i) x2 ⟨n.val - 1, by omega⟩ (by rw [k0_off2_eq, ← hi]), window_tile (k0_off3 i) (k0_off3_inb i) x2 ⟨n.val - 1 + 1, by omega⟩ (by rw [k0_off3_eq, ← hi]), H.v, coe_mul, coe_sum, coe_add]
  rw [coe_div _ _ (mul_pos (x.total_pos _ _ _) (Real.exp_pos _)).ne']
  refine congrArg Real.toEReal ?_
  have e := sum_tiles n (by omega) (fun k => x.V k h d * (x.weight h (headOf l) (pos n (queryOf l)) k * Real.exp (-m)))
  have e1 : ∀ q : Fin 128, winKey n ⟨q.val, by omega⟩ = pos ⟨n.val - 1, by omega⟩ q := fun q => rfl
  have e2 : ∀ q : Fin 128, winKey n ⟨128 + q.val, by omega⟩ = pos ⟨n.val - 1 + 1, by omega⟩ q := fun q =>
    Fin.ext (by simp only [winKey, pos, keyStart]; omega)
  simp only [e1, e2]
  rw [e, ← sum_winKey n (queryOf l) (fun k => x.V k h d * (x.weight h (headOf l) (pos n (queryOf l)) k * Real.exp (-m)))
    (fun k hk => by rw [Operands.weight, if_neg hk]; ring), Operands.out, Finset.sum_div]
  refine Finset.sum_congr rfl fun k _ => ?_
  rw [Operands.prob]
  have h1 := (x.total_pos h (headOf l) (pos n (queryOf l))).ne'
  have h2 := (Real.exp_pos (-m)).ne'
  field_simp

/-- The logarithm of the normalizer. -/
theorem fLse_at (l : Fin 512) : fLse i x0 x1 x3 (ix2 0 l) = (Real.log (x.total h (headOf l) (pos n (queryOf l))) : EReal) := by
  obtain ⟨m, hm⟩ := fMax_at H i hi l
  unfold fLse
  rw [k0_pay14_at, fSum_at H i hi l m hm, hm]
  have hp := mul_pos (x.total_pos h (headOf l) (pos n (queryOf l))) (Real.exp_pos (-m))
  rw [show Ideal.log ((_ : ℝ) : EReal) = _ from if_neg (not_le.2 hp), coe_add, Real.log_mul (x.total_pos _ _ _).ne' (Real.exp_pos _).ne', Real.log_exp]
  exact congrArg Real.toEReal (by ring)

end

end Cert.Proof.Swa
end
-- ==== Proof.FwdArrays.lean ====
/-
  What the forward call leaves: the attention's output and the logarithm of its normalizer, at every index.
-/
module

public import proofs.«01_k».proof.Proof.HostIn
public import proofs.«01_k».proof.Proof.FwdValue
public import proofs.«01_k».proof.Proof.Lanes
public import Idealize.ShloMosaic.Lib.Pipeline.ValueKit

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.ShloMosaic.Pipeline (Dat)

/-- The key head a grid point works for. -/
def headOfPoint (t : Fin 256) : Fin 4 := ⟨t.val / 64, by omega⟩
/-- The query block a grid point works on. -/
def blockOfPoint (t : Fin 256) : Fin 64 := ⟨t.val % 64, by omega⟩
/-- The group a query head belongs to, and its place in the group. -/
def groupOf (a : Fin 16) : Fin 4 := ⟨a.val / 4, by omega⟩
def memberOf (a : Fin 16) : Fin 4 := ⟨a.val % 4, by omega⟩

@[simp] theorem groupOf_headIx (h g : Fin 4) : groupOf (headIx h g) = h := Fin.ext (by show (4 * h.val + g.val) / 4 = h.val; omega)
@[simp] theorem memberOf_headIx (h g : Fin 4) : memberOf (headIx h g) = g := Fin.ext (by show (4 * h.val + g.val) % 4 = g.val; omega)
theorem headIx_of (a : Fin 16) : headIx (groupOf a) (memberOf a) = a := Fin.ext (by show 4 * (a.val / 4) + a.val % 4 = a.val; omega)

theorem fIndex : ∀ t : Fin cfg0.N, win0_0.index t = ![t.val / 64, 0, t.val % 64] ∧ win0_1.index t = ![t.val / 64, 0, 0]
    ∧ win0_2.index t = ![t.val / 64, 0, 0, 0] ∧ win0_3.index t = ![t.val / 64, 0, 0]
    ∧ win0_4.index t = ![t.val / 64, 0, t.val % 64] ∧ win0_5.index t = ![t.val / 64, 0, t.val % 64]
    ∧ ((grid0.coords t) 1).val = t.val % 64 := by decide +kernel

variable (m : (ℓ : Loc nD τ sig) → Buf (Elt Ideal) ℓ) (c : Dev nD)

/-! ### The blocks a point is shown -/

theorem fBlk0_at (V : Dev nD → Valuation τ sig (Elt Ideal)) (t : Fin 256) (g : Fin 4) (d : Fin 64) (q : Fin 128) :
    fBlk V c 0 t (ix3 (n0 := 4) (n1 := 64) (n2 := 128) g d q)
      = V c (Proc.devRef .tc main_v13) (ix3 (n0 := 16) (n1 := 64) (n2 := 8192) (headIx (headOfPoint t) g) d (pos (blockOfPoint t) q)) := by
  have e := fIndex t
  unfold headIx pos headOfPoint blockOfPoint
  blk_ext [fBlk, e.1]

theorem fBlk1_at (V : Dev nD → Valuation τ sig (Elt Ideal)) (t : Fin 256) (k : Fin 8192) (d : Fin 64) :
    fBlk V c 1 t (ix3 (n0 := 1) (n1 := 8192) (n2 := 64) 0 k d)
      = V c (Proc.devRef .tc main_v17) (ix3 (n0 := 4) (n1 := 8192) (n2 := 64) (headOfPoint t) k d) := by
  have e := fIndex t
  unfold headOfPoint
  blk_ext [fBlk, e.2.1]

theorem fBlk2_at (V : Dev nD → Valuation τ sig (Elt Ideal)) (t : Fin 256) (j : Fin 64) (d : Fin 64) (q : Fin 128) :
    fBlk V c 2 t (ix4 (n0 := 1) (n1 := 64) (n2 := 64) (n3 := 128) 0 j d q)
      = V c (Proc.devRef .tc main_v23) (ix4 (n0 := 4) (n1 := 64) (n2 := 64) (n3 := 128) (headOfPoint t) j d q) := by
  have e := fIndex t
  unfold headOfPoint
  blk_ext [fBlk, e.2.2.1]

theorem fBlk3_at (V : Dev nD → Valuation τ sig (Elt Ideal)) (t : Fin 256) (g : Fin 4) (q : Fin 128) :
    fBlk V c 3 t (ix3 (n0 := 4) (n1 := 1) (n2 := 128) g 0 q)
      = V c (Proc.devRef .tc main_v11) (ix3 (n0 := 16) (n1 := 1) (n2 := 128) (headIx (headOfPoint t) g) 0 q) := by
  have e := fIndex t
  unfold headIx headOfPoint
  blk_ext [fBlk, e.2.2.2.1]

variable {x : Operands} {m c} (L : Launched x m c)
include L

theorem fwdIn (t : Fin 256) : FwdIn x (headOfPoint t) (blockOfPoint t) (fBlk (W1 m) c 0 t) (fBlk (W1 m) c 1 t) (fBlk (W1 m) c 2 t) (fBlk (W1 m) c 3 t) where
  q g d q := (fBlk0_at c (W1 m) t g d q).trans (v13_at L _ _ _)
  k k d := (fBlk1_at c (W1 m) t k d).trans (v17_at L _ _ _)
  v j d q := (fBlk2_at c (W1 m) t j d q).trans (v23_at L _ _ _ _)
  b g q := (fBlk3_at c (W1 m) t g q).trans (v11_at L _ _)

/-! ### The two results -/

theorem v24_0_at (a : Fin 16) (d : Fin 64) (t : Fin 8192) :
    W2 m c (Proc.devRef .tc main_v24_0) (ix3 (n0 := 16) (n1 := 64) (n2 := 8192) a d t)
      = (x.out (groupOf a) (memberOf a) t d : EReal) := by
  have key : (fDat (W1 m) c).arrAt 4 cfg0.N
      = fun y : S16x64x8192.Idx => (x.out (groupOf (y 0)) (memberOf (y 0)) (y 2) (y 1) : EReal) := by
    refine (fDat (W1 m) c).arrAt_eq_of_covers 4 _ (by decide +kernel) fun t hf y => ?_
    have e := fIndex t
    blk_simp
    rw [fAfter4]
    obtain ⟨g, d, q, rfl⟩ : ∃ (g : Fin 4) (d : Fin 64) (q : Fin 128), y = ix3 g d q := ⟨y 0, y 1, y 2, (ix3_eta y).symm⟩
    have ep : (win0_4.blk t).view.emb (ix3 (n0 := 4) (n1 := 64) (n2 := 128) g d q)
        = ix3 (n0 := 16) (n1 := 64) (n2 := 8192) (headIx (headOfPoint t) g) d (pos (blockOfPoint t) q) := by
      unfold headIx pos headOfPoint blockOfPoint
      blk_ext [e.2.2.2.2.1]
    rw [ep, spreadCols_at, fOut_at (fwdIn L t) _ e.2.2.2.2.2.2.symm, headOf_lane, queryOf_lane]
    simp only [ix3_0, ix3_1, ix3_2, groupOf_headIx, memberOf_headIx]
  have := congrFun (Pipeline.afterRegion_arr (fDat (W1 m) c) (W1 m c) launch0.win.arr_inj 4) (ix3 (n0 := 16) (n1 := 64) (n2 := 8192) a d t)
  exact this.trans (congrFun key _)

theorem v24_1_at (a : Fin 16) (t : Fin 8192) :
    W2 m c (Proc.devRef .tc main_v24_1) (ix3 (n0 := 16) (n1 := 1) (n2 := 8192) a 0 t)
      = (Real.log (x.total (groupOf a) (memberOf a) t) : EReal) := by
  have key : (fDat (W1 m) c).arrAt 5 cfg0.N
      = fun y : S16x1x8192.Idx => (Real.log (x.total (groupOf (y 0)) (memberOf (y 0)) (y 2)) : EReal) := by
    refine (fDat (W1 m) c).arrAt_eq_of_covers 5 _ (by decide +kernel) fun t hf y => ?_
    have e := fIndex t
    blk_simp
    rw [fAfter5]
    obtain ⟨g, d, q, rfl⟩ : ∃ (g : Fin 4) (d : Fin 1) (q : Fin 128), y = ix3 g d q := ⟨y 0, y 1, y 2, (ix3_eta y).symm⟩
    obtain rfl : d = 0 := Subsingleton.elim _ _
    have ep : (win0_5.blk t).view.emb (ix3 (n0 := 4) (n1 := 1) (n2 := 128) g 0 q)
        = ix3 (n0 := 16) (n1 := 1) (n2 := 8192) (headIx (headOfPoint t) g) 0 (pos (blockOfPoint t) q) := by
      unfold headIx pos headOfPoint blockOfPoint
      blk_ext [e.2.2.2.2.2.1]
    rw [ep, spreadLanes_at, fLse_at (fwdIn L t) _ e.2.2.2.2.2.2.symm, headOf_lane, queryOf_lane]
    simp only [ix3_0, ix3_1, ix3_2, groupOf_headIx, memberOf_headIx]
  have := congrFun (Pipeline.afterRegion_arr (fDat (W1 m) c) (W1 m c) launch0.win.arr_inj 5) (ix3 (n0 := 16) (n1 := 1) (n2 := 8192) a 0 t)
  exact this.trans (congrFun key _)

end Cert.Proof.Swa
end
-- ==== Proof.BwdValue.lean ====
/-
  The backward kernel's point over the extended reals: from the output and the logarithm of the normalizer it leaves the
  query gradient, and adds the block's share to the key, value and sink gradients.
-/
module

public import proofs.«01_k».proof.Proof.FwdValue

@[expose] public section

set_option maxRecDepth 16384

noncomputable section

namespace Cert.Proof.Swa

open Cert.KernelIdeal Cert.KernelIdeal.Gen
open Idealize.ShloMosaic

/-! ### The payloads at an index -/

theorem k1_pay15_at (w : FVec Ideal S64x512 .bf16) (v : FVec Ideal S64x512 .f32) (l : Fin 512) :
    k1_pay15 w v (ix2 0 l) = ∑ d : Fin 64, v (ix2 d l) * w (ix2 d l) := by
  pointwise [k1_pay15]

theorem k1_pay16_at (m : IVec S256x512 1) (w : FVec Ideal S64x512 .bf16) (v : FVec Ideal S1x512 .f32) (y : Vec Ideal S1x256x64 .bf16) (b : Fin 256) (l : Fin 512) :
    k1_pay16 m w v y (ix2 b l) = Scalar.select (m (ix2 b l)) (Ideal.exp ((∑ d : Fin 64, y (ix3 0 b d) * w (ix2 d l)) - v (ix2 0 l))) 0 := by
  pointwise [k1_pay16]

theorem k1_pay17_at (m : IVec S256x512 1) (w w' : FVec Ideal S64x512 .bf16) (v : FVec Ideal S1x512 .f32) (o : FVec Ideal S64x512 .f32)
    (y z : Vec Ideal S1x256x64 .bf16) (b : Fin 256) (l : Fin 512) :
    k1_pay17 m w w' v o y z (ix2 b l) = k1_pay16 m w v y (ix2 b l) * ((∑ d : Fin 64, z (ix3 0 b d) * w' (ix2 d l)) - k1_pay15 w' o (ix2 0 l)) := by
  pointwise [k1_pay17]

theorem k1_pay18_at (m : IVec S256x512 1) (w w' : FVec Ideal S64x512 .bf16) (v : FVec Ideal S1x512 .f32) (o : FVec Ideal S64x512 .f32)
    (y z : Vec Ideal S1x256x64 .bf16) (u : Vec Ideal S1x1x64x128 .bf16) (d : Fin 64) (l : Fin 512) :
    k1_pay18 m w w' v o y z u (ix2 d l) = ∑ q : Fin 128, u (ix4 0 0 d q) * k1_pay17 m w w' v o y z (ix2 ⟨q.val, by omega⟩ l) := by
  pointwise [k1_pay18]

theorem k1_pay19_at (w : FVec Ideal S256x512 .bf16) (v : FVec Ideal S64x512 .f32) (u : Vec Ideal S1x1x64x128 .bf16) (d : Fin 64) (l : Fin 512) :
    k1_pay19 w v u (ix2 d l) = (v (ix2 d l) + ∑ q : Fin 128, u (ix4 0 0 d q) * w (ix2 ⟨128 + q.val, by omega⟩ l)) * Ideal.ofBits .f32 0x3E000000#32 := by
  pointwise [k1_pay19]

theorem k1_pay20_at (v w z : FVec Ideal S1x512 .f32) (l : Fin 512) :
    k1_pay20 v w z (ix2 0 l) = (0 - Ideal.exp (w (ix2 0 l) - v (ix2 0 l))) * z (ix2 0 l) := by
  pointwise [k1_pay20]

theorem k1_pay30_at (r : FVec Ideal S512x64 .bf16) (w : FVec Ideal S256x512 .bf16) (a : Vec Ideal S1x256x64 .f32) (b : Fin 256) (d : Fin 64) :
    k1_pay30 r w a (ix3 0 b d) = a (ix3 0 b d) + ∑ l : Fin 512, w (ix2 b l) * r (ix2 l d) := by
  pointwise [k1_pay30]

theorem k1_pay1_at (r : FVec Ideal S512x64 .bf16) (w : FVec Ideal S256x512 .f32) (a : Vec Ideal S1x256x64 .f32) (b : Fin 256) (d : Fin 64) :
    k1_pay1 r w a (ix3 0 b d) = a (ix3 0 b d) + ∑ l : Fin 512, w (ix2 b l) * r (ix2 l d) := by
  pointwise [k1_pay1]

/-- What a point's blocks hold: group `h` of four heads, block `n` of 128 queries. -/
structure BwdIn (x : Operands) (h : Fin 4) (n : Fin 64) (x0 : Vec Ideal S4x64x128 .bf16) (x1 : Vec Ideal S4x128x64 .bf16) (x2 : Vec Ideal S1x8192x64 .bf16)
    (x3 : Vec Ideal S1x64x64x128 .bf16) (x4 : Vec Ideal S1x8192x64 .bf16) (x5 : Vec Ideal S4x1x128 .f32) (x6 : Vec Ideal S4x64x128 .f32)
    (x7 : Vec Ideal S4x128x64 .bf16) (x8 : Vec Ideal S4x64x128 .bf16) (x9 : Vec Ideal S4x1x128 .f32) : Prop where
  qcol : ∀ g d q, x0 (ix3 g d q) = ((x.Q (pos n q) (headIx h g) d * (1 / 8) : ℝ) : EReal)
  qrow : ∀ g q d, x1 (ix3 g q d) = ((x.Q (pos n q) (headIx h g) d * (1 / 8) : ℝ) : EReal)
  k : ∀ k d, x2 (ix3 0 k d) = (x.K k h d : EReal)
  kt : ∀ j d q, x3 (ix4 0 j d q) = (x.K (pos j q) h d : EReal)
  v : ∀ k d, x4 (ix3 0 k d) = (x.V k h d : EReal)
  b : ∀ g q, x5 (ix3 g 0 q) = (x.B (headIx h g) : EReal)
  o : ∀ g d q, x6 (ix3 g d q) = (x.out h g (pos n q) d : EReal)
  gcol : ∀ g d q, x8 (ix3 g d q) = (x.G (pos n q) (headIx h g) d : EReal)
  grow : ∀ g q d, x7 (ix3 g q d) = (x.G (pos n q) (headIx h g) d : EReal)
  lse : ∀ g q, x9 (ix3 g 0 q) = (Real.log (x.total h g (pos n q)) : EReal)

section
variable {x : Operands} {h : Fin 4} {n : Fin 64} {x0 : Vec Ideal S4x64x128 .bf16} {x1 : Vec Ideal S4x128x64 .bf16} {x2 : Vec Ideal S1x8192x64 .bf16}
    {x3 : Vec Ideal S1x64x64x128 .bf16} {x4 : Vec Ideal S1x8192x64 .bf16} {x5 : Vec Ideal S4x1x128 .f32} {x6 : Vec Ideal S4x64x128 .f32}
    {x7 : Vec Ideal S4x128x64 .bf16} {x8 : Vec Ideal S4x64x128 .bf16} {x9 : Vec Ideal S4x1x128 .f32}
  (H : BwdIn x h n x0 x1 x2 x3 x4 x5 x6 x7 x8 x9) (i : grid1.Coords) (hi : n.val = (i 1).val)
include H

theorem bDelta_at (l : Fin 512) : bDelta x6 x8 (ix2 0 l) = (x.delta h (headOf l) (pos n (queryOf l)) : EReal) := by
  unfold bDelta
  rw [k1_pay15_at, Operands.delta, ← coe_sum]
  exact Finset.sum_congr rfl fun d _ => by rw [bOcol_at, bDoCol_at, H.o, H.gcol, coe_mul]

include hi

theorem bProb_at (b : Fin 256) (l : Fin 512) :
    bProb i x0 x2 x9 (ix2 b l) = (x.prob h (headOf l) (pos n (queryOf l)) (winKey n b) : EReal) := by
  unfold bProb
  rw [k1_pay16_at, k1_mask_at i n hi, Operands.prob_eq]
  split
  · have e : ∑ d : Fin 64, View.ld (Val := Elt Ideal) x2 (Rect.unit (s := S1x8192x64) (k1_off1 i) S1x256x64.size (k1_off1_inb i)) (ix3 0 b d) * bQcol x0 (ix2 d l)
        = (x.score h (headOf l) (pos n (queryOf l)) (winKey n b) : EReal) := by
      rw [Operands.score, ← coe_sum]
      exact Finset.sum_congr rfl fun d _ => by
        rw [window_row _ _ x2 n (by rw [k1_off1_eq, hi]), H.k, bQcol_at, H.qcol, coe_mul]
    rw [e, bLse_at, H.lse, coe_sub]
    show ((Real.exp _ : ℝ) : EReal) = _
    rw [Real.exp_sub, Real.exp_log (x.total_pos _ _ _)]
  · rfl

theorem bDs_at (b : Fin 256) (l : Fin 512) :
    bDs i x0 x2 x4 x6 x8 x9 (ix2 b l) = (x.dscore h (headOf l) (pos n (queryOf l)) (winKey n b) : EReal) := by
  have e1 := bProb_at H i hi b l
  have e2 := bDelta_at H l
  unfold bProb at e1
  unfold bDelta at e2
  unfold bDs
  rw [k1_pay17_at, e1, e2]
  have e : ∑ d : Fin 64, View.ld (Val := Elt Ideal) x4 (Rect.unit (s := S1x8192x64) (k1_off1 i) S1x256x64.size (k1_off1_inb i)) (ix3 0 b d) * bDoCol x8 (ix2 d l)
      = (x.dprob h (headOf l) (pos n (queryOf l)) (winKey n b) : EReal) := by
    rw [Operands.dprob, ← coe_sum]
    exact Finset.sum_congr rfl fun d _ => by
      rw [window_row _ _ x4 n (by rw [k1_off1_eq, hi]), H.v, bDoCol_at, H.gcol, coe_mul]
  rw [e, coe_sub, coe_mul, Operands.dscore]

/-- The query gradient. -/
theorem bDq_at (d : Fin 64) (l : Fin 512) :
    bDq i x0 x2 x3 x4 x6 x8 x9 (ix2 d l) = (x.dQ h (headOf l) (pos n (queryOf l)) d : EReal) := by
  have e0 := bDs_at H i hi
  have e0' := e0
  unfold bDs at e0'
  unfold bDq
  rw [k1_pay19_at, k1_pay18_at, ofBits_eighth]
  simp only [e0, e0', window_tile (k1_off2 i) (k1_off2_inb i) x3 ⟨n.val - 1, by omega⟩ (by rw [k1_off2_eq, ← hi]),
    window_tile (k1_off3 i) (k1_off3_inb i) x3 ⟨n.val - 1 + 1, by omega⟩ (by rw [k1_off3_eq, ← hi]), H.kt, coe_mul, coe_sum, coe_add]
  refine congrArg Real.toEReal ?_
  have e := sum_tiles n (by omega) (fun k => x.K k h d * x.dscore h (headOf l) (pos n (queryOf l)) k)
  have e1 : ∀ q : Fin 128, winKey n ⟨q.val, by omega⟩ = pos ⟨n.val - 1, by omega⟩ q := fun q => rfl
  have e2 : ∀ q : Fin 128, winKey n ⟨128 + q.val, by omega⟩ = pos ⟨n.val - 1 + 1, by omega⟩ q := fun q =>
    Fin.ext (by simp only [winKey, pos, keyStart]; omega)
  simp only [e1, e2]
  rw [e, ← sum_winKey n (queryOf l) (fun k => x.K k h d * x.dscore h (headOf l) (pos n (queryOf l)) k)
    (fun k hk => by rw [Operands.dscore_of_not _ _ _ _ _ hk, mul_zero]), Operands.dQ]

omit hi

/-- The sink gradient's share, lane by lane. -/
theorem bDsink_at (l : Fin 512) : bDsink x5 x6 x8 x9 (ix2 0 l)
    = ((-(x.sinkWeight h (headOf l) / x.total h (headOf l) (pos n (queryOf l)) * x.delta h (headOf l) (pos n (queryOf l))) : ℝ) : EReal) := by
  unfold bDsink
  rw [k1_pay20_at, bDelta_at H l, bSink_at, bLse_at, H.b, H.lse, coe_sub, Ideal.exp_coe, ← EReal.coe_zero, coe_sub, coe_mul]
  refine congrArg Real.toEReal ?_
  rw [Real.exp_sub, Real.exp_log (x.total_pos _ _ _), Operands.sinkWeight]
  ring

include hi

/-- The key gradient's share: a row of the block's window gets its queries' contributions. -/
theorem dkShare_at (b : Fin 256) (d : Fin 64) :
    ∑ l : Fin 512, bDs i x0 x2 x4 x6 x8 x9 (ix2 b l) * bQrow x1 (ix2 l d)
      = ((∑ q : Fin 128, ∑ g : Fin 4, x.dscore h g (pos n q) (winKey n b) * (x.Q (pos n q) (headIx h g) d * (1 / 8)) : ℝ) : EReal) := by
  simp only [bDs_at H i hi, bQrow_at, H.qrow, coe_mul, coe_sum]
  rw [sum_lanes, Finset.sum_comm]
  simp only [headOf_lane, queryOf_lane]

/-- The value gradient's share. -/
theorem dvShare_at (b : Fin 256) (d : Fin 64) :
    ∑ l : Fin 512, bProb i x0 x2 x9 (ix2 b l) * bDoRow x7 (ix2 l d)
      = ((∑ q : Fin 128, ∑ g : Fin 4, x.prob h g (pos n q) (winKey n b) * x.G (pos n q) (headIx h g) d : ℝ) : EReal) := by
  simp only [bProb_at H i hi, bDoRow_at, H.grow, coe_mul, coe_sum]
  rw [sum_lanes, Finset.sum_comm]
  simp only [headOf_lane, queryOf_lane]

end

end Cert.Proof.Swa
end
-- ==== Proof.BwdShares.lean ====
/-
  One point's step of the three kept gradients, at every index: it adds the share of the point's 128 queries, which is zero
  on the keys outside the point's window because no query of the block sees them.
-/
module

public import proofs.«01_k».proof.Proof.BwdValue

@[expose] public section

set_option maxRecDepth 16384

noncomputable section

namespace Cert.Proof.Swa

open Cert.KernelIdeal Cert.KernelIdeal.Gen
open Idealize.ShloMosaic

/-- A key outside a block's window is seen by no query of the block. -/
theorem not_sees_of_outside (n : Fin 64) (q : Fin 128) (k : Fin 8192) (hk : ∀ b, k ≠ winKey n b) : ¬ Sees (pos n q) k := by
  intro hs
  have h1 : k.val ≤ 128 * n.val + q.val := hs.1
  have h2 : 128 * n.val + q.val < k.val + 128 := hs.2
  exact hk ⟨k.val - 128 * (n.val - 1), by omega⟩ (Fin.ext (by show k.val = keyStart n + _; unfold keyStart; dsimp only; omega))

/-- Block `n`'s share of the key gradient. -/
def Operands.dkPart (x : Operands) (h : Fin 4) (n : Fin 64) (k : Fin 8192) (d : Fin 64) : ℝ :=
  ∑ q : Fin 128, ∑ g : Fin 4, x.dscore h g (pos n q) k * (x.Q (pos n q) (headIx h g) d * (1 / 8))
/-- Block `n`'s share of the value gradient. -/
def Operands.dvPart (x : Operands) (h : Fin 4) (n : Fin 64) (k : Fin 8192) (d : Fin 64) : ℝ :=
  ∑ q : Fin 128, ∑ g : Fin 4, x.prob h g (pos n q) k * x.G (pos n q) (headIx h g) d
/-- A query's share of the sink gradient. -/
def Operands.dbPart (x : Operands) (h g : Fin 4) (t : Fin 8192) : ℝ := -(x.sinkWeight h g / x.total h g t * x.delta h g t)

theorem dkPart_outside (x : Operands) (h : Fin 4) (n : Fin 64) (k : Fin 8192) (d : Fin 64) (hk : ∀ b, k ≠ winKey n b) : x.dkPart h n k d = 0 :=
  Finset.sum_eq_zero fun q _ => Finset.sum_eq_zero fun g _ => by rw [x.dscore_of_not h g _ _ (not_sees_of_outside n q k hk), zero_mul]
theorem dvPart_outside (x : Operands) (h : Fin 4) (n : Fin 64) (k : Fin 8192) (d : Fin 64) (hk : ∀ b, k ≠ winKey n b) : x.dvPart h n k d = 0 :=
  Finset.sum_eq_zero fun q _ => Finset.sum_eq_zero fun g _ => by rw [x.prob_of_not h g _ _ (not_sees_of_outside n q k hk), zero_mul]

/-- Rows of a window put back with an addition: every row is added to, the rows outside by zero. -/
theorem put_rows (a : Vec Ideal S1x8192x64 .f32) (n : Fin 64) (off : Fin 3 → ℕ) (ho : off = ![0, 128 * (n.val - 1), 0]) (w : Vec Ideal S1x256x64 .f32)
    (f : Fin 8192 → EReal) (k : Fin 8192) (d : Fin 64) (hin : ∀ b : Fin 256, w (ix3 0 b d) = a (ix3 0 (winKey n b) d) + f (winKey n b))
    (hout : (∀ b, k ≠ winKey n b) → f k = 0) :
    VecWindow.put (s := S1x8192x64) a off S1x256x64.size w (ix3 (n0 := 1) (n1 := 8192) (n2 := 64) 0 k d)
      = (a (ix3 (n0 := 1) (n1 := 8192) (n2 := 64) 0 k d) + f k : EReal) := by
  subst ho
  unfold VecWindow.put
  by_cases hk : ∃ b, k = winKey n b
  · obtain ⟨b, rfl⟩ := hk
    rw [dif_pos]
    · rw [← hin b]
      refine congrArg w (funext fun ax => Fin.ext ?_)
      match ax with
      | ⟨0, _⟩ => rfl
      | ⟨1, _⟩ => exact Nat.add_sub_cancel_left (128 * (n.val - 1)) b.val
      | ⟨2, _⟩ => rfl
    · intro ax
      match ax with
      | ⟨0, _⟩ => exact ⟨Nat.le_refl _, Nat.zero_lt_one⟩
      | ⟨1, _⟩ => exact ⟨Nat.le_add_right _ _, Nat.add_lt_add_left b.isLt _⟩
      | ⟨2, _⟩ => exact ⟨Nat.zero_le _, by simpa using d.isLt⟩
  · rw [dif_neg, hout (fun b e => hk ⟨b, e⟩), add_zero]
    intro hh
    have h1 : 128 * (n.val - 1) ≤ k.val ∧ k.val < 128 * (n.val - 1) + 256 := hh 1
    exact hk ⟨⟨k.val - 128 * (n.val - 1), by omega⟩, Fin.ext (by show k.val = keyStart n + _; unfold keyStart; dsimp only; omega)⟩

/-- The gradient rows a point's window shows. -/
theorem window_rowf (off : Fin 3 → ℕ) (inb) (a : Vec Ideal S1x8192x64 .f32) (n : Fin 64) (ho : off = ![0, 128 * (n.val - 1), 0]) (b : Fin 256) (d : Fin 64) :
    View.ld (Val := Elt Ideal) a (Rect.unit (s := S1x8192x64) off S1x256x64.size inb) (ix3 0 b d) = a (ix3 0 (winKey n b) d) := by
  subst ho
  pointwise []
  rfl

section
variable {x : Operands} {h : Fin 4} {n : Fin 64} {x0 : Vec Ideal S4x64x128 .bf16} {x1 : Vec Ideal S4x128x64 .bf16} {x2 : Vec Ideal S1x8192x64 .bf16}
    {x3 : Vec Ideal S1x64x64x128 .bf16} {x4 : Vec Ideal S1x8192x64 .bf16} {x5 : Vec Ideal S4x1x128 .f32} {x6 : Vec Ideal S4x64x128 .f32}
    {x7 : Vec Ideal S4x128x64 .bf16} {x8 : Vec Ideal S4x64x128 .bf16} {x9 : Vec Ideal S4x1x128 .f32}
  (H : BwdIn x h n x0 x1 x2 x3 x4 x5 x6 x7 x8 x9) (i : grid1.Coords) (hi : n.val = (i 1).val)
include H

theorem addDsink_at (a : Vec Ideal S4x1x128 .f32) (g : Fin 4) (q : Fin 128) :
    addDsink x5 x6 x8 x9 a (ix3 g 0 q) = a (ix3 g 0 q) + (x.dbPart h g (pos n q) : EReal) := by
  have e := bDsink_at H (lane g q)
  rw [headOf_lane, queryOf_lane] at e
  unfold addDsink Operands.dbPart
  exact congrArg (a (ix3 g 0 q) + ·) e

include hi

theorem addDk_at (a : Vec Ideal S1x8192x64 .f32) (k : Fin 8192) (d : Fin 64) :
    addDk i x0 x1 x2 x4 x6 x8 x9 a (ix3 0 k d) = a (ix3 0 k d) + (x.dkPart h n k d : EReal) := by
  unfold addDk
  refine put_rows a n _ (by rw [k1_off1_eq, ← hi]) _ (fun k => (x.dkPart h n k d : EReal)) k d (fun b => ?_)
    (fun hk => by rw [dkPart_outside x h n k d hk, EReal.coe_zero])
  rw [k1_pay30_at, dkShare_at H i hi b d, window_rowf (k1_off1 i) (k1_off1_inb i) a n (by rw [k1_off1_eq, ← hi])]
  rfl

theorem addDv_at (a : Vec Ideal S1x8192x64 .f32) (k : Fin 8192) (d : Fin 64) :
    addDv i x0 x2 x7 x9 a (ix3 0 k d) = a (ix3 0 k d) + (x.dvPart h n k d : EReal) := by
  unfold addDv
  refine put_rows a n _ (by rw [k1_off1_eq, ← hi]) _ (fun k => (x.dvPart h n k d : EReal)) k d (fun b => ?_)
    (fun hk => by rw [dvPart_outside x h n k d hk, EReal.coe_zero])
  rw [k1_pay1_at, dvShare_at H i hi b d, window_rowf (k1_off1 i) (k1_off1_inb i) a n (by rw [k1_off1_eq, ← hi])]
  rfl

end

end Cert.Proof.Swa
end
-- ==== Proof.BwdBlocks.lean ====
/-
  The blocks the backward call shows at every point, when the arguments are reals.
-/
module

public import proofs.«01_k».proof.Proof.FwdArrays
public import proofs.«01_k».proof.Proof.BwdShares

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.ShloMosaic.Pipeline (Dat)

theorem bIndex0 : ∀ t : Fin cfg1.N, win1_0.index t = ![t.val / 64, 0, t.val % 64] := by decide +kernel
theorem bIndex1 : ∀ t : Fin cfg1.N, win1_1.index t = ![t.val / 64, t.val % 64, 0] := by decide +kernel
theorem bIndex2 : ∀ t : Fin cfg1.N, win1_2.index t = ![t.val / 64, 0, 0] := by decide +kernel
theorem bIndex3 : ∀ t : Fin cfg1.N, win1_3.index t = ![t.val / 64, 0, 0, 0] := by decide +kernel
theorem bIndex4 : ∀ t : Fin cfg1.N, win1_4.index t = ![t.val / 64, 0, 0] := by decide +kernel
theorem bIndex5 : ∀ t : Fin cfg1.N, win1_5.index t = ![t.val / 64, 0, 0] := by decide +kernel
theorem bIndex6 : ∀ t : Fin cfg1.N, win1_6.index t = ![t.val / 64, 0, t.val % 64] := by decide +kernel
theorem bIndex7 : ∀ t : Fin cfg1.N, win1_7.index t = ![t.val / 64, t.val % 64, 0] := by decide +kernel
theorem bIndex8 : ∀ t : Fin cfg1.N, win1_8.index t = ![t.val / 64, 0, t.val % 64] := by decide +kernel
theorem bIndex9 : ∀ t : Fin cfg1.N, win1_9.index t = ![t.val / 64, 0, t.val % 64] := by decide +kernel
theorem bIndex10 : ∀ t : Fin cfg1.N, win1_10.index t = ![t.val / 64, 0, t.val % 64] := by decide +kernel
theorem bIndex11 : ∀ t : Fin cfg1.N, win1_11.index t = ![t.val / 64, 0, 0] := by decide +kernel
theorem bIndex12 : ∀ t : Fin cfg1.N, win1_12.index t = ![t.val / 64, 0, 0] := by decide +kernel
theorem bIndex13 : ∀ t : Fin cfg1.N, win1_13.index t = ![t.val / 64, 0, 0] := by decide +kernel

section
variable (V : Dev nD → Valuation τ sig (Elt Ideal)) (c : Dev nD) (t : Fin 256)

theorem bBlk0_at (g : Fin 4) (d : Fin 64) (q : Fin 128) :
    bBlk V c 0 t (ix3 (n0 := 4) (n1 := 64) (n2 := 128) g d q) = V c (Proc.devRef .tc main_v13) (ix3 (n0 := 16) (n1 := 64) (n2 := 8192) (headIx (headOfPoint t) g) d (pos (blockOfPoint t) q)) := by
  have e := bIndex0 t
  unfold headIx pos headOfPoint blockOfPoint
  blk_ext [bBlk, e]
theorem bBlk1_at (g : Fin 4) (q : Fin 128) (d : Fin 64) :
    bBlk V c 1 t (ix3 (n0 := 4) (n1 := 128) (n2 := 64) g q d) = V c (Proc.devRef .tc main_v15) (ix3 (n0 := 16) (n1 := 8192) (n2 := 64) (headIx (headOfPoint t) g) (pos (blockOfPoint t) q) d) := by
  have e := bIndex1 t
  unfold headIx pos headOfPoint blockOfPoint
  blk_ext [bBlk, e]
theorem bBlk2_at (k : Fin 8192) (d : Fin 64) :
    bBlk V c 2 t (ix3 (n0 := 1) (n1 := 8192) (n2 := 64) 0 k d) = V c (Proc.devRef .tc main_v17) (ix3 (n0 := 4) (n1 := 8192) (n2 := 64) (headOfPoint t) k d) := by
  have e := bIndex2 t
  unfold headOfPoint
  blk_ext [bBlk, e]
theorem bBlk3_at (j : Fin 64) (d : Fin 64) (q : Fin 128) :
    bBlk V c 3 t (ix4 (n0 := 1) (n1 := 64) (n2 := 64) (n3 := 128) 0 j d q) = V c (Proc.devRef .tc main_v19) (ix4 (n0 := 4) (n1 := 64) (n2 := 64) (n3 := 128) (headOfPoint t) j d q) := by
  have e := bIndex3 t
  unfold headOfPoint
  blk_ext [bBlk, e]
theorem bBlk4_at (k : Fin 8192) (d : Fin 64) :
    bBlk V c 4 t (ix3 (n0 := 1) (n1 := 8192) (n2 := 64) 0 k d) = V c (Proc.devRef .tc main_v21) (ix3 (n0 := 4) (n1 := 8192) (n2 := 64) (headOfPoint t) k d) := by
  have e := bIndex4 t
  unfold headOfPoint
  blk_ext [bBlk, e]
theorem bBlk5_at (g : Fin 4) (q : Fin 128) :
    bBlk V c 5 t (ix3 (n0 := 4) (n1 := 1) (n2 := 128) g 0 q) = V c (Proc.devRef .tc main_v11) (ix3 (n0 := 16) (n1 := 1) (n2 := 128) (headIx (headOfPoint t) g) 0 q) := by
  have e := bIndex5 t
  unfold headIx headOfPoint
  blk_ext [bBlk, e]
theorem bBlk6_at (g : Fin 4) (d : Fin 64) (q : Fin 128) :
    bBlk V c 6 t (ix3 (n0 := 4) (n1 := 64) (n2 := 128) g d q) = V c (Proc.devRef .tc main_v24_0) (ix3 (n0 := 16) (n1 := 64) (n2 := 8192) (headIx (headOfPoint t) g) d (pos (blockOfPoint t) q)) := by
  have e := bIndex6 t
  unfold headIx pos headOfPoint blockOfPoint
  blk_ext [bBlk, e]
theorem bBlk7_at (g : Fin 4) (q : Fin 128) (d : Fin 64) :
    bBlk V c 7 t (ix3 (n0 := 4) (n1 := 128) (n2 := 64) g q d) = V c (Proc.devRef .tc main_v26) (ix3 (n0 := 16) (n1 := 8192) (n2 := 64) (headIx (headOfPoint t) g) (pos (blockOfPoint t) q) d) := by
  have e := bIndex7 t
  unfold headIx pos headOfPoint blockOfPoint
  blk_ext [bBlk, e]
theorem bBlk8_at (g : Fin 4) (d : Fin 64) (q : Fin 128) :
    bBlk V c 8 t (ix3 (n0 := 4) (n1 := 64) (n2 := 128) g d q) = V c (Proc.devRef .tc main_v28) (ix3 (n0 := 16) (n1 := 64) (n2 := 8192) (headIx (headOfPoint t) g) d (pos (blockOfPoint t) q)) := by
  have e := bIndex8 t
  unfold headIx pos headOfPoint blockOfPoint
  blk_ext [bBlk, e]
theorem bBlk9_at (g : Fin 4) (q : Fin 128) :
    bBlk V c 9 t (ix3 (n0 := 4) (n1 := 1) (n2 := 128) g 0 q) = V c (Proc.devRef .tc main_v24_1) (ix3 (n0 := 16) (n1 := 1) (n2 := 8192) (headIx (headOfPoint t) g) 0 (pos (blockOfPoint t) q)) := by
  have e := bIndex9 t
  unfold headIx pos headOfPoint blockOfPoint
  blk_ext [bBlk, e]

end

section
variable (m : (ℓ : Loc nD τ sig) → Buf (Elt Ideal) ℓ) (c : Dev nD)

/-- The forward call leaves its operands as they were. -/
theorem W2_operand (w : Fin cfg0.W) (hin : (cfg0.win w).isOut = false) :
    W2 m c (Proc.devRef .tc (Pipeline.arrRef spec0 w)) = W1 m c (Proc.devRef .tc (Pipeline.arrRef spec0 w)) :=
  (Pipeline.afterRegion_arr (fDat (W1 m) c) (W1 m c) launch0.win.arr_inj w).trans
    (((fDat (W1 m) c).arrAt_in w hin _).trans (fDat_A (W1 m) c w))

theorem W3_v11 : W3 m c (Proc.devRef .tc main_v11) = W1 m c (Proc.devRef .tc main_v11) :=
  (W3_of m c main_v11 (by decide)).trans (W2_operand m c 3 rfl)
theorem W3_v13 : W3 m c (Proc.devRef .tc main_v13) = W1 m c (Proc.devRef .tc main_v13) :=
  (W3_of m c main_v13 (by decide)).trans (W2_operand m c 0 rfl)
theorem W3_v17 : W3 m c (Proc.devRef .tc main_v17) = W1 m c (Proc.devRef .tc main_v17) :=
  (W3_of m c main_v17 (by decide)).trans (W2_operand m c 1 rfl)
theorem W3_v15 : W3 m c (Proc.devRef .tc main_v15) = W1 m c (Proc.devRef .tc main_v15) :=
  (W3_of m c main_v15 (by decide)).trans (W2_of m c main_v15 (by decide))
theorem W3_v19 : W3 m c (Proc.devRef .tc main_v19) = W1 m c (Proc.devRef .tc main_v19) :=
  (W3_of m c main_v19 (by decide)).trans (W2_of m c main_v19 (by decide))
theorem W3_v21 : W3 m c (Proc.devRef .tc main_v21) = W1 m c (Proc.devRef .tc main_v21) :=
  (W3_of m c main_v21 (by decide)).trans (W2_of m c main_v21 (by decide))
theorem W3_v24_0 : W3 m c (Proc.devRef .tc main_v24_0) = W2 m c (Proc.devRef .tc main_v24_0) := W3_of m c main_v24_0 (by decide)
theorem W3_v24_1 : W3 m c (Proc.devRef .tc main_v24_1) = W2 m c (Proc.devRef .tc main_v24_1) := W3_of m c main_v24_1 (by decide)

variable {x : Operands} {m c} (L : Launched x m c)
include L

theorem bwdIn (t : Fin 256) : BwdIn x (headOfPoint t) (blockOfPoint t) (bBlk (W3 m) c 0 t) (bBlk (W3 m) c 1 t) (bBlk (W3 m) c 2 t)
    (bBlk (W3 m) c 3 t) (bBlk (W3 m) c 4 t) (bBlk (W3 m) c 5 t) (bBlk (W3 m) c 6 t) (bBlk (W3 m) c 7 t) (bBlk (W3 m) c 8 t) (bBlk (W3 m) c 9 t) where
  qcol g d q := (bBlk0_at (W3 m) c t g d q).trans ((congrFun (W3_v13 m c) _).trans (v13_at L _ _ _))
  qrow g q d := (bBlk1_at (W3 m) c t g q d).trans ((congrFun (W3_v15 m c) _).trans (v15_at L _ _ _))
  k k d := (bBlk2_at (W3 m) c t k d).trans ((congrFun (W3_v17 m c) _).trans (v17_at L _ _ _))
  kt j d q := (bBlk3_at (W3 m) c t j d q).trans ((congrFun (W3_v19 m c) _).trans (v19_at L _ _ _ _))
  v k d := (bBlk4_at (W3 m) c t k d).trans ((congrFun (W3_v21 m c) _).trans (v21_at L _ _ _))
  b g q := (bBlk5_at (W3 m) c t g q).trans ((congrFun (W3_v11 m c) _).trans (v11_at L _ _))
  o g d q := (bBlk6_at (W3 m) c t g d q).trans ((congrFun (W3_v24_0 m c) _).trans ((v24_0_at L _ _ _).trans (by rw [groupOf_headIx, memberOf_headIx])))
  grow g q d := (bBlk7_at (W3 m) c t g q d).trans (v26_at L _ _ _)
  gcol g d q := (bBlk8_at (W3 m) c t g d q).trans (v28_at L _ _ _)
  lse g q := (bBlk9_at (W3 m) c t g q).trans ((congrFun (W3_v24_1 m c) _).trans ((v24_1_at L _ _).trans (by rw [groupOf_headIx, memberOf_headIx])))

end

end Cert.Proof.Swa
end
-- ==== Proof.BwdArrays.lean ====
/-
  What the program's results hold at every index, when the arguments are reals: the attention's output and the gradients.
-/
module

public import proofs.«01_k».proof.Proof.BwdBlocks

@[expose] public section

set_option maxRecDepth 16384

noncomputable section

namespace Cert.Proof.Swa

open Cert.KernelIdeal Cert.KernelIdeal.Gen
open Idealize.ShloMosaic Idealize.ShloMosaic.TcCoe Idealize.ShloMosaic.Tactic
open Idealize.ShloMosaic.Pipeline (Dat)

/-! ### The gradients as sums over the blocks -/

theorem dK_eq (x : Operands) (h : Fin 4) (k : Fin 8192) (d : Fin 64) : x.dK h k d = ∑ n : Fin 64, x.dkPart h n k d :=
  sum_pos fun t => ∑ g : Fin 4, x.dscore h g t k * (x.Q t (headIx h g) d * (1 / 8))
theorem dV_eq (x : Operands) (h : Fin 4) (k : Fin 8192) (d : Fin 64) : x.dV h k d = ∑ n : Fin 64, x.dvPart h n k d :=
  sum_pos fun t => ∑ g : Fin 4, x.prob h g t k * x.G t (headIx h g) d
theorem dB_eq (x : Operands) (h g : Fin 4) : x.dB h g = ∑ q : Fin 128, ∑ n : Fin 64, x.dbPart h g (pos n q) :=
  (sum_pos fun t => x.dbPart h g t).trans Finset.sum_comm

/-- The last point of a group is where a quantity kept over the group holds the sum over the group's blocks. -/
theorem kept_sum {ι : Type} (f : (n : ℕ) → n < cfg1.N → ι → EReal) (r : Fin 4 → Fin 64 → ι → ℝ)
    (h0 : ∀ t : Fin cfg1.N, t.val % 64 = 0 → ∀ i, f t.val t.isLt i = 0 + (r (headOfPoint t) (blockOfPoint t) i : EReal))
    (hs : ∀ t : Fin cfg1.N, ¬ t.val % 64 = 0 → ∀ i,
      f t.val t.isLt i = f (t.val - 1) (Nat.lt_of_le_of_lt (Nat.sub_le _ _) t.isLt) i + (r (headOfPoint t) (blockOfPoint t) i : EReal))
    (t : Fin cfg1.N) (ht : t.val % 64 = 63) (i : ι) : f t.val t.isLt i = ((∑ n : Fin 64, r (headOfPoint t) n i : ℝ) : EReal) := by
  rw [Pipeline.eq_sum_fin_of_reset_step_apply_of_flush f 64 (fun _ => 0) (fun t i => (r (headOfPoint t) (blockOfPoint t) i : EReal)) h0 hs t ht i,
    zero_add, ← coe_sum]
  refine Finset.sum_congr rfl fun s _ => ?_
  have e1 : headOfPoint ⟨64 * (t.val / 64) + s.val, Pipeline.run_point_lt_of_flush t ht s⟩ = headOfPoint t :=
    Fin.ext (by show (64 * (t.val / 64) + s.val) / 64 = t.val / 64; omega)
  have e2 : blockOfPoint ⟨64 * (t.val / 64) + s.val, Pipeline.run_point_lt_of_flush t ht s⟩ = s :=
    Fin.ext (by show (64 * (t.val / 64) + s.val) % 64 = s.val; omega)
  exact congrArg Real.toEReal (congrArg₂ (fun a b => r a b i) e1 e2)

theorem bFlush11 : ∀ t : Fin cfg1.N, (cfg1.win 11).flush t = true → t.val % 64 = 63 := by decide +kernel
theorem bFlush12 : ∀ t : Fin cfg1.N, (cfg1.win 12).flush t = true → t.val % 64 = 63 := by decide +kernel
theorem bFlush13 : ∀ t : Fin cfg1.N, (cfg1.win 13).flush t = true → t.val % 64 = 63 := by decide +kernel

theorem k1_pay2_at (k : Fin 8192) (d : Fin 64) : k1_pay2 (F := Ideal) (ix3 (n0 := 1) (n1 := 8192) (n2 := 64) 0 k d) = (0 : EReal) := by pointwise [k1_pay2]
theorem k1_pay3_at (k : Fin 8192) (d : Fin 64) : k1_pay3 (F := Ideal) (ix3 (n0 := 1) (n1 := 8192) (n2 := 64) 0 k d) = (0 : EReal) := by pointwise [k1_pay3]
theorem k1_pay4_at (g : Fin 4) (q : Fin 128) : k1_pay4 (F := Ideal) (ix3 (n0 := 4) (n1 := 1) (n2 := 128) g 0 q) = (0 : EReal) := by pointwise [k1_pay4]

theorem sum_eq_of {f g : Fin 128 → EReal} (h : ∀ q, f q = g q) : ∑ q, f q = ∑ q, g q := Finset.sum_congr rfl fun q _ => h q

variable {m : (ℓ : Loc nD τ sig) → Buf (Elt Ideal) ℓ} {c : Dev nD} {x : Operands} (L : Launched x m c)
include L

/-! ### What the kept gradients hold at a group's last point -/

theorem keptDk_at (t : Fin cfg1.N) (ht : t.val % 64 = 63) (k : Fin 8192) (d : Fin 64) :
    kept k1_pay2 (dkStep (W3 m) c) t.val t.isLt (ix3 (n0 := 1) (n1 := 8192) (n2 := 64) 0 k d) = (x.dK (headOfPoint t) k d : EReal) := by
  have step : ∀ (t : Fin cfg1.N) a (i : Fin 8192 × Fin 64), dkStep (W3 m) c t a (ix3 (n0 := 1) (n1 := 8192) (n2 := 64) 0 i.1 i.2)
      = a (ix3 (n0 := 1) (n1 := 8192) (n2 := 64) 0 i.1 i.2) + (x.dkPart (headOfPoint t) (blockOfPoint t) i.1 i.2 : EReal) :=
    fun t a i => addDk_at (bwdIn L t) _ (coord_block t).symm a i.1 i.2
  have e := kept_sum (fun n hn (i : Fin 8192 × Fin 64) => kept k1_pay2 (dkStep (W3 m) c) n hn (ix3 (n0 := 1) (n1 := 8192) (n2 := 64) 0 i.1 i.2))
    (fun h n i => x.dkPart h n i.1 i.2)
    (fun t h i => (congrFun (kept_first _ _ t h) _).trans ((step t _ i).trans (congrArg (fun z : EReal => z + _) (k1_pay2_at _ _))))
    (fun t h i => (congrFun (kept_next _ _ t h) _).trans (step t _ i)) t ht (k, d)
  rw [dK_eq]
  exact e

theorem keptDv_at (t : Fin cfg1.N) (ht : t.val % 64 = 63) (k : Fin 8192) (d : Fin 64) :
    kept k1_pay3 (dvStep (W3 m) c) t.val t.isLt (ix3 (n0 := 1) (n1 := 8192) (n2 := 64) 0 k d) = (x.dV (headOfPoint t) k d : EReal) := by
  have step : ∀ (t : Fin cfg1.N) a (i : Fin 8192 × Fin 64), dvStep (W3 m) c t a (ix3 (n0 := 1) (n1 := 8192) (n2 := 64) 0 i.1 i.2)
      = a (ix3 (n0 := 1) (n1 := 8192) (n2 := 64) 0 i.1 i.2) + (x.dvPart (headOfPoint t) (blockOfPoint t) i.1 i.2 : EReal) :=
    fun t a i => addDv_at (bwdIn L t) _ (coord_block t).symm a i.1 i.2
  have e := kept_sum (fun n hn (i : Fin 8192 × Fin 64) => kept k1_pay3 (dvStep (W3 m) c) n hn (ix3 (n0 := 1) (n1 := 8192) (n2 := 64) 0 i.1 i.2))
    (fun h n i => x.dvPart h n i.1 i.2)
    (fun t h i => (congrFun (kept_first _ _ t h) _).trans ((step t _ i).trans (congrArg (fun z : EReal => z + _) (k1_pay3_at _ _))))
    (fun t h i => (congrFun (kept_next _ _ t h) _).trans (step t _ i)) t ht (k, d)
  rw [dV_eq]
  exact e

theorem keptDsink_at (t : Fin cfg1.N) (ht : t.val % 64 = 63) (g : Fin 4) (q : Fin 128) :
    kept k1_pay4 (dsinkStep (W3 m) c) t.val t.isLt (ix3 (n0 := 4) (n1 := 1) (n2 := 128) g 0 q)
      = ((∑ n : Fin 64, x.dbPart (headOfPoint t) g (pos n q) : ℝ) : EReal) := by
  have step : ∀ (t : Fin cfg1.N) a (i : Fin 4 × Fin 128), dsinkStep (W3 m) c t a (ix3 (n0 := 4) (n1 := 1) (n2 := 128) i.1 0 i.2)
      = a (ix3 (n0 := 4) (n1 := 1) (n2 := 128) i.1 0 i.2) + (x.dbPart (headOfPoint t) i.1 (pos (blockOfPoint t) i.2) : EReal) :=
    fun t a i => addDsink_at (bwdIn L t) a i.1 i.2
  exact kept_sum (fun n hn (i : Fin 4 × Fin 128) => kept k1_pay4 (dsinkStep (W3 m) c) n hn (ix3 (n0 := 4) (n1 := 1) (n2 := 128) i.1 0 i.2))
    (fun h n i => x.dbPart h i.1 (pos n i.2))
    (fun t h i => (congrFun (kept_first _ _ t h) _).trans ((step t _ i).trans (congrArg (fun z : EReal => z + _) (k1_pay4_at _ _))))
    (fun t h i => (congrFun (kept_next _ _ t h) _).trans (step t _ i)) t ht (g, q)

/-! ### The arrays after the backward call -/

theorem v29_0_at (a : Fin 16) (d : Fin 64) (t : Fin 8192) :
    W4 m c (Proc.devRef .tc main_v29_0) (ix3 (n0 := 16) (n1 := 64) (n2 := 8192) a d t)
      = (x.dQ (groupOf a) (memberOf a) t d : EReal) := by
  have key : (bDat (W3 m) c).arrAt 10 cfg1.N
      = fun y : S16x64x8192.Idx => (x.dQ (groupOf (y 0)) (memberOf (y 0)) (y 2) (y 1) : EReal) := by
    refine (bDat (W3 m) c).arrAt_eq_of_covers 10 _ (by decide +kernel) fun t hf y => ?_
    have e := bIndex10 t
    blk_simp
    rw [bAfter10]
    obtain ⟨g, d, q, rfl⟩ : ∃ (g : Fin 4) (d : Fin 64) (q : Fin 128), y = ix3 g d q := ⟨y 0, y 1, y 2, (ix3_eta y).symm⟩
    have ep : (win1_10.blk t).view.emb (ix3 (n0 := 4) (n1 := 64) (n2 := 128) g d q)
        = ix3 (n0 := 16) (n1 := 64) (n2 := 8192) (headIx (headOfPoint t) g) d (pos (blockOfPoint t) q) := by
      unfold headIx pos headOfPoint blockOfPoint
      blk_ext [e]
    rw [ep, spreadCols_at, bDq_at (bwdIn L t) _ (coord_block t).symm, headOf_lane, queryOf_lane]
    simp only [ix3_0, ix3_1, ix3_2, groupOf_headIx, memberOf_headIx]
  have := congrFun (Pipeline.afterRegion_arr (bDat (W3 m) c) (W3 m c) launch1.win.arr_inj 10) (ix3 (n0 := 16) (n1 := 64) (n2 := 8192) a d t)
  exact this.trans (congrFun key _)

theorem v29_1_at (h : Fin 4) (k : Fin 8192) (d : Fin 64) :
    W4 m c (Proc.devRef .tc main_v29_1) (ix3 (n0 := 4) (n1 := 8192) (n2 := 64) h k d) = (x.dK h k d : EReal) := by
  have key : (bDat (W3 m) c).arrAt 11 cfg1.N = fun y : S4x8192x64.Idx => (x.dK (y 0) (y 1) (y 2) : EReal) := by
    refine (bDat (W3 m) c).arrAt_eq_of_covers 11 _ (by decide +kernel) fun t hf y => ?_
    have e := bIndex11 t
    have ht := bFlush11 t hf
    blk_simp
    rw [bAfter11]
    obtain ⟨z, k, d, rfl⟩ : ∃ (z : Fin 1) (k : Fin 8192) (d : Fin 64), y = ix3 z k d := ⟨y 0, y 1, y 2, (ix3_eta y).symm⟩
    obtain rfl : z = 0 := Subsingleton.elim _ _
    have ep : (win1_11.blk t).view.emb (ix3 (n0 := 1) (n1 := 8192) (n2 := 64) 0 k d)
        = ix3 (n0 := 4) (n1 := 8192) (n2 := 64) (headOfPoint t) k d := by
      unfold headOfPoint
      blk_ext [e]
    rw [ep, keptDk_at L t ht]
    simp only [ix3_0, ix3_1, ix3_2]
  have := congrFun (Pipeline.afterRegion_arr (bDat (W3 m) c) (W3 m c) launch1.win.arr_inj 11) (ix3 (n0 := 4) (n1 := 8192) (n2 := 64) h k d)
  exact this.trans (congrFun key _)

theorem v29_2_at (h : Fin 4) (k : Fin 8192) (d : Fin 64) :
    W4 m c (Proc.devRef .tc main_v29_2) (ix3 (n0 := 4) (n1 := 8192) (n2 := 64) h k d) = (x.dV h k d : EReal) := by
  have key : (bDat (W3 m) c).arrAt 12 cfg1.N = fun y : S4x8192x64.Idx => (x.dV (y 0) (y 1) (y 2) : EReal) := by
    refine (bDat (W3 m) c).arrAt_eq_of_covers 12 _ (by decide +kernel) fun t hf y => ?_
    have e := bIndex12 t
    have ht := bFlush12 t hf
    blk_simp
    rw [bAfter12]
    obtain ⟨z, k, d, rfl⟩ : ∃ (z : Fin 1) (k : Fin 8192) (d : Fin 64), y = ix3 z k d := ⟨y 0, y 1, y 2, (ix3_eta y).symm⟩
    obtain rfl : z = 0 := Subsingleton.elim _ _
    have ep : (win1_12.blk t).view.emb (ix3 (n0 := 1) (n1 := 8192) (n2 := 64) 0 k d)
        = ix3 (n0 := 4) (n1 := 8192) (n2 := 64) (headOfPoint t) k d := by
      unfold headOfPoint
      blk_ext [e]
    rw [ep, keptDv_at L t ht]
    simp only [ix3_0, ix3_1, ix3_2]
  have := congrFun (Pipeline.afterRegion_arr (bDat (W3 m) c) (W3 m c) launch1.win.arr_inj 12) (ix3 (n0 := 4) (n1 := 8192) (n2 := 64) h k d)
  exact this.trans (congrFun key _)

theorem v29_3_at (a : Fin 16) (q : Fin 128) :
    W4 m c (Proc.devRef .tc main_v29_3) (ix3 (n0 := 16) (n1 := 1) (n2 := 128) a 0 q)
      = ((∑ n : Fin 64, x.dbPart (groupOf a) (memberOf a) (pos n q) : ℝ) : EReal) := by
  have key : (bDat (W3 m) c).arrAt 13 cfg1.N
      = fun y : S16x1x128.Idx => ((∑ n : Fin 64, x.dbPart (groupOf (y 0)) (memberOf (y 0)) (pos n (y 2)) : ℝ) : EReal) := by
    refine (bDat (W3 m) c).arrAt_eq_of_covers 13 _ (by decide +kernel) fun t hf y => ?_
    have e := bIndex13 t
    have ht := bFlush13 t hf
    blk_simp
    rw [bAfter13]
    obtain ⟨g, z, q, rfl⟩ : ∃ (g : Fin 4) (z : Fin 1) (q : Fin 128), y = ix3 g z q := ⟨y 0, y 1, y 2, (ix3_eta y).symm⟩
    obtain rfl : z = 0 := Subsingleton.elim _ _
    have ep : (win1_13.blk t).view.emb (ix3 (n0 := 4) (n1 := 1) (n2 := 128) g 0 q)
        = ix3 (n0 := 16) (n1 := 1) (n2 := 128) (headIx (headOfPoint t) g) 0 q := by
      unfold headIx headOfPoint
      blk_ext [e]
    rw [ep, keptDsink_at L t ht]
    simp only [ix3_0, ix3_1, ix3_2, groupOf_headIx, memberOf_headIx]
  have := congrFun (Pipeline.afterRegion_arr (bDat (W3 m) c) (W3 m c) launch1.win.arr_inj 13) (ix3 (n0 := 16) (n1 := 1) (n2 := 128) a 0 q)
  exact this.trans (congrFun key _)

/-! ### The program's five results -/

theorem out_at (a : Fin 16) (d : Fin 64) (t : Fin 8192) :
    W5 m c (Proc.devRef .tc main_v24_0) (ix3 (n0 := 16) (n1 := 64) (n2 := 8192) a d t) = (x.out (groupOf a) (memberOf a) t d : EReal) := by
  rw [W5_of m c main_v24_0 (by decide)]
  refine (congrFun ((Pipeline.afterRegion_arr (bDat (W3 m) c) (W3 m c) launch1.win.arr_inj 6).trans
    (((bDat (W3 m) c).arrAt_in 6 rfl _).trans (bDat_A (W3 m) c 6))) _).trans ?_
  exact (congrFun (W3_v24_0 m c) _).trans (v24_0_at L a d t)

theorem dq_at (a : Fin 16) (d : Fin 64) (t : Fin 8192) :
    W5 m c (Proc.devRef .tc main_v29_0) (ix3 (n0 := 16) (n1 := 64) (n2 := 8192) a d t) = (x.dQ (groupOf a) (memberOf a) t d : EReal) := by
  rw [W5_of m c main_v29_0 (by decide)]; exact v29_0_at L a d t

theorem dk_at (h : Fin 4) (k : Fin 8192) (d : Fin 64) :
    W5 m c (Proc.devRef .tc main_v29_1) (ix3 (n0 := 4) (n1 := 8192) (n2 := 64) h k d) = (x.dK h k d : EReal) := by
  rw [W5_of m c main_v29_1 (by decide)]; exact v29_1_at L h k d

theorem dv_at (h : Fin 4) (k : Fin 8192) (d : Fin 64) :
    W5 m c (Proc.devRef .tc main_v29_2) (ix3 (n0 := 4) (n1 := 8192) (n2 := 64) h k d) = (x.dV h k d : EReal) := by
  rw [W5_of m c main_v29_2 (by decide)]; exact v29_2_at L h k d

theorem dsink_at (a : Fin 16) :
    W5 m c (Proc.devRef .tc main_v31) (ix1 (n0 := 16) a) = (x.dB (groupOf a) (memberOf a) : EReal) := by
  rw [dB_eq, ← coe_sum]
  unfold W5
  after_results
  pointwise []
  exact sum_eq_of fun q => v29_3_at L a q

end Cert.Proof.Swa
end
-- ==== Proof.Band.lean ====
/-
  The reference's windows: for every block of 128 queries the 128 keys before the block and the block's own 128. In front of
  the first block there is nothing, and the reference puts zeros there.
-/
module

public import proofs.«01_k».proof.Proof.Spec

@[expose] public section

noncomputable section

namespace Cert.Proof.Swa

open Finset

/-- The position of key `b` of block `n`'s window (where there is one). -/
def bandKey (n : Fin 64) (b : Fin 256) : Fin 8192 := ⟨128 * n.val + b.val - 128, by omega⟩

/-- A function of the keys over a window, with zeros where there is no key. -/
def band (f : Fin 8192 → ℝ) (n : Fin 64) (b : Fin 256) : ℝ := if 128 ≤ 128 * n.val + b.val then f (bandKey n b) else 0

/-- Query `q` of block `n` sees key `b` of its window. -/
def SeesBand (n : Fin 64) (q : Fin 128) (b : Fin 256) : Prop := b.val ≤ q.val + 128 ∧ q.val < b.val ∧ 128 ≤ 128 * n.val + b.val

instance (n : Fin 64) (q : Fin 128) (b : Fin 256) : Decidable (SeesBand n q b) := inferInstanceAs (Decidable (_ ∧ _))

theorem seesBand_iff (n : Fin 64) (q : Fin 128) (b : Fin 256) (hb : 128 ≤ 128 * n.val + b.val) :
    SeesBand n q b ↔ Sees (pos n q) (bandKey n b) := by
  simp only [SeesBand, Sees, pos, bandKey]; omega

theorem band_of_key (f : Fin 8192 → ℝ) (n : Fin 64) (b : Fin 256) (hb : 128 ≤ 128 * n.val + b.val) : band f n b = f (bandKey n b) := if_pos hb
theorem band_of_none (f : Fin 8192 → ℝ) (n : Fin 64) (b : Fin 256) (hb : ¬ 128 ≤ 128 * n.val + b.val) : band f n b = 0 := if_neg hb

theorem band_mul (f f' : Fin 8192 → ℝ) (n : Fin 64) (b : Fin 256) : band f n b * band f' n b = band (fun k => f k * f' k) n b := by
  unfold band; split
  · rfl
  · exact zero_mul 0

theorem band_div (f : Fin 8192 → ℝ) (c : ℝ) (n : Fin 64) (b : Fin 256) : band f n b / c = band (fun k => f k / c) n b := by
  unfold band; split
  · rfl
  · exact zero_div c

theorem band_sum {ι : Type} [Fintype ι] (f : ι → Fin 8192 → ℝ) (c : ι → ℝ) (n : Fin 64) (b : Fin 256) :
    ∑ i, band (f i) n b * c i = band (fun k => ∑ i, f i k * c i) n b := by
  unfold band; split
  · rfl
  · simp only [zero_mul, sum_const_zero]

theorem band_of_sees (f : Fin 8192 → ℝ) {n : Fin 64} {q : Fin 128} {b : Fin 256} (hs : SeesBand n q b) : band f n b = f (bandKey n b) :=
  if_pos hs.2.2

/-- Over a window, a function that vanishes on unseen keys. -/
theorem band_seen (f : Fin 8192 → ℝ) (n : Fin 64) (q : Fin 128) (b : Fin 256) (hf : ∀ k, ¬ Sees (pos n q) k → f k = 0) :
    band f n b = if SeesBand n q b then f (bandKey n b) else 0 := by
  unfold band
  by_cases hb : 128 ≤ 128 * n.val + b.val
  · rw [if_pos hb]
    by_cases hs : SeesBand n q b
    · rw [if_pos hs]
    · rw [if_neg hs]; exact hf _ (fun h => hs ((seesBand_iff n q b hb).2 h))
  · rw [if_neg hb, if_neg fun h => hb h.2.2]

/-- A sum over all keys of something that vanishes on unseen keys is the sum over the window. -/
theorem sum_band (f : Fin 8192 → ℝ) (n : Fin 64) (q : Fin 128) (hf : ∀ k, ¬ Sees (pos n q) k → f k = 0) :
    ∑ k, f k = ∑ b, band f n b := by
  rw [sum_bandKey n q f hf]
  refine sum_congr rfl fun b _ => ?_
  unfold band
  by_cases hb : 128 ≤ 128 * n.val + b.val
  · rw [dif_pos hb, if_pos hb]; rfl
  · rw [dif_neg hb, if_neg hb]

/-- What a key receives: from the queries of its own block, and from those of the next block where there is one. -/
theorem sum_queries (f : Fin 8192 → ℝ) (k : Fin 8192) (hf : ∀ t, ¬ Sees t k → f t = 0) :
    ∑ t, f t = ∑ q, f (pos ⟨k.val / 128, by omega⟩ q)
      + (if hn : k.val / 128 < 63 then ∑ q, f (pos ⟨k.val / 128 + 1, by omega⟩ q) else 0) := by
  have out : ∀ n : Fin 64, n.val ≠ k.val / 128 → n.val ≠ k.val / 128 + 1 → ∑ q, f (pos n q) = 0 := fun n h1 h2 =>
    sum_eq_zero fun q _ => hf _ fun hs => by
      have a := hs.1; have b := hs.2; simp only [pos] at a b; omega
  rw [sum_pos]
  by_cases hn : k.val / 128 < 63
  · rw [dif_pos hn, ← Finset.sum_subset (Finset.subset_univ {(⟨k.val / 128, by omega⟩ : Fin 64), ⟨k.val / 128 + 1, by omega⟩})]
    · rw [Finset.sum_pair (fun e => by have := congrArg Fin.val e; simp only at this; omega)]
    · intro n _ hm
      simp only [Finset.mem_insert, Finset.mem_singleton, not_or] at hm
      exact out n (fun e => hm.1 (Fin.ext e)) (fun e => hm.2 (Fin.ext e))
  · rw [dif_neg hn, add_zero]
    exact Finset.sum_eq_single _ (fun n _ hm => out n (fun e => hm (Fin.ext e)) (by have := k.isLt; omega)) (fun h => absurd (mem_univ _) h)

/-- The block of a position, and its row in the block. -/
abbrev refBlock (t : Fin 8192) : Fin 64 := ⟨t.val / 128, by omega⟩
abbrev refRow (t : Fin 8192) : Fin 128 := ⟨t.val % 128, by omega⟩

theorem pos_of (t : Fin 8192) : pos (refBlock t) (refRow t) = t := Fin.ext (by simp only [pos, refBlock, refRow]; omega)

/-- What a key receives, with the key read in the windows of its own block and of the next. -/
theorem sum_queries_band (f : Fin 8192 → Fin 8192 → ℝ) (k : Fin 8192) (hf : ∀ t, ¬ Sees t k → f t k = 0) :
    ∑ t, f t k = ∑ q, band (f (pos (refBlock k) q)) (refBlock k) ⟨128 + k.val % 128, by omega⟩
      + (if hn : k.val / 128 < 63 then ∑ q, band (f (pos ⟨1 + k.val / 128, by omega⟩ q)) ⟨1 + k.val / 128, by omega⟩ ⟨k.val % 128, by omega⟩ else 0) := by
  rw [sum_queries (fun t => f t k) k hf]
  congr 1
  · refine sum_congr rfl fun q _ => ?_
    rw [band_of_key _ _ _ (by simp only; omega)]
    exact congrArg (f _) (Fin.ext (by simp only [bandKey, refBlock]; omega))
  · by_cases hn : k.val / 128 < 63
    · rw [dif_pos hn, dif_pos hn]
      refine sum_congr rfl fun q _ => ?_
      rw [band_of_key _ _ _ (by simp only; omega)]
      exact congrArg₂ f (Fin.ext (by simp only [pos]; omega)) (Fin.ext (by simp only [bandKey]; omega))
    · rw [dif_neg hn, dif_neg hn]

end Cert.Proof.Swa
end
-- ==== Proof.RefIn.lean ====
/-
  The reference's operands, at an index: queries by block, and keys and values by window.
-/
module

public import proofs.«01_k».proof.Proof.Gen.ReferenceIdeal.Read
public import proofs.«01_k».proof.Proof.Band
public import proofs.«01_k».proof.Proof.Extended
public import Idealize.ShloMosaic.Lib.Pointwise
public import Idealize.ShloMosaic.Lib.Pipeline.ValueKit

@[expose] public section

set_option maxRecDepth 16384

noncomputable section

namespace Cert.Proof.Swa

open Cert.ReferenceIdeal Cert.ReferenceIdeal.Read
open Idealize.ShloMosaic Idealize.ShloMosaic.Tactic

/-- The reference is given the operands `x`. -/
structure Given (x : Operands) (x0 : (⟨S8192x16x64, .f32⟩ : BufTy).Contents (Elt Ideal)) (x1 x2 : (⟨S8192x4x64, .f32⟩ : BufTy).Contents (Elt Ideal))
    (x3 : (⟨S16, .f32⟩ : BufTy).Contents (Elt Ideal)) (x4 : (⟨S8192x16x64, .f32⟩ : BufTy).Contents (Elt Ideal)) : Prop where
  q : ∀ t a d, x0 (ix3 (n0 := 8192) (n1 := 16) (n2 := 64) t a d) = ((x.Q t a d : ℝ) : EReal)
  k : ∀ t h d, x1 (ix3 (n0 := 8192) (n1 := 4) (n2 := 64) t h d) = ((x.K t h d : ℝ) : EReal)
  v : ∀ t h d, x2 (ix3 (n0 := 8192) (n1 := 4) (n2 := 64) t h d) = ((x.V t h d : ℝ) : EReal)
  b : ∀ a, x3 (ix1 (n0 := 16) a) = ((x.B a : ℝ) : EReal)
  g : ∀ t a d, x4 (ix3 (n0 := 8192) (n1 := 16) (n2 := 64) t a d) = ((x.G t a d : ℝ) : EReal)

variable {x : Operands} {x0 x4 : (⟨S8192x16x64, .f32⟩ : BufTy).Contents (Elt Ideal)} {x1 x2 : (⟨S8192x4x64, .f32⟩ : BufTy).Contents (Elt Ideal)}
  {x3 : (⟨S16, .f32⟩ : BufTy).Contents (Elt Ideal)} (G : Given x x0 x1 x2 x3 x4)
  (n : Fin 64) (h g : Fin 4) (q : Fin 128) (b : Fin 256) (d : Fin 64)

include G

theorem Given.query_at : val_main_v0 (F := Ideal) x0 (ix5 (n0 := 64) (n1 := 128) (n2 := 4) (n3 := 4) (n4 := 64) n q h g d)
    = ((x.Q (pos n q) (headIx h g) d : ℝ) : EReal) := by
  refine Eq.trans ?_ (G.q (pos n q) (headIx h g) d)
  pointwise [val_main_v0]
  refine congrArg x0 (congrArg₂ (fun s a => ix3 s a d) (Fin.ext ?_) (Fin.ext ?_)) <;> simp only [pos, headIx] <;> omega

theorem Given.key_at : val_main_v7 (F := Ideal) x1 (ix4 (n0 := 64) (n1 := 256) (n2 := 4) (n3 := 64) n b h d)
    = ((band (fun k => x.K k h d) n b : ℝ) : EReal) := by
  pointwise [val_main_v7, val_main_v5, val_main_v4, val_main_v3, val_main_v1, val_main_cst]
  split
  · split
    · rw [band_of_none _ _ _ (by omega)]; rfl
    · rw [band_of_key _ _ _ (by omega)]
      refine Eq.trans ?_ (G.k (bandKey n b) h d)
      exact congrArg x1 (congrArg (fun s => ix3 s h d) (Fin.ext (by simp only [bandKey]; omega)))
  · rw [band_of_key _ _ _ (by omega)]
    refine Eq.trans ?_ (G.k (bandKey n b) h d)
    exact congrArg x1 (congrArg (fun s => ix3 s h d) (Fin.ext (by simp only [bandKey]; omega)))

theorem Given.value_at : val_main_v14 (F := Ideal) x2 (ix4 (n0 := 64) (n1 := 256) (n2 := 4) (n3 := 64) n b h d)
    = ((band (fun k => x.V k h d) n b : ℝ) : EReal) := by
  pointwise [val_main_v14, val_main_v12, val_main_v11, val_main_v10, val_main_v8, val_main_cst_1]
  split
  · split
    · rw [band_of_none _ _ _ (by omega)]; rfl
    · rw [band_of_key _ _ _ (by omega)]
      refine Eq.trans ?_ (G.v (bandKey n b) h d)
      exact congrArg x2 (congrArg (fun s => ix3 s h d) (Fin.ext (by simp only [bandKey]; omega)))
  · rw [band_of_key _ _ _ (by omega)]
    refine Eq.trans ?_ (G.v (bandKey n b) h d)
    exact congrArg x2 (congrArg (fun s => ix3 s h d) (Fin.ext (by simp only [bandKey]; omega)))

theorem Given.cotangent_at : val_main_v87 (F := Ideal) x4 (ix5 (n0 := 64) (n1 := 4) (n2 := 64) (n3 := 4) (n4 := 128) n h d g q)
    = ((x.G (pos n q) (headIx h g) d : ℝ) : EReal) := by
  refine Eq.trans ?_ (G.g (pos n q) (headIx h g) d)
  pointwise [val_main_v87, val_main_v86]
  refine congrArg x4 (congrArg₂ (fun s a => ix3 s a d) (Fin.ext ?_) (Fin.ext ?_)) <;> simp only [pos, headIx] <;> omega

end Cert.Proof.Swa
end
-- ==== Proof.RefMask.lean ====
/-
  The reference's mask, as it works it out on 32-bit words: the keys a query sees, in the window of its block.
-/
module

public import proofs.«01_k».proof.Proof.Gen.ReferenceIdeal.Read
public import proofs.«01_k».proof.Proof.Band
public import Idealize.ShloMosaic.Lib.Pointwise
public import Idealize.ShloMosaic.Lib.Pipeline.ValueKit

@[expose] public section

set_option maxRecDepth 16384

noncomputable section

namespace Cert.Proof.Swa

open Cert.ReferenceIdeal Cert.ReferenceIdeal.Read
open Idealize.ShloMosaic Idealize.ShloMosaic.Tactic

/-- How far a query lies behind a key of its window, out of the two words' distance alone. -/
theorem behind_word (q : Fin 128) (b : Fin 256) :
    IntOp.subi (IntOp.addi (BitVec.ofNat 32 q.val) 128#32) (BitVec.ofNat 32 b.val) = IntOp.subi (BitVec.ofNat 32 (q.val + 256 - b.val)) 128#32 := by
  apply BitVec.eq_of_toNat_eq
  simp only [IntOp.subi, IntOp.addi, BitVec.toNat_sub, BitVec.toNat_add, BitVec.toNat_ofNat]
  omega

theorem near_band : ∀ r : Fin 384,
    IntOp.andi (IntOp.cmpi CmpIPredicate.sge (IntOp.subi (BitVec.ofNat 32 r.val) 128#32) 0#32)
      (IntOp.cmpi CmpIPredicate.slt (IntOp.subi (BitVec.ofNat 32 r.val) 128#32) 128#32)
      = if 128 ≤ r.val ∧ r.val < 256 then 1#1 else 0#1 := by
  decide +kernel

theorem first_block : ∀ n : Fin 64, IntOp.cmpi CmpIPredicate.eq (BitVec.ofNat 32 n.val) 0#32 = if n.val = 0 then 1#1 else 0#1 := by
  decide +kernel

theorem before_block : ∀ b : Fin 256, IntOp.cmpi CmpIPredicate.slt (BitVec.ofNat 32 b.val) 128#32 = if b.val < 128 then 1#1 else 0#1 := by
  decide +kernel

theorem ref_mask_at (n : Fin 64) (h g : Fin 4) (q : Fin 128) (b : Fin 256) :
    val_main_v49_1 (F := Ideal) (ix5 (n0 := 64) (n1 := 4) (n2 := 4) (n3 := 128) (n4 := 256) n h g q b) = if SeesBand n q b then 1#1 else 0#1 := by
  pointwise [val_main_v49_1, val_main_v48, val_main_v47, val_main_v46, val_main_v45, val_main_v44, val_main_v43, val_main_v42, val_main_v41,
    val_main_v40, val_main_v39, val_main_v38, val_main_v37, val_main_v36, val_main_v35, val_main_v34, val_main_v33, val_main_v32, val_main_v31,
    val_main_v30, val_main_v29, val_main_v28, val_main_v27, val_main_v26, val_main_v25, val_main_v24, val_main_v23, val_main_v22, val_main_v21,
    val_main_v20, val_main_v19, val_main_c, val_main_c_4, val_main_c_5, val_main_c_6, val_main_c_7]
  rw [behind_word, near_band ⟨q.val + 256 - b.val, by omega⟩, first_block, before_block]
  have e : SeesBand n q b ↔ (128 ≤ q.val + 256 - b.val ∧ q.val + 256 - b.val < 256) ∧ ¬ (n.val = 0 ∧ b.val < 128) := by
    simp only [SeesBand]; omega
  by_cases h1 : 128 ≤ q.val + 256 - b.val ∧ q.val + 256 - b.val < 256 <;> by_cases h2 : n.val = 0 <;> by_cases h3 : b.val < 128 <;>
    simp only [e, h1, h2, h3, if_true, if_false, and_true, and_false, true_and, false_and, not_true, not_false_iff] <;> decide

end Cert.Proof.Swa
end
-- ==== Proof.RefSoftmax.lean ====
/-
  The reference's softmax over a window and the sink: its weights are the specification's, each divided by the exponential
  of the row's maximum, and that factor cancels in the probabilities.
-/
module

public import proofs.«01_k».proof.Proof.RefIn
public import proofs.«01_k».proof.Proof.RefMask

@[expose] public section

set_option maxRecDepth 16384

noncomputable section

namespace Cert.Proof.Swa

open Cert.ReferenceIdeal Cert.ReferenceIdeal.Read
open Idealize.ShloMosaic Idealize.ShloMosaic.Tactic

theorem select_one {α : Type} (a b : α) : Scalar.select 1#1 a b = a := rfl
theorem select_zero {α : Type} (a b : α) : Scalar.select 0#1 a b = b := rfl

theorem max_bot_of_le {a s : EReal} (h : s ≤ a) : max ⊥ a = max a s := by rw [max_eq_left h, max_eq_right bot_le]

/-- An inner product of real rows. -/
theorem dot_real {ι : Type} [Fintype ι] {f f' : ι → EReal} {a a' : ι → ℝ} (hf : ∀ i, f i = (a i : EReal)) (hf' : ∀ i, f' i = (a' i : EReal)) :
    ∑ i, f i * f' i = ((∑ i, a i * a' i : ℝ) : EReal) := by
  rw [← coe_sum]
  exact Finset.sum_congr rfl fun i _ => by rw [hf, hf', coe_mul]

/-- A row over a window and the sink, summed. -/
theorem sum_row {f : Fin 257 → EReal} {a : Fin 256 → ℝ} {s : ℝ} (hf : ∀ b : Fin 256, f b.castSucc = (a b : EReal)) (hs : f (Fin.last 256) = (s : EReal)) :
    ∑ k, f k = ((∑ b, a b + s : ℝ) : EReal) := by
  rw [Fin.sum_univ_castSucc, hs, ← coe_add, ← coe_sum]
  exact congrArg (· + _) (Finset.sum_congr rfl fun b _ => hf b)

variable {x : Operands} {x0 x4 : (⟨S8192x16x64, .f32⟩ : BufTy).Contents (Elt Ideal)} {x1 x2 : (⟨S8192x4x64, .f32⟩ : BufTy).Contents (Elt Ideal)}
  {x3 : (⟨S16, .f32⟩ : BufTy).Contents (Elt Ideal)} (G : Given x x0 x1 x2 x3 x4)
  (n : Fin 64) (h g : Fin 4) (q : Fin 128) (b : Fin 256) (d : Fin 64)

/-- The entry of a row of 257 at a key of the window. -/
abbrev keyIx (n : Fin 64) (h g : Fin 4) (q : Fin 128) (b : Fin 256) : S64x4x4x128x257.Idx :=
  ix5 (n0 := 64) (n1 := 4) (n2 := 4) (n3 := 128) (n4 := 257) n h g q b.castSucc
/-- The entry of a row of 257 at the sink. -/
abbrev sinkIx (n : Fin 64) (h g : Fin 4) (q : Fin 128) : S64x4x4x128x257.Idx :=
  ix5 (n0 := 64) (n1 := 4) (n2 := 4) (n3 := 128) (n4 := 257) n h g q (Fin.last 256)

include G

/-- The masked logit of a key. -/
theorem Given.logit_at : val_main_v49_0 (F := Ideal) x0 x1 (ix5 (n0 := 64) (n1 := 4) (n2 := 4) (n3 := 128) (n4 := 256) n h g q b)
    = if SeesBand n q b then ((x.score h g (pos n q) (bandKey n b) : ℝ) : EReal) else ⊥ := by
  pointwise [val_main_v49_0, val_main_v18, val_main_v17, val_main_cst_3, val_main_v16, val_main_v15, val_main_call0_v2, val_main_call0_v0, val_main_cst_8]
  rw [ref_mask_at]
  by_cases hs : SeesBand n q b
  · rw [if_pos hs, if_pos hs, select_one]
    refine (congrArg₂ (· * ·) (dot_real (fun d => G.key_at n h b d) (fun d => G.query_at n h g q d)) ofBits_eighth).trans ?_
    refine (coe_mul _ _).trans (congrArg Real.toEReal ?_)
    rw [Operands.score, Finset.sum_mul]
    exact Finset.sum_congr rfl fun d _ => by rw [band_of_sees _ hs]; ring
  · rw [if_neg hs, if_neg hs, select_zero]
    exact ofBits_bot

omit G in
theorem row_read (k : Fin 257) : val_main_v53 (F := Ideal) x0 x1 x3 (ix5 (n0 := 64) (n1 := 4) (n2 := 4) (n3 := 128) (n4 := 257) n h g q k)
    = if hk : k.val < 256 then val_main_v49_0 (F := Ideal) x0 x1 (ix5 (n0 := 64) (n1 := 4) (n2 := 4) (n3 := 128) (n4 := 256) n h g q ⟨k.val, hk⟩)
      else x3 (ix1 (n0 := 16) (headIx h g)) := by
  pointwise [val_main_v53, val_main_v52, val_main_v51, val_main_v50]
  split
  · rfl
  · exact congrArg x3 (congrArg (fun a => ix1 a) (Fin.ext (by simp only [headIx]; omega)))

theorem Given.row_key : val_main_v53 (F := Ideal) x0 x1 x3 (keyIx n h g q b)
    = if SeesBand n q b then ((x.score h g (pos n q) (bandKey n b) : ℝ) : EReal) else ⊥ :=
  ((row_read n h g q b.castSucc).trans (dif_pos b.isLt)).trans (G.logit_at n h g q b)

theorem Given.row_sink : val_main_v53 (F := Ideal) x0 x1 x3 (sinkIx n h g q) = ((x.B (headIx h g) : ℝ) : EReal) := by
  have e : ¬ (Fin.last 256).val < 256 := by rw [Fin.val_last]; exact Nat.lt_irrefl _
  exact ((row_read n h g q (Fin.last 256)).trans (dif_neg e)).trans (G.b (headIx h g))

omit G in
theorem max_read : val_main_v54 (F := Ideal) x0 x1 x3 (ix4 (n0 := 64) (n1 := 4) (n2 := 4) (n3 := 128) n h g q)
    = Finset.fold max (Ideal.ofBits .f32 0xFF800000#32)
      (fun k => val_main_v53 (F := Ideal) x0 x1 x3 (ix5 (n0 := 64) (n1 := 4) (n2 := 4) (n3 := 128) (n4 := 257) n h g q k)) Finset.univ := by
  pointwise [val_main_v54, val_main_cst_9]

/-- The row's maximum is a real number: no entry is infinite upwards, and the sink's is finite. -/
theorem Given.max_at : ∃ m : ℝ, val_main_v61 (F := Ideal) x0 x1 x3 (ix4 (n0 := 64) (n1 := 4) (n2 := 4) (n3 := 128) n h g q) = (m : EReal) := by
  have hf : ∀ k : Fin 257, val_main_v53 (F := Ideal) x0 x1 x3 (ix5 (n0 := 64) (n1 := 4) (n2 := 4) (n3 := 128) (n4 := 257) n h g q k) ≠ (⊤ : EReal) := by
    intro k
    induction k using Fin.lastCases with
    | last => rw [G.row_sink]; exact EReal.coe_ne_top _
    | cast b =>
      rw [G.row_key]; split
      · exact EReal.coe_ne_top _
      · exact bot_ne_top
  obtain ⟨m, hm⟩ := max_real _ hf (x.B (headIx h g))
  refine ⟨m, Eq.trans ?_ hm⟩
  have e0 : val_main_v60 (F := Ideal) (ix4 (n0 := 64) (n1 := 4) (n2 := 4) (n3 := 128) n h g q) = (⊥ : EReal) := by
    pointwise [val_main_v60, val_main_cst_11]
    exact ofBits_bot
  have e : val_main_v61 (F := Ideal) x0 x1 x3 (ix4 (n0 := 64) (n1 := 4) (n2 := 4) (n3 := 128) n h g q)
      = max (val_main_v60 (F := Ideal) (ix4 (n0 := 64) (n1 := 4) (n2 := 4) (n3 := 128) n h g q))
        (val_main_v54 (F := Ideal) x0 x1 x3 (ix4 (n0 := 64) (n1 := 4) (n2 := 4) (n3 := 128) n h g q)) :=
    val_main_v61_apply x0 x1 x3 _
  rw [e, e0, max_read, ofBits_bot]
  exact max_bot_of_le ((Finset.le_fold_max _).2 (Or.inr ⟨Fin.last 256, Finset.mem_univ _, (G.row_sink n h g q).ge⟩))

omit G in
theorem exp_read (k : Fin 257) : val_main_v74 (F := Ideal) x0 x1 x3 (ix5 (n0 := 64) (n1 := 4) (n2 := 4) (n3 := 128) (n4 := 257) n h g q k)
    = Ideal.exp (val_main_v53 (F := Ideal) x0 x1 x3 (ix5 (n0 := 64) (n1 := 4) (n2 := 4) (n3 := 128) (n4 := 257) n h g q k)
      - val_main_v61 (F := Ideal) x0 x1 x3 (ix4 (n0 := 64) (n1 := 4) (n2 := 4) (n3 := 128) n h g q)) := by
  pointwise [val_main_v74, val_main_v73, val_main_v72, val_main_v71]

variable {m : ℝ} (hm : val_main_v61 (F := Ideal) x0 x1 x3 (ix4 (n0 := 64) (n1 := 4) (n2 := 4) (n3 := 128) n h g q) = (m : EReal))
include hm

theorem Given.exp_key : val_main_v74 (F := Ideal) x0 x1 x3 (keyIx n h g q b)
    = ((band (fun k => x.weight h g (pos n q) k) n b * Real.exp (-m) : ℝ) : EReal) := by
  refine (exp_read n h g q b.castSucc).trans ?_
  rw [G.row_key, hm, band_seen _ n q b (fun k hk => by rw [Operands.weight, if_neg hk])]
  by_cases hs : SeesBand n q b
  · rw [if_pos hs, if_pos hs, coe_sub, Ideal.exp_coe, Operands.weight, if_pos ((seesBand_iff n q b hs.2.2).1 hs), ← Real.exp_add, sub_eq_add_neg]
  · rw [if_neg hs, if_neg hs, EReal.bot_sub, Ideal.exp_bot, zero_mul, EReal.coe_zero]

theorem Given.exp_sink : val_main_v74 (F := Ideal) x0 x1 x3 (sinkIx n h g q) = ((x.sinkWeight h g * Real.exp (-m) : ℝ) : EReal) := by
  refine (exp_read n h g q (Fin.last 256)).trans ?_
  rw [G.row_sink, hm, coe_sub, Ideal.exp_coe, Operands.sinkWeight, ← Real.exp_add, sub_eq_add_neg]

omit G hm in
theorem total_read : val_main_v75 (F := Ideal) x0 x1 x3 (ix4 (n0 := 64) (n1 := 4) (n2 := 4) (n3 := 128) n h g q)
    = ∑ k, val_main_v74 (F := Ideal) x0 x1 x3 (ix5 (n0 := 64) (n1 := 4) (n2 := 4) (n3 := 128) (n4 := 257) n h g q k) := by
  pointwise [val_main_v75, val_main_cst_17]

theorem Given.total_at : val_main_v75 (F := Ideal) x0 x1 x3 (ix4 (n0 := 64) (n1 := 4) (n2 := 4) (n3 := 128) n h g q)
    = ((x.total h g (pos n q) * Real.exp (-m) : ℝ) : EReal) := by
  refine (total_read n h g q).trans ((sum_row (fun b => G.exp_key n h g q b hm) (G.exp_sink n h g q hm)).trans (congrArg Real.toEReal ?_))
  rw [Operands.total, sum_band _ n q (fun k hk => by rw [Operands.weight, if_neg hk]), add_mul, Finset.sum_mul]

omit G hm in
theorem prob_read : val_main_v82 (F := Ideal) x0 x1 x3 (ix5 (n0 := 64) (n1 := 4) (n2 := 4) (n3 := 128) (n4 := 256) n h g q b)
    = Ideal.div (val_main_v74 (F := Ideal) x0 x1 x3 (keyIx n h g q b)) (val_main_v75 (F := Ideal) x0 x1 x3 (ix4 (n0 := 64) (n1 := 4) (n2 := 4) (n3 := 128) n h g q)) := by
  pointwise [val_main_v82, val_main_v78, val_main_v77, val_main_v76]
  rfl

omit hm in
theorem Given.prob_at : val_main_v82 (F := Ideal) x0 x1 x3 (ix5 (n0 := 64) (n1 := 4) (n2 := 4) (n3 := 128) (n4 := 256) n h g q b)
    = ((band (fun k => x.prob h g (pos n q) k) n b : ℝ) : EReal) := by
  obtain ⟨m, hm⟩ := G.max_at n h g q
  refine (prob_read n h g q b).trans ?_
  rw [G.exp_key n h g q b hm, G.total_at n h g q hm,
    coe_div _ _ (mul_ne_zero (x.total_pos h g (pos n q)).ne' (Real.exp_pos _).ne'), mul_div_mul_right _ _ (Real.exp_pos _).ne', band_div]
  rfl

end Cert.Proof.Swa
end
-- ==== Proof.RefScores.lean ====
/-
  The reference's backward pass through the softmax, at a window's key and at the sink: the gradient of a score is the
  probability times the difference between the probability's gradient and its mean, the row's `delta`.
-/
module

public import proofs.«01_k».proof.Proof.RefSoftmax

@[expose] public section

set_option maxRecDepth 16384

noncomputable section

namespace Cert.Proof.Swa

open Cert.ReferenceIdeal Cert.ReferenceIdeal.Read
open Idealize.ShloMosaic Idealize.ShloMosaic.Tactic

variable {x : Operands} {x0 x4 : (⟨S8192x16x64, .f32⟩ : BufTy).Contents (Elt Ideal)} {x1 x2 : (⟨S8192x4x64, .f32⟩ : BufTy).Contents (Elt Ideal)}
  {x3 : (⟨S16, .f32⟩ : BufTy).Contents (Elt Ideal)} (G : Given x x0 x1 x2 x3 x4)
  (n : Fin 64) (h g : Fin 4) (q : Fin 128) (b : Fin 256) (d : Fin 64) (k : Fin 257)

/-- A row's entry. -/
abbrev rowIx (n : Fin 64) (h g : Fin 4) (q : Fin 128) (k : Fin 257) : S64x4x4x128x257.Idx :=
  ix5 (n0 := 64) (n1 := 4) (n2 := 4) (n3 := 128) (n4 := 257) n h g q k
/-- A row. -/
abbrev lineIx (n : Fin 64) (h g : Fin 4) (q : Fin 128) : S64x4x4x128.Idx := ix4 (n0 := 64) (n1 := 4) (n2 := 4) (n3 := 128) n h g q
abbrev oneIx (n : Fin 64) (h g : Fin 4) (q : Fin 128) (z : Fin 1) : S64x4x4x128x1.Idx :=
  ix5 (n0 := 64) (n1 := 4) (n2 := 4) (n3 := 128) (n4 := 1) n h g q z

/-! ### The operations, at an index -/

theorem dprob_read : val_main_v88 (F := Ideal) x2 x4 (ix5 (n0 := 64) (n1 := 4) (n2 := 4) (n3 := 128) (n4 := 256) n h g q b)
    = ∑ d, val_main_v87 (F := Ideal) x4 (ix5 (n0 := 64) (n1 := 4) (n2 := 64) (n3 := 4) (n4 := 128) n h d g q)
      * val_main_v14 (F := Ideal) x2 (ix4 (n0 := 64) (n1 := 256) (n2 := 4) (n3 := 64) n b h d) := by
  pointwise [val_main_v88]

theorem padded_read : val_main_v91 (F := Ideal) x2 x4 (rowIx n h g q k)
    = if hk : k.val < 256 then val_main_v88 (F := Ideal) x2 x4 (ix5 (n0 := 64) (n1 := 4) (n2 := 4) (n3 := 128) (n4 := 256) n h g q ⟨k.val, hk⟩) else (0 : EReal) := by
  pointwise [val_main_v91, val_main_cst_19]

theorem moved_read : val_main_v94 (F := Ideal) x0 x1 x2 x3 x4 (rowIx n h g q k)
    = val_main_v91 (F := Ideal) x2 x4 (rowIx n h g q k)
      * Ideal.div 1 (val_main_v75 (F := Ideal) x0 x1 x3 (lineIx n h g q) * val_main_v75 (F := Ideal) x0 x1 x3 (lineIx n h g q))
      * val_main_v74 (F := Ideal) x0 x1 x3 (rowIx n h g q k) := by
  pointwise [val_main_v94, val_main_v93, val_main_v92, val_main_v81, val_main_v80, val_main_v79, val_main_v76, val_main_cst_18]

theorem mean_read (z : Fin 1) : val_main_v97 (F := Ideal) x0 x1 x2 x3 x4 (oneIx n h g q z)
    = -∑ k, val_main_v94 (F := Ideal) x0 x1 x2 x3 x4 (rowIx n h g q k) := by
  pointwise [val_main_v97, val_main_v96, val_main_v95, val_main_cst_20]

theorem spread_read : val_main_v103 (F := Ideal) x0 x1 x2 x3 x4 (rowIx n h g q k)
    = (Ideal.div (val_main_v91 (F := Ideal) x2 x4 (rowIx n h g q k)) (val_main_v75 (F := Ideal) x0 x1 x3 (lineIx n h g q))
        + ∑ z, val_main_v97 (F := Ideal) x0 x1 x2 x3 x4 (oneIx n h g q z))
      * val_main_v74 (F := Ideal) x0 x1 x3 (rowIx n h g q k) := by
  pointwise [val_main_v103, val_main_v102, val_main_v101, val_main_v100, val_main_v99, val_main_v98, val_main_v76, val_main_cst_21]

theorem masked_read : val_main_v113 (F := Ideal) x0 x1 x2 x3 x4 (ix5 (n0 := 64) (n1 := 4) (n2 := 256) (n3 := 128) (n4 := 4) n h b q g)
    = Scalar.select (val_main_v49_1 (F := Ideal) (ix5 (n0 := 64) (n1 := 4) (n2 := 4) (n3 := 128) (n4 := 256) n h g q b))
        (val_main_v103 (F := Ideal) x0 x1 x2 x3 x4 (keyIx n h g q b) * Ideal.ofBits .f32 0x3E000000#32) (0 : EReal) := by
  pointwise [val_main_v113, val_main_v112, val_main_v111, val_main_v110, val_main_v104, val_main_call1_v0, val_main_call1_cst, val_main_cst_24]
  rfl

/-! ### Their values -/

include G

theorem Given.dprob_at : val_main_v88 (F := Ideal) x2 x4 (ix5 (n0 := 64) (n1 := 4) (n2 := 4) (n3 := 128) (n4 := 256) n h g q b)
    = ((band (fun k => x.dprob h g (pos n q) k) n b : ℝ) : EReal) := by
  refine (dprob_read n h g q b).trans ((dot_real (fun d => G.cotangent_at n h g q d) (fun d => G.value_at n h b d)).trans (congrArg Real.toEReal ?_))
  refine Eq.trans (Finset.sum_congr rfl fun d _ => mul_comm _ _) (band_sum (fun d k => x.V k h d) (fun d => x.G (pos n q) (headIx h g) d) n b)

theorem Given.padded_key : val_main_v91 (F := Ideal) x2 x4 (keyIx n h g q b) = ((band (fun k => x.dprob h g (pos n q) k) n b : ℝ) : EReal) :=
  ((padded_read n h g q b.castSucc).trans (dif_pos b.isLt)).trans (G.dprob_at n h g q b)

omit G in
theorem padded_sink : val_main_v91 (F := Ideal) x2 x4 (sinkIx n h g q) = ((0 : ℝ) : EReal) := by
  have e : ¬ (Fin.last 256).val < 256 := by rw [Fin.val_last]; exact Nat.lt_irrefl _
  exact ((padded_read n h g q (Fin.last 256)).trans (dif_neg e)).trans EReal.coe_zero.symm

variable {m : ℝ} (hm : val_main_v61 (F := Ideal) x0 x1 x3 (ix4 (n0 := 64) (n1 := 4) (n2 := 4) (n3 := 128) n h g q) = (m : EReal))
include hm

/-- The row's total, with the maximum's factor, is not zero. -/
theorem Given.line_ne : x.total h g (pos n q) * Real.exp (-m) ≠ 0 := mul_ne_zero (x.total_pos h g (pos n q)).ne' (Real.exp_pos _).ne'

theorem Given.square_at : Ideal.div 1 (val_main_v75 (F := Ideal) x0 x1 x3 (lineIx n h g q) * val_main_v75 (F := Ideal) x0 x1 x3 (lineIx n h g q))
    = ((1 / ((x.total h g (pos n q) * Real.exp (-m)) * (x.total h g (pos n q) * Real.exp (-m))) : ℝ) : EReal) := by
  rw [G.total_at n h g q hm, coe_mul, ← EReal.coe_one, coe_div _ _ (mul_ne_zero (G.line_ne n h g q hm) (G.line_ne n h g q hm))]

theorem Given.mean_at (z : Fin 1) : val_main_v97 (F := Ideal) x0 x1 x2 x3 x4 (oneIx n h g q z)
    = ((-(x.delta h g (pos n q) / (x.total h g (pos n q) * Real.exp (-m))) : ℝ) : EReal) := by
  have hk : ∀ b : Fin 256, val_main_v94 (F := Ideal) x0 x1 x2 x3 x4 (keyIx n h g q b)
      = ((band (fun k => x.prob h g (pos n q) k * x.dprob h g (pos n q) k) n b / (x.total h g (pos n q) * Real.exp (-m)) : ℝ) : EReal) := fun b => by
    refine (moved_read n h g q b.castSucc).trans ?_
    rw [G.padded_key, G.square_at n h g q hm, G.exp_key n h g q b hm, coe_mul, coe_mul]
    refine congrArg Real.toEReal ?_
    rw [← band_mul, show band (fun k => x.prob h g (pos n q) k) n b = band (fun k => x.weight h g (pos n q) k) n b / x.total h g (pos n q) from
      (band_div _ _ n b).symm]
    have ht := (x.total_pos h g (pos n q)).ne'
    have he := (Real.exp_pos (-m)).ne'
    field_simp
  have hs : val_main_v94 (F := Ideal) x0 x1 x2 x3 x4 (sinkIx n h g q) = ((0 : ℝ) : EReal) := by
    refine (moved_read n h g q (Fin.last 256)).trans ?_
    rw [padded_sink, G.square_at n h g q hm, G.exp_sink n h g q hm, coe_mul, coe_mul, zero_mul, zero_mul]
  refine (mean_read n h g q z).trans ((congrArg (fun y : EReal => -y) (sum_row hk hs)).trans ((coe_neg _).trans (congrArg Real.toEReal ?_)))
  rw [add_zero, ← Finset.sum_div, Operands.delta_eq, sum_band _ n q (fun k hk => by rw [x.prob_of_not h g _ k hk, zero_mul])]

omit hm in
theorem Given.dscore_key : val_main_v103 (F := Ideal) x0 x1 x2 x3 x4 (keyIx n h g q b)
    = ((band (fun k => x.dscore h g (pos n q) k) n b : ℝ) : EReal) := by
  obtain ⟨m, hm⟩ := G.max_at n h g q
  refine (spread_read n h g q b.castSucc).trans ?_
  rw [Fin.sum_univ_one, G.padded_key, G.total_at n h g q hm, G.mean_at n h g q hm, G.exp_key n h g q b hm, coe_div _ _ (G.line_ne n h g q hm), coe_add, coe_mul]
  refine congrArg Real.toEReal ?_
  have ht := (x.total_pos h g (pos n q)).ne'
  have he := (Real.exp_pos (-m)).ne'
  unfold band
  split
  · simp only [Operands.dscore, Operands.prob]
    field_simp
    ring
  · rw [zero_mul, mul_zero]

omit hm in
theorem Given.dscore_sink : val_main_v103 (F := Ideal) x0 x1 x2 x3 x4 (sinkIx n h g q)
    = ((-(x.sinkWeight h g / x.total h g (pos n q) * x.delta h g (pos n q)) : ℝ) : EReal) := by
  obtain ⟨m, hm⟩ := G.max_at n h g q
  refine (spread_read n h g q (Fin.last 256)).trans ?_
  rw [Fin.sum_univ_one, padded_sink, G.total_at n h g q hm, G.mean_at n h g q hm, G.exp_sink n h g q hm, coe_div _ _ (G.line_ne n h g q hm), coe_add, coe_mul]
  refine congrArg Real.toEReal ?_
  have ht := (x.total_pos h g (pos n q)).ne'
  have he := (Real.exp_pos (-m)).ne'
  field_simp
  ring

omit hm in
/-- The gradient of a scaled score, as the reference's last products take it. -/
theorem Given.masked_at : val_main_v113 (F := Ideal) x0 x1 x2 x3 x4 (ix5 (n0 := 64) (n1 := 4) (n2 := 256) (n3 := 128) (n4 := 4) n h b q g)
    = ((band (fun k => x.dscore h g (pos n q) k) n b * (1 / 8) : ℝ) : EReal) := by
  refine (masked_read n h g q b).trans ?_
  rw [ref_mask_at]
  by_cases hs : SeesBand n q b
  · rw [if_pos hs, select_one]
    exact (congrArg₂ (· * ·) (G.dscore_key n h g q b) ofBits_eighth).trans (coe_mul _ _)
  · rw [if_neg hs, select_zero, band_seen _ n q b (fun k hk => x.dscore_of_not h g _ k hk), if_neg hs, zero_mul, EReal.coe_zero]

end Cert.Proof.Swa
end
-- ==== Proof.RefReads.lean ====
/-
  The reference's last operations, at an index.
-/
module

public import proofs.«01_k».proof.Proof.RefScores

@[expose] public section

set_option maxRecDepth 16384

noncomputable section

namespace Cert.Proof.Swa

open Cert.ReferenceIdeal Cert.ReferenceIdeal.Read
open Idealize.ShloMosaic Idealize.ShloMosaic.Tactic

/-- A sum over the first and the last two axes of an array of rank five. -/
theorem hostSum_034 {n0 n1 n2 n3 n4 : ℕ} (hr : (⟨5, ![n0, n1, n2, n3, n4]⟩ : Shape).ReducesTo [0, 3, 4] ⟨2, ![n1, n2]⟩)
    (v : (⟨5, ![n0, n1, n2, n3, n4]⟩ : Shape).Idx → EReal) (init : EReal) (h : Fin n1) (g : Fin n2) :
    Ideal.hostReduceAdd hr v init (ix2 h g) = init + ∑ n : Fin n0, ∑ q : Fin n3, ∑ z : Fin n4, v (ix5 n h g q z) := by
  refine congrArg (init + ·) ?_
  refine (Finset.sum_filter_eq_sum_of_fiber _ (fun k : Fin n0 × Fin n3 × Fin n4 => ix5 k.1 h g k.2.1 k.2.2)
    (fun _ _ e => Prod.ext (congrFun e 0) (Prod.ext (congrFun e 3) (congrFun e 4))) (fun i => ?_) v).trans ?_
  · constructor
    · intro e
      refine ⟨(i 0, i 3, i 4), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
      | ⟨4, _⟩ => rfl
    · rintro ⟨k, rfl⟩
      funext a
      apply Fin.ext
      match a with
      | ⟨0, _⟩ => rfl
      | ⟨1, _⟩ => rfl
  · simp only [Fintype.sum_prod_type]

theorem dite_congr_zero {c c' : Prop} [Decidable c] [Decidable c'] {f : c → EReal} {f' : c' → EReal} (e : c ↔ c') (hf : ∀ h h', f h = f' h') :
    (if h : c then f h else 0) = if h : c' then f' h else (0 : EReal) := by
  by_cases h : c
  · rw [dif_pos h, dif_pos (e.1 h)]; exact hf _ _
  · rw [dif_neg h, dif_neg fun h' => h (e.2 h')]

variable {x0 x4 : (⟨S8192x16x64, .f32⟩ : BufTy).Contents (Elt Ideal)} {x1 x2 : (⟨S8192x4x64, .f32⟩ : BufTy).Contents (Elt Ideal)}
  {x3 : (⟨S16, .f32⟩ : BufTy).Contents (Elt Ideal)}
  (n : Fin 64) (h g : Fin 4) (q : Fin 128) (b : Fin 256) (d : Fin 64) (a : Fin 16) (t : Fin 8192)

/-- A head's group, and its place in the group. -/
abbrev refGroup (a : Fin 16) : Fin 4 := ⟨a.val / 4, by omega⟩
abbrev refMember (a : Fin 16) : Fin 4 := ⟨a.val % 4, by omega⟩

theorem out_read : val_main_v133 (F := Ideal) x0 x1 x2 x3 (ix3 (n0 := 16) (n1 := 64) (n2 := 8192) a d t)
    = ∑ b, val_main_v14 (F := Ideal) x2 (ix4 (n0 := 64) (n1 := 256) (n2 := 4) (n3 := 64) (refBlock t) b (refGroup a) d)
      * val_main_v82 (F := Ideal) x0 x1 x3 (ix5 (n0 := 64) (n1 := 4) (n2 := 4) (n3 := 128) (n4 := 256) (refBlock t) (refGroup a) (refMember a) (refRow t) b) := by
  pointwise [val_main_v133, val_main_v85, val_main_v84, val_main_v83]

theorem dq_read : val_main_v134 (F := Ideal) x0 x1 x2 x3 x4 (ix3 (n0 := 16) (n1 := 64) (n2 := 8192) a d t)
    = ∑ b, val_main_v113 (F := Ideal) x0 x1 x2 x3 x4 (ix5 (n0 := 64) (n1 := 4) (n2 := 256) (n3 := 128) (n4 := 4) (refBlock t) (refGroup a) b (refRow t) (refMember a))
      * val_main_v7 (F := Ideal) x1 (ix4 (n0 := 64) (n1 := 256) (n2 := 4) (n3 := 64) (refBlock t) b (refGroup a) d) := by
  pointwise [val_main_v134, val_main_v132, val_main_v115, val_main_v114]

theorem dk_window_read : val_main_v116 (F := Ideal) x0 x1 x2 x3 x4 (ix4 (n0 := 64) (n1 := 4) (n2 := 256) (n3 := 64) n h b d)
    = ∑ q, ∑ g, val_main_v113 (F := Ideal) x0 x1 x2 x3 x4 (ix5 (n0 := 64) (n1 := 4) (n2 := 256) (n3 := 128) (n4 := 4) n h b q g)
      * val_main_v0 (F := Ideal) x0 (ix5 (n0 := 64) (n1 := 128) (n2 := 4) (n3 := 4) (n4 := 64) n q h g d) := by
  pointwise [val_main_v116]

theorem dk_read : val_main_v135 (F := Ideal) x0 x1 x2 x3 x4 (ix3 (n0 := 4) (n1 := 8192) (n2 := 64) h t d)
    = val_main_v116 (F := Ideal) x0 x1 x2 x3 x4 (ix4 (n0 := 64) (n1 := 4) (n2 := 256) (n3 := 64) (refBlock t) h ⟨128 + t.val % 128, by omega⟩ d)
      + (if hn : t.val / 128 < 63 then
          val_main_v116 (F := Ideal) x0 x1 x2 x3 x4 (ix4 (n0 := 64) (n1 := 4) (n2 := 256) (n3 := 64) ⟨1 + t.val / 128, by omega⟩ h ⟨t.val % 128, by omega⟩ d)
        else (0 : EReal)) := by
  pointwise [val_main_v135, val_main_v131, val_main_v130, val_main_v129, val_main_v128, val_main_v126, val_main_v125, val_main_v117, val_main_cst_26]
  exact congrArg (fun y : EReal => _ + y) (dite_congr_zero ⟨fun e => e.1, fun e => ⟨e, by omega⟩⟩ fun _ _ => rfl)

theorem dv_window_read : val_main_v89 (F := Ideal) x0 x1 x3 x4 (ix4 (n0 := 64) (n1 := 4) (n2 := 64) (n3 := 256) n h d b)
    = ∑ g, ∑ q, val_main_v87 (F := Ideal) x4 (ix5 (n0 := 64) (n1 := 4) (n2 := 64) (n3 := 4) (n4 := 128) n h d g q)
      * val_main_v82 (F := Ideal) x0 x1 x3 (ix5 (n0 := 64) (n1 := 4) (n2 := 4) (n3 := 128) (n4 := 256) n h g q b) := by
  pointwise [val_main_v89]

theorem dv_read : val_main_v136 (F := Ideal) x0 x1 x3 x4 (ix3 (n0 := 4) (n1 := 8192) (n2 := 64) h t d)
    = val_main_v89 (F := Ideal) x0 x1 x3 x4 (ix4 (n0 := 64) (n1 := 4) (n2 := 64) (n3 := 256) (refBlock t) h d ⟨128 + t.val % 128, by omega⟩)
      + (if hn : t.val / 128 < 63 then
          val_main_v89 (F := Ideal) x0 x1 x3 x4 (ix4 (n0 := 64) (n1 := 4) (n2 := 64) (n3 := 256) ⟨1 + t.val / 128, by omega⟩ h d ⟨t.val % 128, by omega⟩)
        else (0 : EReal)) := by
  pointwise [val_main_v136, val_main_v124, val_main_v123, val_main_v122, val_main_v121, val_main_v119, val_main_v118, val_main_v90, val_main_cst_25]
  exact congrArg (fun y : EReal => _ + y) (dite_congr_zero ⟨fun e => e.1, fun e => ⟨e, by omega⟩⟩ fun _ _ => rfl)

theorem sinks_read : val_main_v106 (F := Ideal) x0 x1 x2 x3 x4 (ix2 (n0 := 4) (n1 := 4) h g)
    = ∑ n : Fin 64, ∑ q : Fin 128, ∑ z : Fin 1, val_main_v105 (F := Ideal) x0 x1 x2 x3 x4 (oneIx n h g q z) := by
  pointwise [val_main_v106, val_main_cst_22]
  exact (hostSum_034 _ _ 0 h g).trans (zero_add _)

theorem sink_part_read (z : Fin 1) : val_main_v105 (F := Ideal) x0 x1 x2 x3 x4 (oneIx n h g q z)
    = val_main_v103 (F := Ideal) x0 x1 x2 x3 x4 (sinkIx n h g q) := by
  pointwise [val_main_v105]
  exact congrArg (val_main_v103 (F := Ideal) x0 x1 x2 x3 x4) (congrArg (fun k => ix5 n h g q k) (Fin.ext rfl))

theorem dsink_read : val_main_v109 (F := Ideal) x0 x1 x2 x3 x4 (ix1 (n0 := 16) a)
    = val_main_v106 (F := Ideal) x0 x1 x2 x3 x4 (ix2 (n0 := 4) (n1 := 4) (refGroup a) (refMember a)) := by
  pointwise [val_main_v109, val_main_v108, val_main_cst_23]
  refine (hostSum_034 _ _ 0 _ _).trans ((zero_add _).trans ?_)
  rw [Fin.sum_univ_one, Fin.sum_univ_one, Fin.sum_univ_one]
  pointwise [val_main_v107]

end Cert.Proof.Swa
end
-- ==== Proof.RefGrads.lean ====
/-
  What the reference computes: the output and the four gradients, each the specification's.
-/
module

public import proofs.«01_k».proof.Proof.RefReads

@[expose] public section

set_option maxRecDepth 16384

noncomputable section

namespace Cert.Proof.Swa

open Cert.ReferenceIdeal Cert.ReferenceIdeal.Read
open Idealize.ShloMosaic Idealize.ShloMosaic.Tactic

/-- Two nested inner products of real rows. -/
theorem dot_real₂ {ι κ : Type} [Fintype ι] [Fintype κ] {f f' : ι → κ → EReal} {a a' : ι → κ → ℝ} (hf : ∀ i j, f i j = (a i j : EReal))
    (hf' : ∀ i j, f' i j = (a' i j : EReal)) : ∑ i, ∑ j, f i j * f' i j = ((∑ i, ∑ j, a i j * a' i j : ℝ) : EReal) := by
  rw [← coe_sum]
  exact Finset.sum_congr rfl fun i _ => dot_real (hf i) (hf' i)

variable {x : Operands} {x0 x4 : (⟨S8192x16x64, .f32⟩ : BufTy).Contents (Elt Ideal)} {x1 x2 : (⟨S8192x4x64, .f32⟩ : BufTy).Contents (Elt Ideal)}
  {x3 : (⟨S16, .f32⟩ : BufTy).Contents (Elt Ideal)} (G : Given x x0 x1 x2 x3 x4)
  (n : Fin 64) (h g : Fin 4) (q : Fin 128) (b : Fin 256) (d : Fin 64) (a : Fin 16) (t : Fin 8192)

include G

theorem Given.out_at : val_main_v133 (F := Ideal) x0 x1 x2 x3 (ix3 (n0 := 16) (n1 := 64) (n2 := 8192) a d t)
    = ((x.out (refGroup a) (refMember a) t d : ℝ) : EReal) := by
  refine (out_read d a t).trans ((dot_real (fun b => G.value_at _ _ b d) (fun b => G.prob_at _ _ _ _ b)).trans (congrArg Real.toEReal ?_))
  rw [pos_of, Operands.out, sum_band _ (refBlock t) (refRow t) (fun k hk => by rw [pos_of] at hk; rw [x.prob_of_not _ _ _ _ hk, mul_zero])]
  exact Finset.sum_congr rfl fun b _ => band_mul _ _ _ _

theorem Given.dq_at : val_main_v134 (F := Ideal) x0 x1 x2 x3 x4 (ix3 (n0 := 16) (n1 := 64) (n2 := 8192) a d t)
    = ((x.dQ (refGroup a) (refMember a) t d : ℝ) : EReal) := by
  refine (dq_read d a t).trans ((dot_real (fun b => G.masked_at _ _ _ _ b) (fun b => G.key_at _ _ b d)).trans (congrArg Real.toEReal ?_))
  rw [pos_of, Operands.dQ, sum_band _ (refBlock t) (refRow t) (fun k hk => by rw [pos_of] at hk; rw [x.dscore_of_not _ _ _ _ hk, mul_zero]), Finset.sum_mul]
  exact Finset.sum_congr rfl fun b _ => by rw [← band_mul]; ring

theorem Given.dk_window : val_main_v116 (F := Ideal) x0 x1 x2 x3 x4 (ix4 (n0 := 64) (n1 := 4) (n2 := 256) (n3 := 64) n h b d)
    = ((∑ q, band (fun k => ∑ g, x.dscore h g (pos n q) k * (x.Q (pos n q) (headIx h g) d * (1 / 8))) n b : ℝ) : EReal) := by
  refine (dk_window_read n h b d).trans ((dot_real₂ (fun q g => G.masked_at n h g q b) (fun q g => G.query_at n h g q d)).trans (congrArg Real.toEReal ?_))
  refine Finset.sum_congr rfl fun q _ => ?_
  refine Eq.trans (Finset.sum_congr rfl fun g _ => by ring) (band_sum (fun g k => x.dscore h g (pos n q) k) (fun g => x.Q (pos n q) (headIx h g) d * (1 / 8)) n b)

theorem Given.dk_at : val_main_v135 (F := Ideal) x0 x1 x2 x3 x4 (ix3 (n0 := 4) (n1 := 8192) (n2 := 64) h t d) = ((x.dK h t d : ℝ) : EReal) := by
  refine (dk_read h d t).trans ?_
  rw [Operands.dK, sum_queries_band (fun s k => ∑ g, x.dscore h g s k * (x.Q s (headIx h g) d * (1 / 8))) t
    (fun s hs => Finset.sum_eq_zero fun g _ => by rw [x.dscore_of_not _ _ _ _ hs, zero_mul]), ← coe_add]
  refine congrArg₂ (fun y z : EReal => y + z) (G.dk_window _ _ _ _) ?_
  by_cases hn : t.val / 128 < 63
  · rw [dif_pos hn, dif_pos hn]; exact G.dk_window _ _ _ _
  · rw [dif_neg hn, dif_neg hn, EReal.coe_zero]

theorem Given.dv_window : val_main_v89 (F := Ideal) x0 x1 x3 x4 (ix4 (n0 := 64) (n1 := 4) (n2 := 64) (n3 := 256) n h d b)
    = ((∑ q, band (fun k => ∑ g, x.prob h g (pos n q) k * x.G (pos n q) (headIx h g) d) n b : ℝ) : EReal) := by
  refine (dv_window_read n h b d).trans ((dot_real₂ (fun g q => G.cotangent_at n h g q d) (fun g q => G.prob_at n h g q b)).trans (congrArg Real.toEReal ?_))
  rw [Finset.sum_comm]
  refine Finset.sum_congr rfl fun q _ => ?_
  exact Eq.trans (Finset.sum_congr rfl fun g _ => mul_comm _ _) (band_sum (fun g k => x.prob h g (pos n q) k) (fun g => x.G (pos n q) (headIx h g) d) n b)

theorem Given.dv_at : val_main_v136 (F := Ideal) x0 x1 x3 x4 (ix3 (n0 := 4) (n1 := 8192) (n2 := 64) h t d) = ((x.dV h t d : ℝ) : EReal) := by
  refine (dv_read h d t).trans ?_
  rw [Operands.dV, sum_queries_band (fun s k => ∑ g, x.prob h g s k * x.G s (headIx h g) d) t
    (fun s hs => Finset.sum_eq_zero fun g _ => by rw [x.prob_of_not _ _ _ _ hs, zero_mul]), ← coe_add]
  refine congrArg₂ (fun y z : EReal => y + z) (G.dv_window _ _ _ _) ?_
  by_cases hn : t.val / 128 < 63
  · rw [dif_pos hn, dif_pos hn]; exact G.dv_window _ _ _ _
  · rw [dif_neg hn, dif_neg hn, EReal.coe_zero]

theorem Given.dsink_at : val_main_v109 (F := Ideal) x0 x1 x2 x3 x4 (ix1 (n0 := 16) a) = ((x.dB (refGroup a) (refMember a) : ℝ) : EReal) := by
  refine (dsink_read a).trans ((sinks_read _ _).trans ?_)
  rw [Operands.dB, sum_pos, ← coe_sum]
  refine Finset.sum_congr rfl fun n _ => ?_
  rw [← coe_sum]
  refine Finset.sum_congr rfl fun q _ => ?_
  rw [Fin.sum_univ_one]
  exact (sink_part_read n _ _ q 0).trans (G.dscore_sink n _ _ q)

end Cert.Proof.Swa
end
-- ==== Proof.RealArgs.lean ====
/-
  An array whose entries all compare below +∞ in magnitude holds real numbers.
-/
module

public import Idealize.ShloMosaic.PureOps.Ideal.Laws
public import Idealize.ShloMosaic.Lib.ReduceAll

@[expose] public section

noncomputable section

namespace Cert.Proof

open Idealize.ShloMosaic

/-- The shape of a single number. -/
abbrev Single : Shape := ⟨0, ![]⟩

instance : Subsingleton Single.Idx := ⟨fun _ _ => funext fun a => a.elim0⟩

/-- A number of finite magnitude is real. -/
theorem real_of_abs_lt {s : Shape} (x : FVec Ideal s .f32) (hb : Single.BroadcastsInDim s (![] : Fin 0 → Fin s.rank)) (i : s.Idx)
    (h : cmpf .olt (Host.absf x) (broadcastInDim s ![] hb (constant (F := Ideal) Single .f32 0x7F800000#32)) i = 1#1) :
    x i = ((x i).toReal : EReal) := by
  have h' : Ideal.cmp .olt (max (x i) (-(x i))) (Ideal.ofBits .f32 0x7F800000#32) = 1#1 := h
  rw [show Ideal.ofBits .f32 0x7F800000#32 = ⊤ from by simp [Ideal.ofBits, Ideal.ieee]] at h'
  have ht : x i ≠ ⊤ := fun e => by rw [e] at h'; simp [Ideal.cmp] at h'
  have hb : x i ≠ ⊥ := fun e => by rw [e] at h'; simp [Ideal.cmp] at h'
  exact (EReal.coe_toReal ht hb).symm

/-- An array of which every entry compares below +∞ in magnitude holds reals. -/
theorem real_of_all {s : Shape} {axes : List (Fin s.rank)} (x : FVec Ideal s .f32) (hb : Single.BroadcastsInDim s (![] : Fin 0 → Fin s.rank))
    (hr : s.ReducesTo axes Single) (hu : 0 < Single.numel) (j : Single.Idx)
    (h : Host.reduce IntOp.andi (cmpf .olt (Host.absf x) (broadcastInDim s ![] hb (constant (F := Ideal) Single .f32 0x7F800000#32)))
      (constantI Single 1 1#1) hr hu j = 1#1) (i : s.Idx) : x i = ((x i).toReal : EReal) :=
  real_of_abs_lt x hb i (Host.reduce_andi_all _ _ hr hu j h i)

end Cert.Proof

end
-- ==== Proof.Finite.lean ====
/-
  What the precondition says: every argument is a real number, none of them infinite.
-/
module

public import proofs.«01_k».proof.Defs
public import proofs.«01_k».proof.Proof.Gen.Pre_finite
public import proofs.«01_k».proof.Proof.RealArgs

@[expose] public section

noncomputable section

namespace Cert.Proof.Swa

open Idealize.ShloMosaic Cert.Pre_finite Cert.Pre_finite.Facts

/-- The precondition: all five arguments are real. -/
theorem finite_args [Cert.Pre_finite.Facts] (x0 x4 : FVec Ideal S8192x16x64 .f32) (x1 x2 : FVec Ideal S8192x4x64 .f32) (x3 : FVec Ideal S16 .f32)
    (h : Cert.Pre_finite.fn (F := Ideal) x0 x1 x2 x3 x4 = fun _ => 1#1) :
    (∀ i, x0 i = ((x0 i).toReal : EReal)) ∧ (∀ i, x1 i = ((x1 i).toReal : EReal)) ∧ (∀ i, x2 i = ((x2 i).toReal : EReal))
      ∧ (∀ i, x3 i = ((x3 i).toReal : EReal)) ∧ (∀ i, x4 i = ((x4 i).toReal : EReal)) := by
  have h0 := congrFun h (fun a => a.elim0)
  obtain ⟨h1, e4⟩ := IntOp.andi_eq_one.1 h0
  obtain ⟨h2, e3⟩ := IntOp.andi_eq_one.1 h1
  obtain ⟨h3, e2⟩ := IntOp.andi_eq_one.1 h2
  obtain ⟨e0, e1⟩ := IntOp.andi_eq_one.1 h3
  exact ⟨real_of_all x0 _ _ _ _ e0, real_of_all x1 _ _ _ _ e1, real_of_all x2 _ _ _ _ e2, real_of_all x3 _ _ _ _ e3, real_of_all x4 _ _ _ _ e4⟩

end Cert.Proof.Swa

end
-- ==== Proof.Algebraic.lean ====
/-
  The equation: given real arguments, the kernel's program and the reference end with the same real results.
-/
module

public import proofs.«01_k».proof.Proof.BwdArrays
public import proofs.«01_k».proof.Proof.RefGrads
public import proofs.«01_k».proof.Proof.Finite

@[expose] public section

set_option maxRecDepth 16384

noncomputable section

namespace Cert.Proof.Swa

open Cert.KernelIdeal Cert.KernelIdeal.Gen
open Idealize.ShloMosaic Idealize.ShloMosaic.TcCoe Idealize.ShloMosaic.Tactic Idealize.SL.Sem

/-- Two arrays of three axes that agree at every index are equal. -/
theorem ext3 {n0 n1 n2 : ℕ} {f f' : (⟨3, ![n0, n1, n2]⟩ : Shape).Idx → EReal} (h : ∀ i j k, f (ix3 i j k) = f' (ix3 i j k)) : f = f' :=
  funext fun y => by rw [eq_ix3 y]; exact h _ _ _

/-- Two arrays of one axis that agree at every index are equal. -/
theorem ext1 {n : ℕ} {f f' : (⟨1, ![n]⟩ : Shape).Idx → EReal} (h : ∀ i, f (ix1 i) = f' (ix1 i)) : f = f' :=
  funext fun y => by rw [eq_ix1 y]; exact h _

/-- The real operands held in arrays of extended reals. -/
def operandsOf (x0 x4 : FVec Ideal Cert.Pre_finite.S8192x16x64 .f32) (x1 x2 : FVec Ideal Cert.Pre_finite.S8192x4x64 .f32)
    (x3 : FVec Ideal Cert.Pre_finite.S16 .f32) : Operands where
  Q t a d := (x0 (ix3 (n0 := 8192) (n1 := 16) (n2 := 64) t a d) : EReal).toReal
  K t h d := (x1 (ix3 (n0 := 8192) (n1 := 4) (n2 := 64) t h d) : EReal).toReal
  V t h d := (x2 (ix3 (n0 := 8192) (n1 := 4) (n2 := 64) t h d) : EReal).toReal
  B a := (x3 (ix1 (n0 := 16) a) : EReal).toReal
  G t a d := (x4 (ix3 (n0 := 8192) (n1 := 16) (n2 := 64) t a d) : EReal).toReal

/-- What the precondition makes of the arguments: the reference is given their real operands. -/
theorem given_of_finite {x0 x4 : FVec Ideal Cert.Pre_finite.S8192x16x64 .f32} {x1 x2 : FVec Ideal Cert.Pre_finite.S8192x4x64 .f32}
    {x3 : FVec Ideal Cert.Pre_finite.S16 .f32} (h : Cert.Pre_finite.fn (F := Ideal) x0 x1 x2 x3 x4 = fun _ => 1#1) :
    Given (operandsOf x0 x4 x1 x2 x3) x0 x1 x2 x3 x4 := by
  obtain ⟨h0, h1, h2, h3, h4⟩ := finite_args x0 x4 x1 x2 x3 h
  exact ⟨fun _ _ _ => h0 _, fun _ _ _ => h1 _, fun _ _ _ => h2 _, fun _ => h3 _, fun _ _ _ => h4 _⟩

variable {x : Operands} {m : (ℓ : Loc nD τ sig) → Buf (Elt Ideal) ℓ} {c : Dev nD}

/-- The kernel's program is launched on the operands the reference is given. -/
theorem launched_of_given (G : Given x (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))) : Launched x m c :=
  ⟨G.q, G.k, G.v, G.b, G.g⟩

variable {x0 x4 : FVec Ideal Cert.Pre_finite.S8192x16x64 .f32} {x1 x2 : FVec Ideal Cert.Pre_finite.S8192x4x64 .f32}
    {x3 : FVec Ideal Cert.Pre_finite.S16 .f32} (G : Given x x0 x1 x2 x3 x4) (L : Launched x m c)

include G L

theorem out_eq : Cert.ReferenceIdeal.Read.val_main_v133 (F := Ideal) x0 x1 x2 x3 = W5 m c (Proc.devRef .tc main_v24_0) :=
  ext3 (n0 := 16) (n1 := 64) (n2 := 8192) fun a d t => (G.out_at d a t).trans (out_at L a d t).symm
theorem dq_eq : Cert.ReferenceIdeal.Read.val_main_v134 (F := Ideal) x0 x1 x2 x3 x4 = W5 m c (Proc.devRef .tc main_v29_0) :=
  ext3 (n0 := 16) (n1 := 64) (n2 := 8192) fun a d t => (G.dq_at d a t).trans (dq_at L a d t).symm
theorem dk_eq : Cert.ReferenceIdeal.Read.val_main_v135 (F := Ideal) x0 x1 x2 x3 x4 = W5 m c (Proc.devRef .tc main_v29_1) :=
  ext3 (n0 := 4) (n1 := 8192) (n2 := 64) fun h t d => (G.dk_at h d t).trans (dk_at L h t d).symm
theorem dv_eq : Cert.ReferenceIdeal.Read.val_main_v136 (F := Ideal) x0 x1 x3 x4 = W5 m c (Proc.devRef .tc main_v29_2) :=
  ext3 (n0 := 4) (n1 := 8192) (n2 := 64) fun h t d => (G.dv_at h d t).trans (dv_at L h t d).symm
theorem dsink_eq : Cert.ReferenceIdeal.Read.val_main_v109 (F := Ideal) x0 x1 x2 x3 x4 = W5 m c (Proc.devRef .tc main_v31) :=
  ext1 (n := 16) fun a => (G.dsink_at a).trans (dsink_at L a).symm

omit G L

/-- Over the reals the kernel's program and the reference end with the same five results. -/
theorem algebraic : Cert.algebraic_KernelIdeal_ReferenceIdeal_pre_finite := by
  intro m g m' g' hp he
  have G := fun c => given_of_finite (hp c)
  have L := fun c => launched_of_given (G c)
  refine ⟨fun c => W5 m c (Proc.devRef .tc main_v24_0), fun c => W5 m c (Proc.devRef .tc main_v29_0),
    fun c => W5 m c (Proc.devRef .tc main_v29_1), fun c => W5 m c (Proc.devRef .tc main_v29_2),
    fun c => W5 m c (Proc.devRef .tc main_v31), ?_, ?_⟩
  · exact (θ_run defs _ _).mono (fun _ h c => ⟨h.1 c main_v24_0 rfl, h.1 c main_v29_0 rfl, h.1 c main_v29_1 rfl, h.1 c main_v29_2 rfl,
      h.1 c main_v31 rfl, (h.1 c main_arg0 rfl).trans (W5_arg0 m c), (h.1 c main_arg1 rfl).trans (W5_arg1 m c),
      (h.1 c main_arg2 rfl).trans (W5_arg2 m c), (h.1 c main_arg3 rfl).trans (W5_arg3 m c), (h.1 c main_arg4 rfl).trans (W5_arg4 m c)⟩) (run_main m g)
  · refine (θ_run Cert.ReferenceIdeal.defs _ _).mono (fun r h c => ?_) (Cert.ReferenceIdeal.Value.run m' g')
    obtain ⟨r0, r1, r2, r3, r4, ra⟩ := h c
    obtain ⟨e0, e1, e2, e3, e4⟩ := he c
    refine ⟨r0.trans ((Cert.ReferenceIdeal.Read.val_main_v133_eq m' c).trans ?_), r1.trans ((Cert.ReferenceIdeal.Read.val_main_v134_eq m' c).trans ?_),
      r2.trans ((Cert.ReferenceIdeal.Read.val_main_v135_eq m' c).trans ?_), r3.trans ((Cert.ReferenceIdeal.Read.val_main_v136_eq m' c).trans ?_),
      r4.trans ((Cert.ReferenceIdeal.Read.val_main_v109_eq m' c).trans ?_), ra⟩
    · rw [e0, e1, e2, e3]; exact out_eq (G c) (L c)
    · rw [e0, e1, e2, e3, e4]; exact dq_eq (G c) (L c)
    · rw [e0, e1, e2, e3, e4]; exact dk_eq (G c) (L c)
    · rw [e0, e1, e3, e4]; exact dv_eq (G c) (L c)
    · rw [e0, e1, e2, e3, e4]; exact dsink_eq (G c) (L c)

end Cert.Proof.Swa

end
-- ==== Proof.Gating.lean ====
/-
  The gate's function and its derivative over the extended reals.
-/
module

public import proofs.«01_k».proof.Proof.Extended

@[expose] public section

noncomputable section

namespace Cert.Proof

open Idealize.ShloMosaic

/-- The logistic function. -/
def sigmoid (g : EReal) : EReal := Ideal.div 1 (1 + Ideal.exp (-g))

/-- The kernel writes the negation as a subtraction from zero. -/
theorem sigmoid_sub (g : EReal) : Ideal.div 1 (1 + Ideal.exp (0 - g)) = sigmoid g := by
  rw [sub_eq_add_neg, zero_add, sigmoid]

theorem sigmoid_coe (g : ℝ) : sigmoid (g : EReal) = ((1 / (1 + Real.exp (-g)) : ℝ) : EReal) := by
  have h : (1 + Real.exp (-g)) ≠ 0 := (add_pos one_pos (Real.exp_pos _)).ne'
  rw [sigmoid, Swa.coe_neg, Ideal.exp_coe, ← EReal.coe_one, Swa.coe_add, Swa.coe_div _ _ h]

theorem sigmoid_top : sigmoid ⊤ = 1 := by
  simp [sigmoid, Ideal.div]

theorem sigmoid_bot : sigmoid ⊥ = 0 := by
  have h : (1 : EReal) + ⊤ = ⊤ := by rw [← EReal.coe_one, EReal.coe_add_top]
  simp [sigmoid, Ideal.div, h]

/-- The gated product of a gate and an up entry. -/
def gated (g u : EReal) : EReal := g * sigmoid g * u

/-- What a gate entry's gradient is: the cotangent `d` of the gated product times the up entry and the slope of the gate. -/
def gateSlope (d u g : EReal) : EReal := d * u * (sigmoid g + g * sigmoid g * (1 - sigmoid g))

/-- The slope multiplied out, the way the transpose of the gated product states it. -/
theorem gateSlope_eq (d u : ℝ) (g : EReal) : gateSlope d u g
    = (d * u) * sigmoid g + g * (d * u) * (sigmoid g * (1 - sigmoid g)) := by
  induction g using EReal.rec with
  | bot => simp [gateSlope, sigmoid_bot]
  | top =>
    have h : (1 : EReal) - 1 = 0 := by rw [← EReal.coe_one, Swa.coe_sub, sub_self, EReal.coe_zero]
    simp [gateSlope, sigmoid_top, h]
  | coe g =>
    rw [gateSlope, sigmoid_coe]
    generalize 1 / (1 + Real.exp (-g)) = s
    rw [← EReal.coe_one]
    simp only [Swa.coe_mul, Swa.coe_sub, Swa.coe_add]
    congr 1
    ring

end Cert.Proof

end
-- ==== Proof.GateUp.lean ====
/-
  The forward projections of the feed-forward layer: gate, up, and their gated product, at every index; and the equation
  with the reference.
-/
module

public import proofs.«01_k».proof.Defs
public import proofs.«01_k».proof.Proof.Gen.Kernel2Ideal.Value
public import proofs.«01_k».proof.Proof.Gen.Reference2Ideal.Read
public import proofs.«01_k».proof.Proof.Gating
public import Idealize.ShloMosaic.Lib.Pipeline.ValueKit

@[expose] public section

set_option maxRecDepth 16384

noncomputable section

namespace Cert.Proof.GateUp

open Cert.Kernel2Ideal Cert.Kernel2Ideal.Gen
open Idealize.ShloMosaic Idealize.ShloMosaic.TcCoe Idealize.ShloMosaic.Tactic Idealize.SL.Sem
open Idealize.ShloMosaic.Pipeline (Dat)

/-- The blocks a grid point works on: point `t` takes row block `t / 11` and column block `t % 11`. -/
theorem index_at : ∀ t : Fin cfg0.N, win0_0.index t = ![t.val / 11, 0] ∧ win0_1.index t = ![t.val % 11, 0]
    ∧ win0_2.index t = ![t.val % 11, 0] ∧ win0_3.index t = ![t.val / 11, t.val % 11]
    ∧ win0_4.index t = ![t.val / 11, t.val % 11] ∧ win0_5.index t = ![t.val / 11, t.val % 11] := by decide +kernel

/-- Row `r` of the row block a point works on, and row `q` of its block of weights. -/
def tokenOf (t : Fin 88) (r : Fin 1024) : Fin 8192 := ⟨1024 * (t.val / 11) + r.val, by omega⟩
def featureOf (t : Fin 88) (q : Fin 256) : Fin 2816 := ⟨256 * (t.val % 11) + q.val, by omega⟩

/-! ### The mathematics of the layer -/

/-- One entry of a projection: the product of a row of the layer's input and a row of the weights. -/
def proj (x : S8192x1024.Idx → EReal) (w : S2816x1024.Idx → EReal) (i : Fin 8192) (j : Fin 2816) : EReal :=
  ∑ k : Fin 1024, x (ix2 (n0 := 8192) (n1 := 1024) i k) * w (ix2 (n0 := 2816) (n1 := 1024) j k)

/-! ### The blocks a point is shown -/

variable (m : (ℓ : Loc nD τ sig) → Buf (Elt Ideal) ℓ) (c : Dev nD)

theorem blockX_at (t : Fin 88) (r k : Fin 1024) :
    iblk m c 0 t (ix2 (n0 := 1024) (n1 := 1024) r k)
      = m ((c : Thread nD τ).loc main_arg0) (ix2 (n0 := 8192) (n1 := 1024) (tokenOf t r) k) := by
  have e := index_at t
  unfold tokenOf
  rw [← V_main_arg0 m c]
  blk_ext [iblk, e.1]

theorem blockG_at (t : Fin 88) (q : Fin 256) (k : Fin 1024) :
    iblk m c 1 t (ix2 (n0 := 256) (n1 := 1024) q k)
      = m ((c : Thread nD τ).loc main_arg1) (ix2 (n0 := 2816) (n1 := 1024) (featureOf t q) k) := by
  have e := index_at t
  unfold featureOf
  rw [← V_main_arg1 m c]
  blk_ext [iblk, e.2.1]

theorem blockU_at (t : Fin 88) (q : Fin 256) (k : Fin 1024) :
    iblk m c 2 t (ix2 (n0 := 256) (n1 := 1024) q k)
      = m ((c : Thread nD τ).loc main_arg2) (ix2 (n0 := 2816) (n1 := 1024) (featureOf t q) k) := by
  have e := index_at t
  unfold featureOf
  rw [← V_main_arg2 m c]
  blk_ext [iblk, e.2.2.1]

/-! ### What a point writes -/

theorem pay1_at (x : Vec Ideal S1024x1024 .bf16) (w : Vec Ideal S256x1024 .bf16) (r : Fin 1024) (q : Fin 256) :
    k0_pay1 x w (ix2 (n0 := 1024) (n1 := 256) r q)
      = ∑ k : Fin 1024, x (ix2 (n0 := 1024) (n1 := 1024) r k) * w (ix2 (n0 := 256) (n1 := 1024) q k) := by
  pointwise [k0_pay1]

theorem pay2_eq (x : Vec Ideal S1024x1024 .bf16) (w : Vec Ideal S256x1024 .bf16) : k0_pay2 x w = k0_pay1 x w := rfl

theorem pay3_at (x : Vec Ideal S1024x1024 .bf16) (w v : Vec Ideal S256x1024 .bf16) (r : Fin 1024) (q : Fin 256) :
    k0_pay3 x w v (ix2 (n0 := 1024) (n1 := 256) r q)
      = gated (k0_pay1 x w (ix2 (n0 := 1024) (n1 := 256) r q)) (k0_pay1 x v (ix2 (n0 := 1024) (n1 := 256) r q)) := by
  rw [← pay2_eq x v, gated, ← sigmoid_sub]
  pointwise [k0_pay3]

/-- A projection's entry, from the blocks a point is shown. -/
theorem gate_at (t : Fin 88) (r : Fin 1024) (q : Fin 256) :
    k0_pay1 (F := Ideal) (iblk m c 0 t) (iblk m c 1 t) (ix2 (n0 := 1024) (n1 := 256) r q)
      = proj (m ((c : Thread nD τ).loc main_arg0)) (m ((c : Thread nD τ).loc main_arg1)) (tokenOf t r) (featureOf t q) :=
  (pay1_at _ _ r q).trans (Finset.sum_congr rfl fun k _ => congrArg₂ (· * ·) (blockX_at m c t r k) (blockG_at m c t q k))

theorem up_at (t : Fin 88) (r : Fin 1024) (q : Fin 256) :
    k0_pay1 (F := Ideal) (iblk m c 0 t) (iblk m c 2 t) (ix2 (n0 := 1024) (n1 := 256) r q)
      = proj (m ((c : Thread nD τ).loc main_arg0)) (m ((c : Thread nD τ).loc main_arg2)) (tokenOf t r) (featureOf t q) :=
  (pay1_at _ _ r q).trans (Finset.sum_congr rfl fun k _ => congrArg₂ (· * ·) (blockX_at m c t r k) (blockU_at m c t q k))

/-! ### The arrays after the run -/

theorem gate_arr : (dats m 0 c).arrAt 3 cfg0.N = fun y : S8192x2816.Idx =>
    proj (m ((c : Thread nD τ).loc main_arg0)) (m ((c : Thread nD τ).loc main_arg1)) (y 0) (y 1) := by
  refine (dats m 0 c).arrAt_eq_of_covers 3 _ (by decide +kernel) fun t hf y => ?_
  have e := index_at t
  blk_simp
  rw [after0_3]
  frame_out
  obtain ⟨r, q, rfl⟩ : ∃ (r : Fin 1024) (q : Fin 256), y = ix2 r q := ⟨y 0, y 1, (ix2_eta y).symm⟩
  have ep : (win0_3.blk t).view.emb (ix2 (n0 := 1024) (n1 := 256) r q) = ix2 (n0 := 8192) (n1 := 2816) (tokenOf t r) (featureOf t q) := by
    unfold tokenOf featureOf
    blk_ext [e.2.2.2.1]
  rw [ep]
  exact gate_at m c t r q

theorem up_arr : (dats m 0 c).arrAt 4 cfg0.N = fun y : S8192x2816.Idx =>
    proj (m ((c : Thread nD τ).loc main_arg0)) (m ((c : Thread nD τ).loc main_arg2)) (y 0) (y 1) := by
  refine (dats m 0 c).arrAt_eq_of_covers 4 _ (by decide +kernel) fun t hf y => ?_
  have e := index_at t
  blk_simp
  rw [after0_4]
  frame_out
  obtain ⟨r, q, rfl⟩ : ∃ (r : Fin 1024) (q : Fin 256), y = ix2 r q := ⟨y 0, y 1, (ix2_eta y).symm⟩
  have ep : (win0_4.blk t).view.emb (ix2 (n0 := 1024) (n1 := 256) r q) = ix2 (n0 := 8192) (n1 := 2816) (tokenOf t r) (featureOf t q) := by
    unfold tokenOf featureOf
    blk_ext [e.2.2.2.2.1]
  rw [ep, pay2_eq]
  exact up_at m c t r q

theorem act_arr : (dats m 0 c).arrAt 5 cfg0.N = fun y : S8192x2816.Idx =>
    gated (proj (m ((c : Thread nD τ).loc main_arg0)) (m ((c : Thread nD τ).loc main_arg1)) (y 0) (y 1))
      (proj (m ((c : Thread nD τ).loc main_arg0)) (m ((c : Thread nD τ).loc main_arg2)) (y 0) (y 1)) := by
  refine (dats m 0 c).arrAt_eq_of_covers 5 _ (by decide +kernel) fun t hf y => ?_
  have e := index_at t
  blk_simp
  rw [after0_5]
  frame_out
  obtain ⟨r, q, rfl⟩ : ∃ (r : Fin 1024) (q : Fin 256), y = ix2 r q := ⟨y 0, y 1, (ix2_eta y).symm⟩
  have ep : (win0_5.blk t).view.emb (ix2 (n0 := 1024) (n1 := 256) r q) = ix2 (n0 := 8192) (n1 := 2816) (tokenOf t r) (featureOf t q) := by
    unfold tokenOf featureOf
    blk_ext [e.2.2.2.2.2]
  rw [ep, pay3_at]
  exact congrArg₂ gated (gate_at m c t r q) (up_at m c t r q)

/-! ### The reference -/

section Reference
open Cert.Reference2Ideal.Read

variable (x : FVec Ideal S8192x1024 .bf16) (w v : FVec Ideal S2816x1024 .bf16)

theorem ref_gate : val_main_v3 (F := Ideal) x w = fun y : S8192x2816.Idx => proj x w (y 0) (y 1) := by
  funext y
  obtain ⟨i, j, rfl⟩ : ∃ (i : Fin 8192) (j : Fin 2816), y = ix2 i j := ⟨y 0, y 1, (ix2_eta y).symm⟩
  unfold proj
  pointwise [val_main_v3, val_main_v0, val_main_v2, val_main_v1]

theorem ref_up : val_main_v7 (F := Ideal) x v = fun y : S8192x2816.Idx => proj x v (y 0) (y 1) := ref_gate x v

theorem ref_act : val_main_v10 (F := Ideal) x w v
    = fun y : S8192x2816.Idx => gated (proj x w (y 0) (y 1)) (proj x v (y 0) (y 1)) := by
  funext y
  rw [← congrFun (ref_gate x w) y, ← congrFun (ref_up x v) y]
  obtain ⟨i, j, rfl⟩ : ∃ (i : Fin 8192) (j : Fin 2816), y = ix2 i j := ⟨y 0, y 1, (ix2_eta y).symm⟩
  unfold gated sigmoid
  pointwise [val_main_v10, val_main_v9, val_main_v8, val_main_call0_v5, val_main_call0_v4, val_main_call0_v3, val_main_call0_v2, val_main_call0_v1, val_main_call0_v0, val_main_call0_cst, val_main_call0_cst_0]

end Reference

/-! ### The equation -/

theorem algebraic : Cert.algebraic_Kernel2Ideal_Reference2Ideal := by
  intro m g m' g' _ he
  refine ⟨_, _, _, Cert.Kernel2Ideal.Value.run_blocks m g, (θ_run Cert.Reference2Ideal.defs _ _).mono (fun r h c => ?_) (Cert.Reference2Ideal.Value.run m' g')⟩
  obtain ⟨r0, r1, r2, ra⟩ := h c
  obtain ⟨e0, e1, e2⟩ := he c
  refine ⟨r0.trans ((Cert.Reference2Ideal.Read.val_main_v3_eq _ _).trans ?_), r1.trans ((Cert.Reference2Ideal.Read.val_main_v7_eq _ _).trans ?_),
    r2.trans ((Cert.Reference2Ideal.Read.val_main_v10_eq _ _ _).trans ?_), ra⟩
  · rw [e0, e1]; exact (ref_gate _ _).trans (gate_arr m c).symm
  · rw [e0, e2]; exact (ref_up _ _).trans (up_arr m c).symm
  · rw [e0, e1, e2]; exact (ref_act _ _ _).trans (act_arr m c).symm

end Cert.Proof.GateUp

end
-- ==== Proof.GateUpBwd.lean ====
/-
  The gradients of the gate and of the up projection, at every index; and the equation with the reference, whose arguments
  are real.
-/
module

public import proofs.«01_k».proof.Defs
public import proofs.«01_k».proof.Proof.Gen.Kernel3Ideal.Value
public import proofs.«01_k».proof.Proof.Gen.Reference3Ideal.Read
public import proofs.«01_k».proof.Proof.Gen.Pre_finite3
public import proofs.«01_k».proof.Proof.Gating
public import proofs.«01_k».proof.Proof.RealArgs
public import Idealize.ShloMosaic.Lib.Pipeline.ValueKit
public import Idealize.ShloMosaic.Lib.Pipeline.ReadBack

@[expose] public section

set_option maxRecDepth 16384

noncomputable section

namespace Cert.Proof.GateUpBwd

open Cert.Kernel3Ideal Cert.Kernel3Ideal.Gen
open Idealize.ShloMosaic Idealize.ShloMosaic.TcCoe Idealize.ShloMosaic.Tactic Idealize.SL.Sem
open Idealize.ShloMosaic.Pipeline (Dat)

/-- The blocks a grid point works on: point `t` takes row block `t / 11` and column block `t % 11`. -/
theorem index_at : ∀ t : Fin cfg0.N, win0_0.index t = ![t.val / 11, 0] ∧ win0_1.index t = ![t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] := by decide +kernel

/-- Row `r` of the row block a point works on, and column `q` of its column block. -/
def tokenOf (t : Fin 88) (r : Fin 1024) : Fin 8192 := ⟨1024 * (t.val / 11) + r.val, by omega⟩
def featureOf (t : Fin 88) (q : Fin 256) : Fin 2816 := ⟨256 * (t.val % 11) + q.val, by omega⟩

/-- The cotangent of the gated product: the layer's cotangent against the down projection's weights. -/
def dact (h : S8192x1024.Idx → EReal) (w : S2816x1024.Idx → EReal) (i : Fin 8192) (j : Fin 2816) : EReal :=
  ∑ k : Fin 1024, h (ix2 i k) * w (ix2 j k)

variable (m : (ℓ : Loc nD τ sig) → Buf (Elt Ideal) ℓ) (c : Dev nD)

/-- The four arguments as arrays of numbers. -/
def dh : S8192x1024.Idx → EReal := m ((c : Thread nD τ).loc main_arg0)
def weights : S2816x1024.Idx → EReal := m ((c : Thread nD τ).loc main_arg1)
def gate : S8192x2816.Idx → EReal := m ((c : Thread nD τ).loc main_arg2)
def up : S8192x2816.Idx → EReal := m ((c : Thread nD τ).loc main_arg3)

/-! ### The blocks a point is shown -/

theorem dhBlock_at (t : Fin 88) (r k : Fin 1024) :
    iblk m c 0 t (ix2 (n0 := 1024) (n1 := 1024) r k) = dh m c (ix2 (tokenOf t r) k) := by
  have e := index_at t
  unfold tokenOf dh
  rw [← V_main_arg0 m c]
  blk_ext [iblk, e.1]

theorem weightsBlock_at (t : Fin 88) (q : Fin 256) (k : Fin 1024) :
    iblk m c 1 t (ix2 (n0 := 256) (n1 := 1024) q k) = weights m c (ix2 (featureOf t q) k) := by
  have e := index_at t
  unfold featureOf weights
  rw [← V_main_arg1 m c]
  blk_ext [iblk, e.2.1]

theorem gateBlock_at (t : Fin 88) (r : Fin 1024) (q : Fin 256) :
    iblk m c 2 t (ix2 (n0 := 1024) (n1 := 256) r q) = gate m c (ix2 (tokenOf t r) (featureOf t q)) := by
  have e := index_at t
  unfold tokenOf featureOf gate
  rw [← V_main_arg2 m c]
  blk_ext [iblk, e.2.2.1]

theorem upBlock_at (t : Fin 88) (r : Fin 1024) (q : Fin 256) :
    iblk m c 3 t (ix2 (n0 := 1024) (n1 := 256) r q) = up m c (ix2 (tokenOf t r) (featureOf t q)) := by
  have e := index_at t
  unfold tokenOf featureOf up
  rw [← V_main_arg3 m c]
  blk_ext [iblk, e.2.2.2.1]

/-! ### What a point writes, from a cotangent block -/

theorem pay2_at (a : Vec Ideal S1024x1024 .bf16) (w : Vec Ideal S256x1024 .bf16) (r : Fin 1024) (q : Fin 256) :
    k0_pay2 a w (ix2 (n0 := 1024) (n1 := 256) r q)
      = ∑ k : Fin 1024, a (ix2 (n0 := 1024) (n1 := 1024) r k) * w (ix2 (n0 := 256) (n1 := 1024) q k) := by
  pointwise [k0_pay2]

theorem pay3_at (g : Vec Ideal S1024x256 .f32) (y : S1024x256.Idx) : k0_pay3 g y = sigmoid (g y) := by
  rw [← sigmoid_sub]
  pointwise [k0_pay3]

theorem pay5_at (a : Vec Ideal S1024x1024 .bf16) (w : Vec Ideal S256x1024 .bf16) (g u : Vec Ideal S1024x256 .f32) (y : S1024x256.Idx) :
    k0_pay5 a w g u y = gateSlope (k0_pay2 a w y) (u y) (g y) := by
  rw [gateSlope, ← pay3_at]
  pointwise [k0_pay5, k0_pay4]

theorem pay6_at (a : Vec Ideal S1024x1024 .bf16) (w : Vec Ideal S256x1024 .bf16) (g : Vec Ideal S1024x256 .f32) (y : S1024x256.Idx) :
    k0_pay6 a w g y = k0_pay2 a w y * (g y * sigmoid (g y)) := by
  rw [← pay3_at]
  pointwise [k0_pay6, k0_pay4]

/-! ### The scratch: the row block's cotangent, cast at the row's first point -/

theorem carried (n : ℕ) (h : n < cfg0.N) (r k : Fin 1024) :
    (outsAt0 m c n h).2.2 (ix2 (n0 := 1024) (n1 := 1024) r k) = dh m c (ix2 (tokenOf ⟨n, h⟩ r) k) := by
  induction n with
  | zero =>
    rw [outsAt0_A m c ⟨0, h⟩ rfl]
    frame_out
    exact (by pointwise [k0_pay1] : k0_pay1 (F := Ideal) (iblk m c 0 ⟨0, h⟩) (ix2 (n0 := 1024) (n1 := 1024) r k) = _).trans (dhBlock_at m c ⟨0, h⟩ r k)
  | succ n ih =>
    by_cases h0 : (n + 1) % 11 = 0
    · rw [outsAt0_A m c ⟨n + 1, h⟩ h0]
      frame_out
      exact (by pointwise [k0_pay1] : k0_pay1 (F := Ideal) (iblk m c 0 ⟨n + 1, h⟩) (ix2 (n0 := 1024) (n1 := 1024) r k) = _).trans (dhBlock_at m c ⟨n + 1, h⟩ r k)
    · have e : tokenOf ⟨n + 1, h⟩ r = tokenOf ⟨n, Nat.lt_of_succ_lt h⟩ r :=
        Fin.ext (by show 1024 * ((n + 1) / 11) + r.val = 1024 * (n / 11) + r.val; omega)
      rw [outsAt0_B m c ⟨n + 1, h⟩ h0, e, ← ih (Nat.lt_of_succ_lt h)]
      frame_out
      rfl

/-- The cotangent of the gated product, from the blocks a point is shown. -/
theorem dact_at (a : Vec Ideal S1024x1024 .bf16) (t : Fin 88) (ha : ∀ r k : Fin 1024, a (ix2 r k) = dh m c (ix2 (tokenOf t r) k))
    (r : Fin 1024) (q : Fin 256) : k0_pay2 (F := Ideal) a (iblk m c 1 t) (ix2 (n0 := 1024) (n1 := 256) r q)
      = dact (dh m c) (weights m c) (tokenOf t r) (featureOf t q) :=
  (pay2_at _ _ r q).trans (Finset.sum_congr rfl fun k _ => congrArg₂ (fun u v : EReal => u * v) (ha r k) (weightsBlock_at m c t q k))

theorem dgate_of (a : Vec Ideal S1024x1024 .bf16) (t : Fin 88) (ha : ∀ r k : Fin 1024, a (ix2 r k) = dh m c (ix2 (tokenOf t r) k))
    (r : Fin 1024) (q : Fin 256) : k0_pay5 (F := Ideal) a (iblk m c 1 t) (iblk m c 2 t) (iblk m c 3 t) (ix2 (n0 := 1024) (n1 := 256) r q)
      = gateSlope (dact (dh m c) (weights m c) (tokenOf t r) (featureOf t q)) (up m c (ix2 (tokenOf t r) (featureOf t q)))
        (gate m c (ix2 (tokenOf t r) (featureOf t q))) := by
  rw [← dact_at m c a t ha, ← upBlock_at, ← gateBlock_at]
  exact pay5_at _ _ _ _ _

theorem dup_of (a : Vec Ideal S1024x1024 .bf16) (t : Fin 88) (ha : ∀ r k : Fin 1024, a (ix2 r k) = dh m c (ix2 (tokenOf t r) k))
    (r : Fin 1024) (q : Fin 256) : k0_pay6 (F := Ideal) a (iblk m c 1 t) (iblk m c 2 t) (ix2 (n0 := 1024) (n1 := 256) r q)
      = dact (dh m c) (weights m c) (tokenOf t r) (featureOf t q)
        * (gate m c (ix2 (tokenOf t r) (featureOf t q)) * sigmoid (gate m c (ix2 (tokenOf t r) (featureOf t q)))) := by
  rw [← dact_at m c a t ha, ← gateBlock_at]
  exact pay6_at _ _ _ _

theorem fresh_at (t : Fin 88) (r k : Fin 1024) : k0_pay1 (F := Ideal) (iblk m c 0 t) (ix2 (n0 := 1024) (n1 := 1024) r k) = dh m c (ix2 (tokenOf t r) k) :=
  (by pointwise [k0_pay1] : k0_pay1 (F := Ideal) (iblk m c 0 t) (ix2 (n0 := 1024) (n1 := 1024) r k) = _).trans (dhBlock_at m c t r k)

theorem kept_at (t : Fin 88) (h0 : ¬t.val % 11 = 0) (r k : Fin 1024) :
    (outsAt0 m c (t.val - 1) (Nat.lt_of_le_of_lt (Nat.sub_le _ _) t.isLt)).2.2 (ix2 (n0 := 1024) (n1 := 1024) r k) = dh m c (ix2 (tokenOf t r) k) := by
  refine (carried m c _ _ r k).trans ?_
  have e : tokenOf ⟨t.val - 1, Nat.lt_of_le_of_lt (Nat.sub_le _ _) t.isLt⟩ r = tokenOf t r :=
    Fin.ext (by show 1024 * ((t.val - 1) / 11) + r.val = 1024 * (t.val / 11) + r.val; omega)
  rw [e]

/-! ### The arrays after the run -/

theorem dgate_arr : (dats m 0 c).arrAt 4 cfg0.N = fun y : S8192x2816.Idx =>
    gateSlope (dact (dh m c) (weights m c) (y 0) (y 1)) (up m c y) (gate m c y) := by
  refine (dats m 0 c).arrAt_eq_of_covers 4 _ (by decide +kernel) fun t hf y => ?_
  have e := index_at t
  blk_simp
  rw [after0_4]
  obtain ⟨r, q, rfl⟩ : ∃ (r : Fin 1024) (q : Fin 256), y = ix2 r q := ⟨y 0, y 1, (ix2_eta y).symm⟩
  have ep : (win0_4.blk t).view.emb (ix2 (n0 := 1024) (n1 := 256) r q) = ix2 (n0 := 8192) (n1 := 2816) (tokenOf t r) (featureOf t q) := by
    unfold tokenOf featureOf
    blk_ext [e.2.2.2.2.1]
  rw [ep]
  by_cases h0 : t.val % 11 = 0
  · rw [outsAt0_A m c t h0]
    frame_out
    exact dgate_of m c _ t (fresh_at m c t) r q
  · rw [outsAt0_B m c t h0]
    frame_out
    rw [read_unread_whole]
    exact dgate_of m c _ t (kept_at m c t h0) r q

theorem dup_arr : (dats m 0 c).arrAt 5 cfg0.N = fun y : S8192x2816.Idx =>
    dact (dh m c) (weights m c) (y 0) (y 1) * (gate m c y * sigmoid (gate m c y)) := by
  refine (dats m 0 c).arrAt_eq_of_covers 5 _ (by decide +kernel) fun t hf y => ?_
  have e := index_at t
  blk_simp
  rw [after0_5]
  obtain ⟨r, q, rfl⟩ : ∃ (r : Fin 1024) (q : Fin 256), y = ix2 r q := ⟨y 0, y 1, (ix2_eta y).symm⟩
  have ep : (win0_5.blk t).view.emb (ix2 (n0 := 1024) (n1 := 256) r q) = ix2 (n0 := 8192) (n1 := 2816) (tokenOf t r) (featureOf t q) := by
    unfold tokenOf featureOf
    blk_ext [e.2.2.2.2.2]
  rw [ep]
  by_cases h0 : t.val % 11 = 0
  · rw [outsAt0_A m c t h0]
    frame_out
    exact dup_of m c _ t (fresh_at m c t) r q
  · rw [outsAt0_B m c t h0]
    frame_out
    rw [read_unread_whole]
    exact dup_of m c _ t (kept_at m c t h0) r q

/-! ### The reference -/

section Reference
open Cert.Reference3Ideal.Read

variable (h : FVec Ideal S8192x1024 .f32) (w : FVec Ideal S2816x1024 .bf16) (g u : FVec Ideal S8192x2816 .f32)

theorem ref_dact (i : Fin 8192) (j : Fin 2816) : val_main_v4 (F := Ideal) h w (ix2 (n0 := 8192) (n1 := 2816) i j) = dact h w i j := by
  unfold dact
  pointwise [val_main_v4, val_main_v2]

theorem ref_sigmoid (y : S8192x2816.Idx) : val_main_v0_2 (F := Ideal) g y = sigmoid (g y) := by
  obtain ⟨i, j, rfl⟩ : ∃ (i : Fin 8192) (j : Fin 2816), y = ix2 i j := ⟨y 0, y 1, (ix2_eta y).symm⟩
  unfold sigmoid
  pointwise [val_main_v0_2, val_main_call0_v4, val_main_call0_v3, val_main_call0_v2, val_main_call0_v1, val_main_call0_v0, val_main_call0_cst, val_main_call0_cst_0]

theorem ref_dup : val_main_v9 (F := Ideal) h w g
    = fun y : S8192x2816.Idx => dact h w (y 0) (y 1) * (g y * sigmoid (g y)) := by
  funext y
  obtain ⟨i, j, rfl⟩ : ∃ (i : Fin 8192) (j : Fin 2816), y = ix2 i j := ⟨y 0, y 1, (ix2_eta y).symm⟩
  refine Eq.trans ?_ (mul_comm (g (ix2 i j) * sigmoid (g (ix2 i j))) (dact h w i j))
  rw [← ref_dact h w, ← ref_sigmoid g]
  pointwise [val_main_v9, val_main_v5, val_main_v0_0]

/-- The gate's gradient, when the cotangent, the weights and the up projection are real. -/
theorem ref_dgate (hh : ∀ i, h i = ((h i).toReal : EReal)) (hw : ∀ i, (w i : EReal) = ((w i : EReal).toReal : EReal))
    (hu : ∀ i, u i = ((u i).toReal : EReal)) : val_main_v8 (F := Ideal) h w g u
      = fun y : S8192x2816.Idx => gateSlope (dact h w (y 0) (y 1)) (u y) (g y) := by
  funext y
  obtain ⟨i, j, rfl⟩ : ∃ (i : Fin 8192) (j : Fin 2816), y = ix2 i j := ⟨y 0, y 1, (ix2_eta y).symm⟩
  have hd : dact h w i j = ((∑ k : Fin 1024, (h (ix2 (n0 := 8192) (n1 := 1024) i k)).toReal * (w (ix2 (n0 := 2816) (n1 := 1024) j k) : EReal).toReal : ℝ) : EReal) := by
    rw [← Swa.coe_sum]
    exact Finset.sum_congr rfl fun k _ => (congrArg₂ (fun u v : EReal => u * v) (hh _) (hw _)).trans (Swa.coe_mul _ _)
  have e : val_main_v8 (F := Ideal) h w g u (ix2 (n0 := 8192) (n1 := 2816) i j)
      = (dact h w i j * u (ix2 i j)) * sigmoid (g (ix2 i j))
        + g (ix2 i j) * (dact h w i j * u (ix2 i j)) * (sigmoid (g (ix2 i j)) * (1 - sigmoid (g (ix2 i j)))) := by
    rw [← ref_dact h w, ← ref_sigmoid g]
    pointwise [val_main_v8, val_main_v7, val_main_call1_v1, val_main_call1_v2, val_main_call1_v0, val_main_v6, val_main_v0_1, val_main_call0_v7,
      val_main_call0_v6, val_main_call0_cst_1]
  refine e.trans ?_
  show _ = gateSlope (dact h w i j) (u (ix2 i j)) (g (ix2 i j))
  rw [hd, hu (ix2 i j), gateSlope_eq]

end Reference

/-! ### The equation -/

/-- The precondition: the cotangent, the weights and the up projection are real. -/
theorem finite_args {h : FVec Ideal S8192x1024 .f32} {w : FVec Ideal S2816x1024 .bf16} {g u : FVec Ideal S8192x2816 .f32}
    (e : Cert.Pre_finite3.fn (F := Ideal) h w g u = fun _ => 1#1) :
    (∀ i, h i = ((h i).toReal : EReal)) ∧ (∀ i, (w i : EReal) = ((w i : EReal).toReal : EReal)) ∧ (∀ i, u i = ((u i).toReal : EReal)) := by
  have e0 := congrFun e (fun a => a.elim0)
  obtain ⟨e1, e3⟩ := IntOp.andi_eq_one.1 e0
  obtain ⟨e1, e2⟩ := IntOp.andi_eq_one.1 e1
  exact ⟨real_of_all h _ _ _ _ e1, real_of_all (extf .f32 w Cert.Pre_finite3.Facts.bitsLt_bf16_f32) _ _ _ _ e2, real_of_all u _ _ _ _ e3⟩

theorem algebraic : Cert.algebraic_Kernel3Ideal_Reference3Ideal_pre_finite3 := by
  intro m g m' g' hp he
  refine ⟨_, _, Cert.Kernel3Ideal.Value.run_blocks m g, (θ_run Cert.Reference3Ideal.defs _ _).mono (fun r h c => ?_) (Cert.Reference3Ideal.Value.run m' g')⟩
  obtain ⟨r0, r1, ra⟩ := h c
  obtain ⟨e0, e1, e2, e3⟩ := he c
  obtain ⟨hh, hw, hu⟩ := finite_args (hp c)
  refine ⟨r0.trans ((Cert.Reference3Ideal.Read.val_main_v8_eq _ _ _ _).trans ?_), r1.trans ((Cert.Reference3Ideal.Read.val_main_v9_eq _ _ _).trans ?_), ra⟩
  · rw [e0, e1, e2, e3]; exact (ref_dgate _ _ _ _ hh hw hu).trans (dgate_arr m c).symm
  · rw [e0, e1, e2]; exact (ref_dup _ _ _).trans (dup_arr m c).symm

end Cert.Proof.GateUpBwd

end
-- ==== Proof.Chunks.lean ====
/-
  A product summed in blocks: a scratch that collects the products of a run of grid points, the last of which is added as the
  block is written back; and a sum over blocks as one sum.
-/
module

public import Idealize.ShloMosaic.Lib.Pipeline.ValueKit
public import Idealize.ShloMosaic.Lib.Pipeline.ReadBack

@[expose] public section

noncomputable section

namespace Cert.Proof.Chunks

open Idealize.ShloMosaic

/-- The scratch before the last point of a run of `J`, and the last point's own term, together are the sum of the run. -/
theorem carried_add_last {N : ℕ} {ι : Type} (J : ℕ) [NeZero J] (hJ : 2 ≤ J) (scratch : (n : ℕ) → n < N → ι → EReal) (term : Fin N → ι → EReal)
    (first : ∀ t : Fin N, t.val % J = 0 → ∀ i, scratch t.val t.isLt i = term t i)
    (next : ∀ t : Fin N, ¬t.val % J = 0 → ¬t.val % J = J - 1 → ∀ i,
      scratch t.val t.isLt i = scratch (t.val - 1) (Nat.lt_of_le_of_lt (Nat.sub_le _ _) t.isLt) i + term t i)
    (t : Fin N) (ht : t.val % J = J - 1) (i : ι) :
    scratch (t.val - 1) (Nat.lt_of_le_of_lt (Nat.sub_le _ _) t.isLt) i + term t i
      = ∑ s : Fin J, term ⟨J * (t.val / J) + s.val, Pipeline.run_point_lt_of_flush t ht s⟩ i := by
  have before : ∀ n : ℕ, ¬n % J = 0 → ¬(n - 1) % J = J - 1 := fun n h0 e => by
    have h1 : 1 ≤ n := Nat.one_le_iff_ne_zero.2 fun h => h0 (by rw [h, Nat.zero_mod])
    refine h0 ?_
    obtain ⟨k, hk⟩ : ∃ k, n - 1 = J * k + (J - 1) := ⟨(n - 1) / J, by rw [← e]; exact (Nat.div_add_mod _ _).symm⟩
    rw [show n = J * (k + 1) by rw [Nat.mul_succ]; omega, Nat.mul_mod_right]
  have := Pipeline.eq_sum_fin_of_reset_step_apply_of_flush
    (fun n h i => if n % J = J - 1 then scratch (n - 1) (Nat.lt_of_le_of_lt (Nat.sub_le _ _) h) i + term ⟨n, h⟩ i else scratch n h i)
    J (fun _ => 0) term
    (fun t h i => by rw [if_neg (by omega), first t h i, zero_add])
    (fun t h i => by
      rw [if_neg (before t.val h)]
      by_cases hl : t.val % J = J - 1
      · rw [if_pos hl]
      · rw [if_neg hl, next t h hl i]) t ht i
  rw [if_pos ht, zero_add] at this
  exact this

/-- A sum over `S` blocks of `n` is the sum over them all. -/
theorem sum_blocks {L S n : ℕ} (hL : L = S * n) (f : Fin L → EReal) (place : Fin S → Fin n → Fin L)
    (h : ∀ s k, (place s k).val = s.val * n + k.val) : ∑ s : Fin S, ∑ k : Fin n, f (place s k) = ∑ l : Fin L, f l := by
  rw [← Fin.sum_mul_add_fin S n f hL]
  exact Finset.sum_congr rfl fun s _ => Finset.sum_congr rfl fun k _ => congrArg f (Fin.ext (h s k))

/-- One entry of the product of a transposed matrix and a matrix, over all the tokens. -/
def overTokens (a : (⟨2, ![8192, 2816]⟩ : Shape).Idx → EReal) (b : (⟨2, ![8192, 1024]⟩ : Shape).Idx → EReal) (i : Fin 2816) (j : Fin 1024) : EReal :=
  ∑ l : Fin 8192, a (ix2 l i) * b (ix2 l j)

/-- One entry of the product of two matrices, over all the features. -/
def overFeatures (a : (⟨2, ![8192, 2816]⟩ : Shape).Idx → EReal) (b : (⟨2, ![2816, 1024]⟩ : Shape).Idx → EReal) (i : Fin 8192) (j : Fin 1024) : EReal :=
  ∑ l : Fin 2816, a (ix2 i l) * b (ix2 l j)

/-- Of a grid of two blocks of features by eight of tokens: row `k` of a point's tokens, and row `r` of its features. -/
def tokenOf (t : Fin 16) (k : Fin 1024) : Fin 8192 := ⟨1024 * (t.val % 8) + k.val, by omega⟩
def featureOf (t : Fin 16) (r : Fin 1408) : Fin 2816 := ⟨1408 * (t.val / 8) + r.val, by omega⟩

/-- Of a grid of eight blocks of tokens by two of features: row `r` of a point's tokens, and row `k` of its features. -/
def tokenRow (t : Fin 16) (r : Fin 1024) : Fin 8192 := ⟨1024 * (t.val / 2) + r.val, by omega⟩
def featureCol (t : Fin 16) (k : Fin 1408) : Fin 2816 := ⟨1408 * (t.val % 2) + k.val, by omega⟩

/-- The products of the eight points of a run make up the product over all the tokens. -/
theorem sum_tokens (a : (⟨2, ![8192, 2816]⟩ : Shape).Idx → EReal) (b : (⟨2, ![8192, 1024]⟩ : Shape).Idx → EReal) (t : Fin 16) (r : Fin 1408)
    (q : Fin 1024) (h : ∀ s : Fin 8, 8 * (t.val / 8) + s.val < 16) :
    ∑ s : Fin 8, ∑ k : Fin 1024, a (ix2 (tokenOf ⟨8 * (t.val / 8) + s.val, h s⟩ k) (featureOf ⟨8 * (t.val / 8) + s.val, h s⟩ r))
      * b (ix2 (tokenOf ⟨8 * (t.val / 8) + s.val, h s⟩ k) q) = overTokens a b (featureOf t r) q := by
  have e : ∀ s : Fin 8, featureOf ⟨8 * (t.val / 8) + s.val, h s⟩ r = featureOf t r := fun s =>
    Fin.ext (by show 1408 * ((8 * (t.val / 8) + s.val) / 8) + r.val = 1408 * (t.val / 8) + r.val; omega)
  simp only [e]
  exact sum_blocks rfl (fun l => a (ix2 l (featureOf t r)) * b (ix2 l q)) (fun s k => tokenOf ⟨8 * (t.val / 8) + s.val, h s⟩ k)
    fun s k => by show 1024 * ((8 * (t.val / 8) + s.val) % 8) + k.val = s.val * 1024 + k.val; omega

/-- The products of the two points of a run make up the product over all the features. -/
theorem sum_features (a : (⟨2, ![8192, 2816]⟩ : Shape).Idx → EReal) (b : (⟨2, ![2816, 1024]⟩ : Shape).Idx → EReal) (t : Fin 16) (r : Fin 1024)
    (q : Fin 1024) (h : ∀ s : Fin 2, 2 * (t.val / 2) + s.val < 16) :
    ∑ s : Fin 2, ∑ k : Fin 1408, a (ix2 (tokenRow ⟨2 * (t.val / 2) + s.val, h s⟩ r) (featureCol ⟨2 * (t.val / 2) + s.val, h s⟩ k))
      * b (ix2 (featureCol ⟨2 * (t.val / 2) + s.val, h s⟩ k) q) = overFeatures a b (tokenRow t r) q := by
  have e : ∀ s : Fin 2, tokenRow ⟨2 * (t.val / 2) + s.val, h s⟩ r = tokenRow t r := fun s =>
    Fin.ext (by show 1024 * ((2 * (t.val / 2) + s.val) / 2) + r.val = 1024 * (t.val / 2) + r.val; omega)
  simp only [e]
  exact sum_blocks rfl (fun l => a (ix2 (tokenRow t r) l) * b (ix2 l q)) (fun s k => featureCol ⟨2 * (t.val / 2) + s.val, h s⟩ k)
    fun s k => by show 1408 * ((2 * (t.val / 2) + s.val) % 2) + k.val = s.val * 1408 + k.val; omega

end Cert.Proof.Chunks

end
-- ==== Proof.WeightGrad.lean ====
/-
  The gradient of the gate's weights: the product of the gate's cotangent with the layer's input, summed over all the
  tokens, at every index; and the equation with the reference.
-/
module

public import proofs.«01_k».proof.Defs
public import proofs.«01_k».proof.Proof.Gen.Kernel4Ideal.Value
public import proofs.«01_k».proof.Proof.Gen.Reference4Ideal.Read
public import proofs.«01_k».proof.Proof.Chunks

@[expose] public section

set_option maxRecDepth 16384

noncomputable section

namespace Cert.Proof.WeightGrad

open Cert.Kernel4Ideal Cert.Kernel4Ideal.Gen Cert.Proof.Chunks
open Idealize.ShloMosaic Idealize.ShloMosaic.TcCoe Idealize.ShloMosaic.Tactic Idealize.SL.Sem
open Idealize.ShloMosaic.Pipeline (Dat)

/-- The blocks a grid point works on: point `t` takes features `t / 8` and tokens `t % 8`. -/
theorem index_at : ∀ t : Fin cfg0.N, win0_0.index t = ![t.val % 8, t.val / 8] ∧ win0_1.index t = ![t.val % 8, 0]
    ∧ win0_2.index t = ![t.val / 8, 0] := by decide +kernel

variable (m : (ℓ : Loc nD τ sig) → Buf (Elt Ideal) ℓ) (c : Dev nD)

/-- The two arguments as arrays of numbers. -/
def argA : S8192x2816.Idx → EReal := m ((c : Thread nD τ).loc main_arg0)
def argB : S8192x1024.Idx → EReal := m ((c : Thread nD τ).loc main_arg1)

theorem blockA_at (t : Fin 16) (k : Fin 1024) (r : Fin 1408) :
    iblk m c 0 t (ix2 (n0 := 1024) (n1 := 1408) k r) = argA m c (ix2 (tokenOf t k) (featureOf t r)) := by
  have e := index_at t
  unfold tokenOf featureOf argA
  rw [← V_main_arg0 m c]
  blk_ext [iblk, e.1]

theorem blockB_at (t : Fin 16) (k q : Fin 1024) :
    iblk m c 1 t (ix2 (n0 := 1024) (n1 := 1024) k q) = argB m c (ix2 (tokenOf t k) q) := by
  have e := index_at t
  unfold tokenOf argB
  rw [← V_main_arg1 m c]
  blk_ext [iblk, e.2.1]

theorem pay1_at (a : Vec Ideal S1024x1408 .bf16) (b : Vec Ideal S1024x1024 .bf16) (r : Fin 1408) (q : Fin 1024) :
    k0_pay1 a b (ix2 (n0 := 1408) (n1 := 1024) r q)
      = ∑ k : Fin 1024, a (ix2 (n0 := 1024) (n1 := 1408) k r) * b (ix2 (n0 := 1024) (n1 := 1024) k q) := by
  pointwise [k0_pay1]

/-- A point's own product. -/
def part (t : Fin cfg0.N) : S1408x1024.Idx → EReal := k0_pay1 (F := Ideal) (iblk m c 0 t) (iblk m c 1 t)

theorem part_at (t : Fin 16) (r : Fin 1408) (q : Fin 1024) : part m c t (ix2 (n0 := 1408) (n1 := 1024) r q)
    = ∑ k : Fin 1024, argA m c (ix2 (tokenOf t k) (featureOf t r)) * argB m c (ix2 (tokenOf t k) q) :=
  (pay1_at _ _ r q).trans (Finset.sum_congr rfl fun k _ => congrArg₂ (fun u v : EReal => u * v) (blockA_at m c t k r) (blockB_at m c t k q))

theorem first (t : Fin cfg0.N) (h : t.val % 8 = 0) (y : S1408x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S1408x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S1408x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

theorem arr : (dats m 0 c).arrAt 2 cfg0.N = fun y : S2816x1024.Idx => overTokens (argA m c) (argB m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r : Fin 1408) (q : Fin 1024), y = ix2 r q := ⟨y 0, y 1, (ix2_eta y).symm⟩
  have ep : (win0_2.blk t).view.emb (ix2 (n0 := 1408) (n1 := 1024) r q) = ix2 (n0 := 2816) (n1 := 1024) (featureOf t r) q := by
    unfold featureOf
    blk_ext [e.2.2]
  rw [ep, last m c t h7]
  refine (carried_add_last 8 (by omega) (fun n h => (outsAt0 m c n h).2) (part m c) (first m c) (next m c) t h7 _).trans ?_
  exact (Finset.sum_congr rfl fun s _ => part_at m c _ r q).trans (sum_tokens _ _ t r q _)

section Reference
open Cert.Reference4Ideal.Read

theorem ref (a : FVec Ideal S8192x2816 .bf16) (b : FVec Ideal S8192x1024 .bf16) :
    val_main_v7 (F := Ideal) a b = fun y : S2816x1024.Idx => overTokens a b (y 0) (y 1) := by
  funext y
  obtain ⟨i, j, rfl⟩ : ∃ (i : Fin 2816) (j : Fin 1024), y = ix2 i j := ⟨y 0, y 1, (ix2_eta y).symm⟩
  unfold overTokens
  pointwise [val_main_v7, val_main_v6, val_main_v5, val_main_v4, val_main_v1]

end Reference

theorem algebraic : Cert.algebraic_Kernel4Ideal_Reference4Ideal := by
  intro m g m' g' _ he
  refine ⟨_, Cert.Kernel4Ideal.Value.run_blocks m g, (θ_run Cert.Reference4Ideal.defs _ _).mono (fun r h c => ?_) (Cert.Reference4Ideal.Value.run m' g')⟩
  obtain ⟨r0, ra⟩ := h c
  obtain ⟨e0, e1⟩ := he c
  refine ⟨r0.trans ((Cert.Reference4Ideal.Read.val_main_v7_eq _ _).trans ?_), ra⟩
  rw [e0, e1]
  exact (ref _ _).trans (arr m c).symm

end Cert.Proof.WeightGrad

end
-- ==== Proof.InputGrad.lean ====
/-
  What the gate hands back to the layer's input: the product of the gate's cotangent with its weights, summed over all the
  features, at every index; and the equation with the reference.
-/
module

public import proofs.«01_k».proof.Defs
public import proofs.«01_k».proof.Proof.Gen.Kernel5Ideal.Value
public import proofs.«01_k».proof.Proof.Gen.Reference5Ideal.Read
public import proofs.«01_k».proof.Proof.Chunks

@[expose] public section

set_option maxRecDepth 16384

noncomputable section

namespace Cert.Proof.InputGrad

open Cert.Kernel5Ideal Cert.Kernel5Ideal.Gen Cert.Proof.Chunks
open Idealize.ShloMosaic Idealize.ShloMosaic.TcCoe Idealize.ShloMosaic.Tactic Idealize.SL.Sem
open Idealize.ShloMosaic.Pipeline (Dat)

/-- The blocks a grid point works on: point `t` takes tokens `t / 2` and features `t % 2`. -/
theorem index_at : ∀ t : Fin cfg0.N, win0_0.index t = ![t.val / 2, t.val % 2] ∧ win0_1.index t = ![t.val % 2, 0]
    ∧ win0_2.index t = ![t.val / 2, 0] ∧ ((cfg0.win 2).flush t = true → t.val % 2 = 1) := by decide +kernel

variable (m : (ℓ : Loc nD τ sig) → Buf (Elt Ideal) ℓ) (c : Dev nD)

/-- The two arguments as arrays of numbers. -/
def dgate : S8192x2816.Idx → EReal := m ((c : Thread nD τ).loc main_arg0)
def weights : S2816x1024.Idx → EReal := m ((c : Thread nD τ).loc main_arg1)

theorem dgateBlock_at (t : Fin 16) (r : Fin 1024) (k : Fin 1408) :
    iblk m c 0 t (ix2 (n0 := 1024) (n1 := 1408) r k) = dgate m c (ix2 (tokenRow t r) (featureCol t k)) := by
  have e := index_at t
  unfold tokenRow featureCol dgate
  rw [← V_main_arg0 m c]
  blk_ext [iblk, e.1]

theorem weightsBlock_at (t : Fin 16) (k : Fin 1408) (q : Fin 1024) :
    iblk m c 1 t (ix2 (n0 := 1408) (n1 := 1024) k q) = weights m c (ix2 (featureCol t k) q) := by
  have e := index_at t
  unfold featureCol weights
  rw [← V_main_arg1 m c]
  blk_ext [iblk, e.2.1]

theorem pay1_at (a : Vec Ideal S1024x1408 .bf16) (b : Vec Ideal S1408x1024 .bf16) (r q : Fin 1024) :
    k0_pay1 a b (ix2 (n0 := 1024) (n1 := 1024) r q)
      = ∑ k : Fin 1408, a (ix2 (n0 := 1024) (n1 := 1408) r k) * b (ix2 (n0 := 1408) (n1 := 1024) k q) := by
  pointwise [k0_pay1]

/-- A point's own product. -/
def part (t : Fin cfg0.N) : S1024x1024.Idx → EReal := k0_pay1 (F := Ideal) (iblk m c 0 t) (iblk m c 1 t)

theorem part_at (t : Fin 16) (r q : Fin 1024) : part m c t (ix2 (n0 := 1024) (n1 := 1024) r q)
    = ∑ k : Fin 1408, dgate m c (ix2 (tokenRow t r) (featureCol t k)) * weights m c (ix2 (featureCol t k) q) :=
  (pay1_at _ _ r q).trans (Finset.sum_congr rfl fun k _ => congrArg₂ (fun u v : EReal => u * v) (dgateBlock_at m c t r k) (weightsBlock_at m c t k q))

theorem first (t : Fin cfg0.N) (h : t.val % 2 = 0) (y : S1024x1024.Idx) : (outsAt0 m c t.val t.isLt).2 y = part m c t y := by
  rw [outsAt0_A m c t h (by omega)]
  frame_out
  pointwise [k0_pay2]
  rfl

theorem last (t : Fin cfg0.N) (h1 : t.val % 2 = 1) (y : S1024x1024.Idx) : (outsAt0 m c t.val t.isLt).1 y
    = (outsAt0 m c (t.val - 1) (Nat.lt_of_le_of_lt (Nat.sub_le _ _) t.isLt)).2 y + part m c t y := by
  rw [outsAt0_B m c t (by omega) h1]
  frame_out
  pointwise [k0_pay4]
  rw [read_unread_whole, part]

theorem arr : (dats m 0 c).arrAt 2 cfg0.N = fun y : S8192x1024.Idx => overFeatures (dgate m c) (weights m c) (y 0) (y 1) := by
  refine (dats m 0 c).arrAt_eq_of_covers 2 _ (by decide +kernel) fun t hf y => ?_
  have e := index_at t
  have h1 : t.val % 2 = 1 := e.2.2.2 hf
  blk_simp
  rw [after0_2]
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (tokenRow t r) q := by
    unfold tokenRow
    blk_ext [e.2.2.1]
  rw [ep, last m c t h1]
  refine (carried_add_last 2 (by omega) (fun n h => (outsAt0 m c n h).2) (part m c) (first m c) (fun t h h' => absurd h' (by omega)) t h1 _).trans ?_
  exact (Finset.sum_congr rfl fun s _ => part_at m c _ r q).trans (sum_features _ _ t r q _)

section Reference
open Cert.Reference5Ideal.Read

theorem ref (a : FVec Ideal S8192x2816 .bf16) (b : FVec Ideal S2816x1024 .bf16) :
    val_main_v5 (F := Ideal) a b = fun y : S8192x1024.Idx => overFeatures a b (y 0) (y 1) := by
  funext y
  obtain ⟨i, j, rfl⟩ : ∃ (i : Fin 8192) (j : Fin 1024), y = ix2 i j := ⟨y 0, y 1, (ix2_eta y).symm⟩
  unfold overFeatures
  pointwise [val_main_v5, val_main_v4, val_main_v2, val_main_v1]

end Reference

theorem algebraic : Cert.algebraic_Kernel5Ideal_Reference5Ideal := by
  intro m g m' g' _ he
  refine ⟨_, Cert.Kernel5Ideal.Value.run_blocks m g, (θ_run Cert.Reference5Ideal.defs _ _).mono (fun r h c => ?_) (Cert.Reference5Ideal.Value.run m' g')⟩
  obtain ⟨r0, ra⟩ := h c
  obtain ⟨e0, e1⟩ := he c
  refine ⟨r0.trans ((Cert.Reference5Ideal.Read.val_main_v5_eq _ _).trans ?_), ra⟩
  rw [e0, e1]
  exact (ref _ _).trans (arr m c).symm

end Cert.Proof.InputGrad

end
-- ==== Proof.Down.lean ====
/-
  The down projection with its residual: the product of the gated product with the down projection's weights, summed over all
  the features, and the layer's input added, at every index; and the equation with the reference.
-/
module

public import proofs.«01_k».proof.Defs
public import proofs.«01_k».proof.Proof.Gen.Kernel6Ideal.Value
public import proofs.«01_k».proof.Proof.Gen.Reference6Ideal.Read
public import proofs.«01_k».proof.Proof.Chunks

@[expose] public section

set_option maxRecDepth 16384

noncomputable section

namespace Cert.Proof.Down

open Cert.Kernel6Ideal Cert.Kernel6Ideal.Gen Cert.Proof.Chunks
open Idealize.ShloMosaic Idealize.ShloMosaic.TcCoe Idealize.ShloMosaic.Tactic Idealize.SL.Sem
open Idealize.ShloMosaic.Pipeline (Dat)

/-- The blocks a grid point works on: point `t` takes tokens `t / 2` and features `t % 2`. -/
theorem index_at : ∀ t : Fin cfg0.N, win0_0.index t = ![t.val / 2, t.val % 2] ∧ win0_1.index t = ![t.val % 2, 0]
    ∧ win0_2.index t = ![t.val / 2, 0] ∧ win0_3.index t = ![t.val / 2, 0] := by decide +kernel

variable (m : (ℓ : Loc nD τ sig) → Buf (Elt Ideal) ℓ) (c : Dev nD)

/-- The three arguments as arrays of numbers. -/
def act : S8192x2816.Idx → EReal := m ((c : Thread nD τ).loc main_arg0)
def weights : S2816x1024.Idx → EReal := m ((c : Thread nD τ).loc main_arg1)
def residual : S8192x1024.Idx → EReal := m ((c : Thread nD τ).loc main_arg2)

theorem actBlock_at (t : Fin 16) (r : Fin 1024) (k : Fin 1408) :
    iblk m c 0 t (ix2 (n0 := 1024) (n1 := 1408) r k) = act m c (ix2 (tokenRow t r) (featureCol t k)) := by
  have e := index_at t
  unfold tokenRow featureCol act
  rw [← V_main_arg0 m c]
  blk_ext [iblk, e.1]

theorem weightsBlock_at (t : Fin 16) (k : Fin 1408) (q : Fin 1024) :
    iblk m c 1 t (ix2 (n0 := 1408) (n1 := 1024) k q) = weights m c (ix2 (featureCol t k) q) := by
  have e := index_at t
  unfold featureCol weights
  rw [← V_main_arg1 m c]
  blk_ext [iblk, e.2.1]

theorem residualBlock_at (t : Fin 16) (r q : Fin 1024) :
    iblk m c 2 t (ix2 (n0 := 1024) (n1 := 1024) r q) = residual m c (ix2 (tokenRow t r) q) := by
  have e := index_at t
  unfold tokenRow residual
  rw [← V_main_arg2 m c]
  blk_ext [iblk, e.2.2.1]

theorem pay1_at (a : Vec Ideal S1024x1408 .bf16) (b : Vec Ideal S1408x1024 .bf16) (r q : Fin 1024) :
    k0_pay1 a b (ix2 (n0 := 1024) (n1 := 1024) r q)
      = ∑ k : Fin 1408, a (ix2 (n0 := 1024) (n1 := 1408) r k) * b (ix2 (n0 := 1408) (n1 := 1024) k q) := by
  pointwise [k0_pay1]

/-- A point's own product. -/
def part (t : Fin cfg0.N) : S1024x1024.Idx → EReal := k0_pay1 (F := Ideal) (iblk m c 0 t) (iblk m c 1 t)

theorem part_at (t : Fin 16) (r q : Fin 1024) : part m c t (ix2 (n0 := 1024) (n1 := 1024) r q)
    = ∑ k : Fin 1408, act m c (ix2 (tokenRow t r) (featureCol t k)) * weights m c (ix2 (featureCol t k) q) :=
  (pay1_at _ _ r q).trans (Finset.sum_congr rfl fun k _ => congrArg₂ (fun u v : EReal => u * v) (actBlock_at m c t r k) (weightsBlock_at m c t k q))

theorem first (t : Fin cfg0.N) (h : t.val % 2 = 0) (y : S1024x1024.Idx) : (outsAt0 m c t.val t.isLt).2 y = part m c t y := by
  rw [outsAt0_A m c t h (by omega)]
  frame_out
  pointwise [k0_pay2]
  rfl

theorem last (t : Fin cfg0.N) (h1 : t.val % 2 = 1) (y : S1024x1024.Idx) : (outsAt0 m c t.val t.isLt).1 y
    = (outsAt0 m c (t.val - 1) (Nat.lt_of_le_of_lt (Nat.sub_le _ _) t.isLt)).2 y + part m c t y + iblk m c 2 t y := by
  rw [outsAt0_B m c t (by omega) h1]
  frame_out
  pointwise [k0_pay4]
  rw [read_unread_whole, part]

theorem arr : (dats m 0 c).arrAt 3 cfg0.N = fun y : S8192x1024.Idx =>
    overFeatures (act m c) (weights m c) (y 0) (y 1) + residual m c y := by
  refine (dats m 0 c).arrAt_eq_of_covers 3 _ (by decide +kernel) fun t hf y => ?_
  have e := index_at t
  have h1 : t.val % 2 = 1 := (flush0_3 t).mp hf
  blk_simp
  rw [after0_3]
  obtain ⟨r, q, rfl⟩ : ∃ (r q : Fin 1024), y = ix2 r q := ⟨y 0, y 1, (ix2_eta y).symm⟩
  have ep : (win0_3.blk t).view.emb (ix2 (n0 := 1024) (n1 := 1024) r q) = ix2 (n0 := 8192) (n1 := 1024) (tokenRow t r) q := by
    unfold tokenRow
    blk_ext [e.2.2.2]
  rw [ep, last m c t h1]
  refine congrArg₂ (fun u v : EReal => u + v) ?_ (residualBlock_at m c t r q)
  refine (carried_add_last 2 (by omega) (fun n h => (outsAt0 m c n h).2) (part m c) (first m c) (fun t h h' => absurd h' (by omega)) t h1 _).trans ?_
  exact (Finset.sum_congr rfl fun s _ => part_at m c _ r q).trans (sum_features _ _ t r q _)

section Reference
open Cert.Reference6Ideal.Read

theorem ref (a : FVec Ideal S8192x2816 .bf16) (b : FVec Ideal S2816x1024 .bf16) (x : FVec Ideal S8192x1024 .f32) :
    val_main_v3 (F := Ideal) a b x = fun y : S8192x1024.Idx => overFeatures a b (y 0) (y 1) + x y := by
  funext y
  obtain ⟨i, j, rfl⟩ : ∃ (i : Fin 8192) (j : Fin 1024), y = ix2 i j := ⟨y 0, y 1, (ix2_eta y).symm⟩
  refine Eq.trans ?_ (add_comm (x (ix2 (n0 := 8192) (n1 := 1024) i j) : EReal) _)
  unfold overFeatures
  pointwise [val_main_v3, val_main_v2, val_main_v1, val_main_v0]

end Reference

theorem algebraic : Cert.algebraic_Kernel6Ideal_Reference6Ideal := by
  intro m g m' g' _ he
  refine ⟨_, Cert.Kernel6Ideal.Value.run_blocks m g, (θ_run Cert.Reference6Ideal.defs _ _).mono (fun r h c => ?_) (Cert.Reference6Ideal.Value.run m' g')⟩
  obtain ⟨r0, ra⟩ := h c
  obtain ⟨e0, e1, e2⟩ := he c
  refine ⟨r0.trans ((Cert.Reference6Ideal.Read.val_main_v3_eq _ _ _).trans ?_), ra⟩
  rw [e0, e1, e2]
  exact (ref _ _ _).trans (arr m c).symm

end Cert.Proof.Down

end
-- ==== Proof.DownGrad.lean ====
/-
  The gradient of the down projection's weights: the product of the gated product with the cotangent of the layer, summed
  over all the tokens, at every index; and the equation with the reference.
-/
module

public import proofs.«01_k».proof.Defs
public import proofs.«01_k».proof.Proof.Gen.Kernel7Ideal.Value
public import proofs.«01_k».proof.Proof.Gen.Reference7Ideal.Read
public import proofs.«01_k».proof.Proof.Chunks

@[expose] public section

set_option maxRecDepth 16384

noncomputable section

namespace Cert.Proof.DownGrad

open Cert.Kernel7Ideal Cert.Kernel7Ideal.Gen Cert.Proof.Chunks
open Idealize.ShloMosaic Idealize.ShloMosaic.TcCoe Idealize.ShloMosaic.Tactic Idealize.SL.Sem
open Idealize.ShloMosaic.Pipeline (Dat)

/-- The blocks a grid point works on: point `t` takes features `t / 8` and tokens `t % 8`. -/
theorem index_at : ∀ t : Fin cfg0.N, win0_0.index t = ![t.val % 8, t.val / 8] ∧ win0_1.index t = ![t.val % 8, 0]
    ∧ win0_2.index t = ![t.val / 8, 0] := by decide +kernel

variable (m : (ℓ : Loc nD τ sig) → Buf (Elt Ideal) ℓ) (c : Dev nD)

/-- The two arguments as arrays of numbers. -/
def act : S8192x2816.Idx → EReal := m ((c : Thread nD τ).loc main_arg0)
def dh : S8192x1024.Idx → EReal := m ((c : Thread nD τ).loc main_arg1)

theorem actBlock_at (t : Fin 16) (k : Fin 1024) (r : Fin 1408) :
    iblk m c 0 t (ix2 (n0 := 1024) (n1 := 1408) k r) = act m c (ix2 (tokenOf t k) (featureOf t r)) := by
  have e := index_at t
  unfold tokenOf featureOf act
  rw [← V_main_arg0 m c]
  blk_ext [iblk, e.1]

theorem dhBlock_at (t : Fin 16) (k q : Fin 1024) :
    iblk m c 1 t (ix2 (n0 := 1024) (n1 := 1024) k q) = dh m c (ix2 (tokenOf t k) q) := by
  have e := index_at t
  unfold tokenOf dh
  rw [← V_main_arg1 m c]
  blk_ext [iblk, e.2.1]

/-- The body casts its second block before the product; over the reals the cast changes nothing. -/
theorem pay1_at (a : Vec Ideal S1024x1408 .bf16) (b : Vec Ideal S1024x1024 .f32) (r : Fin 1408) (q : Fin 1024) :
    k0_pay1 a b (ix2 (n0 := 1408) (n1 := 1024) r q)
      = ∑ k : Fin 1024, (a (ix2 (n0 := 1024) (n1 := 1408) k r) : EReal) * b (ix2 (n0 := 1024) (n1 := 1024) k q) := by
  pointwise [k0_pay1]

/-- A point's own product. -/
def part (t : Fin cfg0.N) : S1408x1024.Idx → EReal := k0_pay1 (F := Ideal) (iblk m c 0 t) (iblk m c 1 t)

theorem part_at (t : Fin 16) (r : Fin 1408) (q : Fin 1024) : part m c t (ix2 (n0 := 1408) (n1 := 1024) r q)
    = ∑ k : Fin 1024, act m c (ix2 (tokenOf t k) (featureOf t r)) * dh m c (ix2 (tokenOf t k) q) :=
  (pay1_at _ _ r q).trans (Finset.sum_congr rfl fun k _ => congrArg₂ (fun u v : EReal => u * v) (actBlock_at m c t k r) (dhBlock_at m c t k q))

theorem first (t : Fin cfg0.N) (h : t.val % 8 = 0) (y : S1408x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S1408x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S1408x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

theorem arr : (dats m 0 c).arrAt 2 cfg0.N = fun y : S2816x1024.Idx => overTokens (act m c) (dh m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r : Fin 1408) (q : Fin 1024), y = ix2 r q := ⟨y 0, y 1, (ix2_eta y).symm⟩
  have ep : (win0_2.blk t).view.emb (ix2 (n0 := 1408) (n1 := 1024) r q) = ix2 (n0 := 2816) (n1 := 1024) (featureOf t r) q := by
    unfold featureOf
    blk_ext [e.2.2]
  rw [ep, last m c t h7]
  refine (carried_add_last 8 (by omega) (fun n h => (outsAt0 m c n h).2) (part m c) (first m c) (next m c) t h7 _).trans ?_
  exact (Finset.sum_congr rfl fun s _ => part_at m c _ r q).trans (sum_tokens _ _ t r q _)

section Reference
open Cert.Reference7Ideal.Read

/-- The reference multiplies the other way round and transposes. -/
theorem ref (a : FVec Ideal S8192x2816 .bf16) (b : FVec Ideal S8192x1024 .f32) :
    val_main_v4 (F := Ideal) a b = fun y : S2816x1024.Idx => overTokens a b (y 0) (y 1) := by
  funext y
  obtain ⟨i, j, rfl⟩ : ∃ (i : Fin 2816) (j : Fin 1024), y = ix2 i j := ⟨y 0, y 1, (ix2_eta y).symm⟩
  refine Eq.trans ?_ (Finset.sum_congr rfl fun k _ => mul_comm (b (ix2 (n0 := 8192) (n1 := 1024) k j) : EReal) (a (ix2 (n0 := 8192) (n1 := 2816) k i)))
  pointwise [val_main_v4, val_main_v3, val_main_v1]

end Reference

theorem algebraic : Cert.algebraic_Kernel7Ideal_Reference7Ideal := by
  intro m g m' g' _ he
  refine ⟨_, Cert.Kernel7Ideal.Value.run_blocks m g, (θ_run Cert.Reference7Ideal.defs _ _).mono (fun r h c => ?_) (Cert.Reference7Ideal.Value.run m' g')⟩
  obtain ⟨r0, ra⟩ := h c
  obtain ⟨e0, e1⟩ := he c
  refine ⟨r0.trans ((Cert.Reference7Ideal.Read.val_main_v4_eq _ _).trans ?_), ra⟩
  rw [e0, e1]
  exact (ref _ _).trans (arr m c).symm

end Cert.Proof.DownGrad

end
-- ==== Proof.Products.lean ====
/-
  The entries of a product of two matrices, either of which may be transposed, and a product summed over the points of a run.
-/
module

public import proofs.«01_k».proof.Proof.Chunks

@[expose] public section

noncomputable section

namespace Cert.Proof.Products

open Idealize.ShloMosaic

variable {M K N : ℕ}

/-- One entry of the product of two matrices. -/
def plain (a : (⟨2, ![M, K]⟩ : Shape).Idx → EReal) (b : (⟨2, ![K, N]⟩ : Shape).Idx → EReal) (i : Fin M) (j : Fin N) : EReal :=
  ∑ k : Fin K, a (ix2 i k) * b (ix2 k j)

/-- One entry of the product of a matrix and a transposed one. -/
def rightT (a : (⟨2, ![M, K]⟩ : Shape).Idx → EReal) (b : (⟨2, ![N, K]⟩ : Shape).Idx → EReal) (i : Fin M) (j : Fin N) : EReal :=
  ∑ k : Fin K, a (ix2 i k) * b (ix2 j k)

/-- One entry of the product of a transposed matrix and a matrix. -/
def leftT (a : (⟨2, ![K, M]⟩ : Shape).Idx → EReal) (b : (⟨2, ![K, N]⟩ : Shape).Idx → EReal) (i : Fin M) (j : Fin N) : EReal :=
  ∑ k : Fin K, a (ix2 k i) * b (ix2 k j)

/-- Row `r` of block `t` of eight blocks of 1024 rows. -/
def row (t : Fin 8) (r : Fin 1024) : Fin 8192 := ⟨1024 * t.val + r.val, by omega⟩

/-- The sums of the `J` points of a run make up the sum over all the blocks, when the points of a run differ in the block only. -/
theorem sum_run {P J n L : ℕ} (hL : L = J * n) (f : Fin P → Fin L → EReal) (place : Fin P → Fin n → Fin L)
    (hp : ∀ t k, (place t k).val = n * (t.val % J) + k.val) (t : Fin P) (h : ∀ s : Fin J, J * (t.val / J) + s.val < P)
    (hf : ∀ (s : Fin J) (l : Fin L), f ⟨J * (t.val / J) + s.val, h s⟩ l = f t l) :
    ∑ s : Fin J, ∑ k : Fin n, f ⟨J * (t.val / J) + s.val, h s⟩ (place ⟨J * (t.val / J) + s.val, h s⟩ k) = ∑ l : Fin L, f t l := by
  simp only [hf]
  refine Chunks.sum_blocks hL (f t) (fun s k => place ⟨J * (t.val / J) + s.val, h s⟩ k) fun s k => ?_
  rw [hp]
  show n * ((J * (t.val / J) + s.val) % J) + k.val = s.val * n + k.val
  rw [Nat.mul_add_mod, Nat.mod_eq_of_lt s.isLt, Nat.mul_comm]

end Cert.Proof.Products

end
-- ==== Proof.PleGate.lean ====
/-
  The projection into the embedding's gate: the product of the normed tokens and the gate's weights at every index; and the
  equation with the reference.
-/
module

public import proofs.«01_k».proof.Defs
public import proofs.«01_k».proof.Proof.Gen.Kernel8Ideal.Value
public import proofs.«01_k».proof.Proof.Gen.Reference8Ideal.Read
public import proofs.«01_k».proof.Proof.Products

@[expose] public section

set_option maxRecDepth 16384

noncomputable section

namespace Cert.Proof.PleGate

open Cert.Kernel8Ideal Cert.Kernel8Ideal.Gen Cert.Proof.Products
open Idealize.ShloMosaic Idealize.ShloMosaic.TcCoe Idealize.ShloMosaic.Tactic Idealize.SL.Sem
open Idealize.ShloMosaic.Pipeline (Dat)

/-- The blocks a grid point works on: point `t` takes row block `t` and all the weights. -/
theorem index_at : ∀ t : Fin cfg0.N, win0_0.index t = ![t.val, 0] ∧ win0_1.index t = ![0, 0]
    ∧ win0_2.index t = ![t.val, 0] := by decide +kernel

variable (m : (ℓ : Loc nD τ sig) → Buf (Elt Ideal) ℓ) (c : Dev nD)

/-- The two arguments as arrays of numbers. -/
def tokens : S8192x1024.Idx → EReal := m ((c : Thread nD τ).loc main_arg0)
def weights : S1024x1024.Idx → EReal := m ((c : Thread nD τ).loc main_arg1)

theorem tokensBlock_at (t : Fin 8) (r k : Fin 1024) :
    iblk m c 0 t (ix2 (n0 := 1024) (n1 := 1024) r k) = tokens m c (ix2 (row t r) k) := by
  have e := index_at t
  unfold row tokens
  rw [← V_main_arg0 m c]
  blk_ext [iblk, e.1]

theorem weightsBlock_at (t : Fin 8) (k q : Fin 1024) :
    iblk m c 1 t (ix2 (n0 := 1024) (n1 := 1024) k q) = weights m c (ix2 (n0 := 1024) (n1 := 1024) k q) := by
  have e := index_at t
  unfold weights
  rw [← V_main_arg1 m c]
  blk_ext [iblk, e.2.1]

theorem pay1_at (a b : Vec Ideal S1024x1024 .bf16) (r q : Fin 1024) : k0_pay1 a b (ix2 (n0 := 1024) (n1 := 1024) r q)
      = ∑ k : Fin 1024, a (ix2 (n0 := 1024) (n1 := 1024) r k) * b (ix2 (n0 := 1024) (n1 := 1024) k q) := by
  pointwise [k0_pay1]

theorem block_at (t : Fin 8) (r q : Fin 1024) : k0_pay1 (F := Ideal) (iblk m c 0 t) (iblk m c 1 t) (ix2 (n0 := 1024) (n1 := 1024) r q)
    = plain (tokens m c) (weights m c) (row t r) q :=
  (pay1_at _ _ r q).trans (Finset.sum_congr rfl fun k _ => congrArg₂ (fun u v : EReal => u * v) (tokensBlock_at m c t r k) (weightsBlock_at m c t k q))

theorem arr : (dats m 0 c).arrAt 2 cfg0.N = fun y : S8192x1024.Idx => plain (tokens m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (row t r) q := by
    unfold row
    blk_ext [e.2.2]
  rw [ep]
  exact block_at m c t r q

section Reference
open Cert.Reference8Ideal.Read

theorem ref (a : FVec Ideal S8192x1024 .bf16) (b : FVec Ideal S1024x1024 .bf16) :
    val_main_v2 (F := Ideal) a b = fun y : S8192x1024.Idx => plain a b (y 0) (y 1) := by
  funext y
  obtain ⟨i, j, rfl⟩ : ∃ (i : Fin 8192) (j : Fin 1024), y = ix2 i j := ⟨y 0, y 1, (ix2_eta y).symm⟩
  unfold plain
  pointwise [val_main_v2, val_main_v1, val_main_v0]

end Reference

theorem algebraic : Cert.algebraic_Kernel8Ideal_Reference8Ideal := by
  intro m g m' g' _ he
  refine ⟨_, Cert.Kernel8Ideal.Value.run_blocks m g, (θ_run Cert.Reference8Ideal.defs _ _).mono (fun r h c => ?_) (Cert.Reference8Ideal.Value.run m' g')⟩
  obtain ⟨r0, ra⟩ := h c
  obtain ⟨e0, e1⟩ := he c
  refine ⟨r0.trans ((Cert.Reference8Ideal.Read.val_main_v2_eq _ _).trans ?_), ra⟩
  rw [e0, e1]
  exact (ref _ _).trans (arr m c).symm

end Cert.Proof.PleGate

end
-- ==== Proof.PleWeightGrad.lean ====
/-
  The gradient of the weights of the embedding's gate: the product of the transposed tokens and the cotangent, summed over all
  the tokens, at every index; and the equation with the reference.
-/
module

public import proofs.«01_k».proof.Defs
public import proofs.«01_k».proof.Proof.Gen.Kernel9Ideal.Value
public import proofs.«01_k».proof.Proof.Gen.Reference9Ideal.Read
public import proofs.«01_k».proof.Proof.Products

@[expose] public section

set_option maxRecDepth 16384

noncomputable section

namespace Cert.Proof.PleWeightGrad

open Cert.Kernel9Ideal Cert.Kernel9Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes tokens `t`. -/
theorem index_at : ∀ t : Fin cfg0.N, win0_0.index t = ![t.val, 0] ∧ win0_1.index t = ![t.val, 0]
    ∧ win0_2.index t = ![0, 0] := by decide +kernel

variable (m : (ℓ : Loc nD τ sig) → Buf (Elt Ideal) ℓ) (c : Dev nD)

/-- The two arguments as arrays of numbers. -/
def tokens : S8192x1024.Idx → EReal := m ((c : Thread nD τ).loc main_arg0)
def cotangent : S8192x1024.Idx → EReal := m ((c : Thread nD τ).loc main_arg1)

theorem tokensBlock_at (t : Fin 8) (k r : Fin 1024) :
    iblk m c 0 t (ix2 (n0 := 1024) (n1 := 1024) k r) = tokens m c (ix2 (row t k) r) := by
  have e := index_at t
  unfold row tokens
  rw [← V_main_arg0 m c]
  blk_ext [iblk, e.1]

theorem cotangentBlock_at (t : Fin 8) (k q : Fin 1024) :
    iblk m c 1 t (ix2 (n0 := 1024) (n1 := 1024) k q) = cotangent m c (ix2 (row t k) q) := by
  have e := index_at t
  unfold row cotangent
  rw [← V_main_arg1 m c]
  blk_ext [iblk, e.2.1]

theorem pay1_at (a b : Vec Ideal S1024x1024 .bf16) (r q : Fin 1024) : k0_pay1 a b (ix2 (n0 := 1024) (n1 := 1024) r q)
      = ∑ k : Fin 1024, a (ix2 (n0 := 1024) (n1 := 1024) k r) * b (ix2 (n0 := 1024) (n1 := 1024) k q) := by
  pointwise [k0_pay1]

/-- A point's own product. -/
def part (t : Fin cfg0.N) : S1024x1024.Idx → EReal := k0_pay1 (F := Ideal) (iblk m c 0 t) (iblk m c 1 t)

theorem part_at (t : Fin 8) (r q : Fin 1024) : part m c t (ix2 (n0 := 1024) (n1 := 1024) r q)
    = ∑ k : Fin 1024, tokens m c (ix2 (row t k) r) * cotangent m c (ix2 (row t k) q) :=
  (pay1_at _ _ r q).trans (Finset.sum_congr rfl fun k _ => congrArg₂ (fun u v : EReal => u * v) (tokensBlock_at m c t k r) (cotangentBlock_at m c t k q))

theorem first (t : Fin cfg0.N) (h : t.val % 8 = 0) (y : S1024x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S1024x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S1024x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

/-- The products of a run's points make up the whole product. -/
theorem total (t : Fin 8) (h : ∀ s : Fin 8, 8 * (t.val / 8) + s.val < 8) (r q : Fin 1024) :
    ∑ s : Fin 8, part m c ⟨8 * (t.val / 8) + s.val, h s⟩ (ix2 (n0 := 1024) (n1 := 1024) r q) = leftT (tokens m c) (cotangent m c) r q := by
  unfold leftT
  refine (Finset.sum_congr rfl fun s _ => part_at m c ⟨8 * (t.val / 8) + s.val, h s⟩ r q).trans ?_
  exact sum_run (P := 8) (J := 8) (n := 1024) (L := 8192) (by decide) (fun _ l => tokens m c (ix2 l r) * cotangent m c (ix2 l q)) row
    (fun s k => by show 1024 * s.val + k.val = 1024 * (s.val % 8) + k.val; omega) t h fun _ _ => rfl

theorem arr : (dats m 0 c).arrAt 2 cfg0.N = fun y : S1024x1024.Idx => leftT (tokens m c) (cotangent m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 1024) (n1 := 1024) r q := by
    blk_ext [e.2.2]
  rw [ep, last m c t h7]
  refine (carried_add_last 8 (by omega) (fun n h => (outsAt0 m c n h).2) (part m c) (first m c) (next m c) t h7 _).trans ?_
  exact total m c t _ r q

section Reference
open Cert.Reference9Ideal.Read

theorem ref (a b : FVec Ideal S8192x1024 .bf16) :
    val_main_v5 (F := Ideal) a b = fun y : S1024x1024.Idx => leftT a b (y 0) (y 1) := by
  funext y
  obtain ⟨i, j, rfl⟩ : ∃ (i j : Fin 1024), y = ix2 i j := ⟨y 0, y 1, (ix2_eta y).symm⟩
  refine Eq.trans ?_ (Finset.sum_congr rfl fun l _ => mul_comm (b (ix2 (n0 := 8192) (n1 := 1024) l j) : EReal) _)
  pointwise [val_main_v5, val_main_v4, val_main_v3, val_main_v1]

end Reference

theorem algebraic : Cert.algebraic_Kernel9Ideal_Reference9Ideal := by
  intro m g m' g' _ he
  refine ⟨_, Cert.Kernel9Ideal.Value.run_blocks m g, (θ_run Cert.Reference9Ideal.defs _ _).mono (fun r h c => ?_) (Cert.Reference9Ideal.Value.run m' g')⟩
  obtain ⟨r0, ra⟩ := h c
  obtain ⟨e0, e1⟩ := he c
  refine ⟨r0.trans ((Cert.Reference9Ideal.Read.val_main_v5_eq _ _).trans ?_), ra⟩
  rw [e0, e1]
  exact (ref _ _).trans (arr m c).symm

end Cert.Proof.PleWeightGrad

end
-- ==== Proof.PleInputGrad.lean ====
/-
  The part of the tokens' gradient that comes through the embedding's gate: the product of the cotangent and the transposed
  weights at every index; and the equation with the reference.
-/
module

public import proofs.«01_k».proof.Defs
public import proofs.«01_k».proof.Proof.Gen.Kernel10Ideal.Value
public import proofs.«01_k».proof.Proof.Gen.Reference10Ideal.Read
public import proofs.«01_k».proof.Proof.Products

@[expose] public section

set_option maxRecDepth 16384

noncomputable section

namespace Cert.Proof.PleInputGrad

open Cert.Kernel10Ideal Cert.Kernel10Ideal.Gen Cert.Proof.Products
open Idealize.ShloMosaic Idealize.ShloMosaic.TcCoe Idealize.ShloMosaic.Tactic Idealize.SL.Sem
open Idealize.ShloMosaic.Pipeline (Dat)

/-- The blocks a grid point works on: point `t` takes row block `t` and all the weights. -/
theorem index_at : ∀ t : Fin cfg0.N, win0_0.index t = ![t.val, 0] ∧ win0_1.index t = ![0, 0]
    ∧ win0_2.index t = ![t.val, 0] := by decide +kernel

variable (m : (ℓ : Loc nD τ sig) → Buf (Elt Ideal) ℓ) (c : Dev nD)

/-- The two arguments as arrays of numbers. -/
def cotangent : S8192x1024.Idx → EReal := m ((c : Thread nD τ).loc main_arg0)
def weights : S1024x1024.Idx → EReal := m ((c : Thread nD τ).loc main_arg1)

theorem cotangentBlock_at (t : Fin 8) (r k : Fin 1024) :
    iblk m c 0 t (ix2 (n0 := 1024) (n1 := 1024) r k) = cotangent m c (ix2 (row t r) k) := by
  have e := index_at t
  unfold row cotangent
  rw [← V_main_arg0 m c]
  blk_ext [iblk, e.1]

theorem weightsBlock_at (t : Fin 8) (q k : Fin 1024) :
    iblk m c 1 t (ix2 (n0 := 1024) (n1 := 1024) q k) = weights m c (ix2 (n0 := 1024) (n1 := 1024) q k) := by
  have e := index_at t
  unfold weights
  rw [← V_main_arg1 m c]
  blk_ext [iblk, e.2.1]

theorem pay1_at (a b : Vec Ideal S1024x1024 .bf16) (r q : Fin 1024) : k0_pay1 a b (ix2 (n0 := 1024) (n1 := 1024) r q)
      = ∑ k : Fin 1024, a (ix2 (n0 := 1024) (n1 := 1024) r k) * b (ix2 (n0 := 1024) (n1 := 1024) q k) := by
  pointwise [k0_pay1]

theorem block_at (t : Fin 8) (r q : Fin 1024) : k0_pay1 (F := Ideal) (iblk m c 0 t) (iblk m c 1 t) (ix2 (n0 := 1024) (n1 := 1024) r q)
    = rightT (cotangent m c) (weights m c) (row t r) q :=
  (pay1_at _ _ r q).trans (Finset.sum_congr rfl fun k _ => congrArg₂ (fun u v : EReal => u * v) (cotangentBlock_at m c t r k) (weightsBlock_at m c t q k))

theorem arr : (dats m 0 c).arrAt 2 cfg0.N = fun y : S8192x1024.Idx => rightT (cotangent m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (row t r) q := by
    unfold row
    blk_ext [e.2.2]
  rw [ep]
  exact block_at m c t r q

section Reference
open Cert.Reference10Ideal.Read

theorem ref (a : FVec Ideal S8192x1024 .bf16) (b : FVec Ideal S1024x1024 .bf16) :
    val_main_v4 (F := Ideal) a b = fun y : S8192x1024.Idx => rightT a b (y 0) (y 1) := by
  funext y
  obtain ⟨i, j, rfl⟩ : ∃ (i : Fin 8192) (j : Fin 1024), y = ix2 i j := ⟨y 0, y 1, (ix2_eta y).symm⟩
  unfold rightT
  pointwise [val_main_v4, val_main_v3, val_main_v1]

end Reference

theorem algebraic : Cert.algebraic_Kernel10Ideal_Reference10Ideal := by
  intro m g m' g' _ he
  refine ⟨_, Cert.Kernel10Ideal.Value.run_blocks m g, (θ_run Cert.Reference10Ideal.defs _ _).mono (fun r h c => ?_) (Cert.Reference10Ideal.Value.run m' g')⟩
  obtain ⟨r0, ra⟩ := h c
  obtain ⟨e0, e1⟩ := he c
  refine ⟨r0.trans ((Cert.Reference10Ideal.Read.val_main_v4_eq _ _).trans ?_), ra⟩
  rw [e0, e1]
  exact (ref _ _).trans (arr m c).symm

end Cert.Proof.PleInputGrad

end
-- ==== Proof.MixOut.lean ====
/-
  The projection out of a mixer with its residual: the product of the transposed mixer's output and the weights, and the layer's
  input added, at every index; and the equation with the reference.
-/
module

public import proofs.«01_k».proof.Defs
public import proofs.«01_k».proof.Proof.Gen.Kernel11Ideal.Value
public import proofs.«01_k».proof.Proof.Gen.Reference11Ideal.Read
public import proofs.«01_k».proof.Proof.Products

@[expose] public section

set_option maxRecDepth 16384

noncomputable section

namespace Cert.Proof.MixOut

open Cert.Kernel11Ideal Cert.Kernel11Ideal.Gen Cert.Proof.Products
open Idealize.ShloMosaic Idealize.ShloMosaic.TcCoe Idealize.ShloMosaic.Tactic Idealize.SL.Sem
open Idealize.ShloMosaic.Pipeline (Dat)

/-- The blocks a grid point works on: point `t` takes row block `t` and all the weights. -/
theorem index_at : ∀ t : Fin cfg0.N, win0_0.index t = ![0, t.val] ∧ win0_1.index t = ![0, 0]
    ∧ win0_2.index t = ![t.val, 0] ∧ win0_3.index t = ![t.val, 0] := by decide +kernel

variable (m : (ℓ : Loc nD τ sig) → Buf (Elt Ideal) ℓ) (c : Dev nD)

/-- The three arguments as arrays of numbers. -/
def mixed : S1024x8192.Idx → EReal := m ((c : Thread nD τ).loc main_arg0)
def weights : S1024x1024.Idx → EReal := m ((c : Thread nD τ).loc main_arg1)
def residual : S8192x1024.Idx → EReal := m ((c : Thread nD τ).loc main_arg2)

theorem mixedBlock_at (t : Fin 8) (k r : Fin 1024) :
    iblk m c 0 t (ix2 (n0 := 1024) (n1 := 1024) k r) = mixed m c (ix2 k (row t r)) := by
  have e := index_at t
  unfold row mixed
  rw [← V_main_arg0 m c]
  blk_ext [iblk, e.1]

theorem weightsBlock_at (t : Fin 8) (k q : Fin 1024) :
    iblk m c 1 t (ix2 (n0 := 1024) (n1 := 1024) k q) = weights m c (ix2 (n0 := 1024) (n1 := 1024) k q) := by
  have e := index_at t
  unfold weights
  rw [← V_main_arg1 m c]
  blk_ext [iblk, e.2.1]

theorem residualBlock_at (t : Fin 8) (r q : Fin 1024) :
    iblk m c 2 t (ix2 (n0 := 1024) (n1 := 1024) r q) = residual m c (ix2 (row t r) q) := by
  have e := index_at t
  unfold row residual
  rw [← V_main_arg2 m c]
  blk_ext [iblk, e.2.2.1]

theorem pay1_at (a b : Vec Ideal S1024x1024 .bf16) (x : Vec Ideal S1024x1024 .f32) (r q : Fin 1024) : k0_pay1 a b x (ix2 (n0 := 1024) (n1 := 1024) r q)
      = (∑ k : Fin 1024, a (ix2 (n0 := 1024) (n1 := 1024) k r) * b (ix2 (n0 := 1024) (n1 := 1024) k q))
        + x (ix2 (n0 := 1024) (n1 := 1024) r q) := by
  pointwise [k0_pay1]

theorem block_at (t : Fin 8) (r q : Fin 1024) : k0_pay1 (F := Ideal) (iblk m c 0 t) (iblk m c 1 t) (iblk m c 2 t) (ix2 (n0 := 1024) (n1 := 1024) r q)
    = leftT (mixed m c) (weights m c) (row t r) q + residual m c (ix2 (n0 := 8192) (n1 := 1024) (row t r) q) :=
  (pay1_at _ _ _ r q).trans (congrArg₂ (fun u v : EReal => u + v) (Finset.sum_congr rfl fun k _ => congrArg₂ (fun u v : EReal => u * v) (mixedBlock_at m c t k r) (weightsBlock_at m c t k q)) (residualBlock_at m c t r q))

theorem arr : (dats m 0 c).arrAt 3 cfg0.N = fun y : S8192x1024.Idx => leftT (mixed m c) (weights m c) (y 0) (y 1) + residual m c y := by
  refine (dats m 0 c).arrAt_eq_of_covers 3 _ (by decide +kernel) fun t hf y => ?_
  have e := index_at t
  blk_simp
  rw [after0_3, outsAt0]
  frame_out
  obtain ⟨r, q, rfl⟩ : ∃ (r q : Fin 1024), y = ix2 r q := ⟨y 0, y 1, (ix2_eta y).symm⟩
  have ep : (win0_3.blk t).view.emb (ix2 (n0 := 1024) (n1 := 1024) r q) = ix2 (n0 := 8192) (n1 := 1024) (row t r) q := by
    unfold row
    blk_ext [e.2.2.2]
  rw [ep]
  exact block_at m c t r q

section Reference
open Cert.Reference11Ideal.Read

theorem ref (a : FVec Ideal S1024x8192 .bf16) (b : FVec Ideal S1024x1024 .bf16) (x : FVec Ideal S8192x1024 .f32) :
    val_main_v4 (F := Ideal) a b x = fun y : S8192x1024.Idx => leftT a b (y 0) (y 1) + x y := by
  funext y
  obtain ⟨i, j, rfl⟩ : ∃ (i : Fin 8192) (j : Fin 1024), y = ix2 i j := ⟨y 0, y 1, (ix2_eta y).symm⟩
  refine Eq.trans ?_ (add_comm (x (ix2 (n0 := 8192) (n1 := 1024) i j) : EReal) _)
  unfold leftT
  pointwise [val_main_v4, val_main_v3, val_main_v2, val_main_v1, val_main_v0]

end Reference

theorem algebraic : Cert.algebraic_Kernel11Ideal_Reference11Ideal := by
  intro m g m' g' _ he
  refine ⟨_, Cert.Kernel11Ideal.Value.run_blocks m g, (θ_run Cert.Reference11Ideal.defs _ _).mono (fun r h c => ?_) (Cert.Reference11Ideal.Value.run m' g')⟩
  obtain ⟨r0, ra⟩ := h c
  obtain ⟨e0, e1, e2⟩ := he c
  refine ⟨r0.trans ((Cert.Reference11Ideal.Read.val_main_v4_eq _ _ _).trans ?_), ra⟩
  rw [e0, e1, e2]
  exact (ref _ _ _).trans (arr m c).symm

end Cert.Proof.MixOut

end
-- ==== Proof.MixWeightGrad.lean ====
/-
  The gradient of the weights that lead out of a mixer: the product of the mixer's output, which is held transposed, and the
  cotangent, summed over all the tokens, at every index; and the equation with the reference.
-/
module

public import proofs.«01_k».proof.Defs
public import proofs.«01_k».proof.Proof.Gen.Kernel12Ideal.Value
public import proofs.«01_k».proof.Proof.Gen.Reference12Ideal.Read
public import proofs.«01_k».proof.Proof.Products

@[expose] public section

set_option maxRecDepth 16384

noncomputable section

namespace Cert.Proof.MixWeightGrad

open Cert.Kernel12Ideal Cert.Kernel12Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes tokens `t`. -/
theorem index_at : ∀ t : Fin cfg0.N, win0_0.index t = ![0, t.val] ∧ win0_1.index t = ![t.val, 0]
    ∧ win0_2.index t = ![0, 0] := by decide +kernel

variable (m : (ℓ : Loc nD τ sig) → Buf (Elt Ideal) ℓ) (c : Dev nD)

/-- The two arguments as arrays of numbers. -/
def mixed : S1024x8192.Idx → EReal := m ((c : Thread nD τ).loc main_arg0)
def cotangent : S8192x1024.Idx → EReal := m ((c : Thread nD τ).loc main_arg1)

theorem mixedBlock_at (t : Fin 8) (r k : Fin 1024) :
    iblk m c 0 t (ix2 (n0 := 1024) (n1 := 1024) r k) = mixed m c (ix2 r (row t k)) := by
  have e := index_at t
  unfold row mixed
  rw [← V_main_arg0 m c]
  blk_ext [iblk, e.1]

theorem cotangentBlock_at (t : Fin 8) (k q : Fin 1024) :
    iblk m c 1 t (ix2 (n0 := 1024) (n1 := 1024) k q) = cotangent m c (ix2 (row t k) q) := by
  have e := index_at t
  unfold row cotangent
  rw [← V_main_arg1 m c]
  blk_ext [iblk, e.2.1]

theorem pay1_at (a : Vec Ideal S1024x1024 .bf16) (b : Vec Ideal S1024x1024 .f32) (r q : Fin 1024) : k0_pay1 a b (ix2 (n0 := 1024) (n1 := 1024) r q)
      = ∑ k : Fin 1024, a (ix2 (n0 := 1024) (n1 := 1024) r k) * b (ix2 (n0 := 1024) (n1 := 1024) k q) := by
  pointwise [k0_pay1]

/-- A point's own product. -/
def part (t : Fin cfg0.N) : S1024x1024.Idx → EReal := k0_pay1 (F := Ideal) (iblk m c 0 t) (iblk m c 1 t)

theorem part_at (t : Fin 8) (r q : Fin 1024) : part m c t (ix2 (n0 := 1024) (n1 := 1024) r q)
    = ∑ k : Fin 1024, mixed m c (ix2 r (row t k)) * cotangent m c (ix2 (row t k) q) :=
  (pay1_at _ _ r q).trans (Finset.sum_congr rfl fun k _ => congrArg₂ (fun u v : EReal => u * v) (mixedBlock_at m c t r k) (cotangentBlock_at m c t k q))

theorem first (t : Fin cfg0.N) (h : t.val % 8 = 0) (y : S1024x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S1024x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S1024x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

/-- The products of a run's points make up the whole product. -/
theorem total (t : Fin 8) (h : ∀ s : Fin 8, 8 * (t.val / 8) + s.val < 8) (r q : Fin 1024) :
    ∑ s : Fin 8, part m c ⟨8 * (t.val / 8) + s.val, h s⟩ (ix2 (n0 := 1024) (n1 := 1024) r q) = plain (mixed m c) (cotangent m c) r q := by
  unfold plain
  refine (Finset.sum_congr rfl fun s _ => part_at m c ⟨8 * (t.val / 8) + s.val, h s⟩ r q).trans ?_
  exact sum_run (P := 8) (J := 8) (n := 1024) (L := 8192) (by decide) (fun _ l => mixed m c (ix2 r l) * cotangent m c (ix2 l q)) row
    (fun s k => by show 1024 * s.val + k.val = 1024 * (s.val % 8) + k.val; omega) t h fun _ _ => rfl

theorem arr : (dats m 0 c).arrAt 2 cfg0.N = fun y : S1024x1024.Idx => plain (mixed m c) (cotangent m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 1024) (n1 := 1024) r q := by
    blk_ext [e.2.2]
  rw [ep, last m c t h7]
  refine (carried_add_last 8 (by omega) (fun n h => (outsAt0 m c n h).2) (part m c) (first m c) (next m c) t h7 _).trans ?_
  exact total m c t _ r q

section Reference
open Cert.Reference12Ideal.Read

theorem ref (a : FVec Ideal S1024x8192 .bf16) (b : FVec Ideal S8192x1024 .f32) :
    val_main_v5 (F := Ideal) a b = fun y : S1024x1024.Idx => plain a b (y 0) (y 1) := by
  funext y
  obtain ⟨i, j, rfl⟩ : ∃ (i j : Fin 1024), y = ix2 i j := ⟨y 0, y 1, (ix2_eta y).symm⟩
  refine Eq.trans ?_ (Finset.sum_congr rfl fun l _ => mul_comm (b (ix2 (n0 := 8192) (n1 := 1024) l j) : EReal) _)
  pointwise [val_main_v5, val_main_v4, val_main_v2, val_main_v1]

end Reference

theorem algebraic : Cert.algebraic_Kernel12Ideal_Reference12Ideal := by
  intro m g m' g' _ he
  refine ⟨_, Cert.Kernel12Ideal.Value.run_blocks m g, (θ_run Cert.Reference12Ideal.defs _ _).mono (fun r h c => ?_) (Cert.Reference12Ideal.Value.run m' g')⟩
  obtain ⟨r0, ra⟩ := h c
  obtain ⟨e0, e1⟩ := he c
  refine ⟨r0.trans ((Cert.Reference12Ideal.Read.val_main_v5_eq _ _).trans ?_), ra⟩
  rw [e0, e1]
  exact (ref _ _).trans (arr m c).symm

end Cert.Proof.MixWeightGrad

end
-- ==== Proof.MixInputGrad.lean ====
/-
  The gradient of a mixer's output: the product of the cotangent and the transposed weights that lead out of the mixer, at every
  index; and the equation with the reference.
-/
module

public import proofs.«01_k».proof.Defs
public import proofs.«01_k».proof.Proof.Gen.Kernel13Ideal.Value
public import proofs.«01_k».proof.Proof.Gen.Reference13Ideal.Read
public import proofs.«01_k».proof.Proof.Products

@[expose] public section

set_option maxRecDepth 16384

noncomputable section

namespace Cert.Proof.MixInputGrad

open Cert.Kernel13Ideal Cert.Kernel13Ideal.Gen Cert.Proof.Products
open Idealize.ShloMosaic Idealize.ShloMosaic.TcCoe Idealize.ShloMosaic.Tactic Idealize.SL.Sem
open Idealize.ShloMosaic.Pipeline (Dat)

/-- The blocks a grid point works on: point `t` takes row block `t` and all the weights. -/
theorem index_at : ∀ t : Fin cfg0.N, win0_0.index t = ![t.val, 0] ∧ win0_1.index t = ![0, 0]
    ∧ win0_2.index t = ![t.val, 0] := by decide +kernel

variable (m : (ℓ : Loc nD τ sig) → Buf (Elt Ideal) ℓ) (c : Dev nD)

/-- The two arguments as arrays of numbers. -/
def cotangent : S8192x1024.Idx → EReal := m ((c : Thread nD τ).loc main_arg0)
def weights : S1024x1024.Idx → EReal := m ((c : Thread nD τ).loc main_arg1)

theorem cotangentBlock_at (t : Fin 8) (r k : Fin 1024) :
    iblk m c 0 t (ix2 (n0 := 1024) (n1 := 1024) r k) = cotangent m c (ix2 (row t r) k) := by
  have e := index_at t
  unfold row cotangent
  rw [← V_main_arg0 m c]
  blk_ext [iblk, e.1]

theorem weightsBlock_at (t : Fin 8) (q k : Fin 1024) :
    iblk m c 1 t (ix2 (n0 := 1024) (n1 := 1024) q k) = weights m c (ix2 (n0 := 1024) (n1 := 1024) q k) := by
  have e := index_at t
  unfold weights
  rw [← V_main_arg1 m c]
  blk_ext [iblk, e.2.1]

theorem pay1_at (a : Vec Ideal S1024x1024 .f32) (b : Vec Ideal S1024x1024 .bf16) (r q : Fin 1024) : k0_pay1 a b (ix2 (n0 := 1024) (n1 := 1024) r q)
      = ∑ k : Fin 1024, a (ix2 (n0 := 1024) (n1 := 1024) r k) * b (ix2 (n0 := 1024) (n1 := 1024) q k) := by
  pointwise [k0_pay1]

theorem block_at (t : Fin 8) (r q : Fin 1024) : k0_pay1 (F := Ideal) (iblk m c 0 t) (iblk m c 1 t) (ix2 (n0 := 1024) (n1 := 1024) r q)
    = rightT (cotangent m c) (weights m c) (row t r) q :=
  (pay1_at _ _ r q).trans (Finset.sum_congr rfl fun k _ => congrArg₂ (fun u v : EReal => u * v) (cotangentBlock_at m c t r k) (weightsBlock_at m c t q k))

theorem arr : (dats m 0 c).arrAt 2 cfg0.N = fun y : S8192x1024.Idx => rightT (cotangent m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (row t r) q := by
    unfold row
    blk_ext [e.2.2]
  rw [ep]
  exact block_at m c t r q

section Reference
open Cert.Reference13Ideal.Read

theorem ref (a : FVec Ideal S8192x1024 .f32) (b : FVec Ideal S1024x1024 .bf16) :
    val_main_v4 (F := Ideal) a b = fun y : S8192x1024.Idx => rightT a b (y 0) (y 1) := by
  funext y
  obtain ⟨i, j, rfl⟩ : ∃ (i : Fin 8192) (j : Fin 1024), y = ix2 i j := ⟨y 0, y 1, (ix2_eta y).symm⟩
  unfold rightT
  pointwise [val_main_v4, val_main_v3, val_main_v1]

end Reference

theorem algebraic : Cert.algebraic_Kernel13Ideal_Reference13Ideal := by
  intro m g m' g' _ he
  refine ⟨_, Cert.Kernel13Ideal.Value.run_blocks m g, (θ_run Cert.Reference13Ideal.defs _ _).mono (fun r h c => ?_) (Cert.Reference13Ideal.Value.run m' g')⟩
  obtain ⟨r0, ra⟩ := h c
  obtain ⟨e0, e1⟩ := he c
  refine ⟨r0.trans ((Cert.Reference13Ideal.Read.val_main_v4_eq _ _).trans ?_), ra⟩
  rw [e0, e1]
  exact (ref _ _).trans (arr m c).symm

end Cert.Proof.MixInputGrad

end
-- ==== Proof.OddIn.lean ====
/-
  The projection into the sliding-window mixer: the product of the normed tokens and the transposed weights at every index; and the equation with the reference.
-/
module

public import proofs.«01_k».proof.Defs
public import proofs.«01_k».proof.Proof.Gen.Kernel14Ideal.Value
public import proofs.«01_k».proof.Proof.Gen.Reference14Ideal.Read
public import proofs.«01_k».proof.Proof.Products

@[expose] public section

set_option maxRecDepth 16384

noncomputable section

namespace Cert.Proof.OddIn

open Cert.Kernel14Ideal Cert.Kernel14Ideal.Gen Cert.Proof.Products
open Idealize.ShloMosaic Idealize.ShloMosaic.TcCoe Idealize.ShloMosaic.Tactic Idealize.SL.Sem
open Idealize.ShloMosaic.Pipeline (Dat)

/-- The blocks a grid point works on: point `t` takes tokens `t / 3` and columns `t % 3`. -/
theorem index_at : ∀ t : Fin cfg0.N, win0_0.index t = ![t.val / 3, 0] ∧ win0_1.index t = ![t.val % 3, 0]
    ∧ win0_2.index t = ![t.val / 3, t.val % 3] := by decide +kernel

/-- Row `r` of a point's tokens, and column `q` of its columns. -/
def tokenOf (t : Fin 24) (r : Fin 1024) : Fin 8192 := ⟨1024 * (t.val / 3) + r.val, by omega⟩
def columnOf (t : Fin 24) (q : Fin 512) : Fin 1536 := ⟨512 * (t.val % 3) + q.val, by omega⟩

variable (m : (ℓ : Loc nD τ sig) → Buf (Elt Ideal) ℓ) (c : Dev nD)

/-- The two arguments as arrays of numbers. -/
def tokens : S8192x1024.Idx → EReal := m ((c : Thread nD τ).loc main_arg0)
def weights : S1536x1024.Idx → EReal := m ((c : Thread nD τ).loc main_arg1)

theorem tokensBlock_at (t : Fin 24) (r k : Fin 1024) :
    iblk m c 0 t (ix2 (n0 := 1024) (n1 := 1024) r k) = tokens m c (ix2 (tokenOf t r) k) := by
  have e := index_at t
  unfold tokenOf tokens
  rw [← V_main_arg0 m c]
  blk_ext [iblk, e.1]

theorem weightsBlock_at (t : Fin 24) (q : Fin 512) (k : Fin 1024) :
    iblk m c 1 t (ix2 (n0 := 512) (n1 := 1024) q k) = weights m c (ix2 (columnOf t q) k) := by
  have e := index_at t
  unfold columnOf weights
  rw [← V_main_arg1 m c]
  blk_ext [iblk, e.2.1]

theorem pay1_at (a : Vec Ideal S1024x1024 .bf16) (b : Vec Ideal S512x1024 .bf16) (r : Fin 1024) (q : Fin 512) : k0_pay1 a b (ix2 (n0 := 1024) (n1 := 512) r q)
      = ∑ k : Fin 1024, a (ix2 (n0 := 1024) (n1 := 1024) r k) * b (ix2 (n0 := 512) (n1 := 1024) q k) := by
  pointwise [k0_pay1]

theorem block_at (t : Fin 24) (r : Fin 1024) (q : Fin 512) : k0_pay1 (F := Ideal) (iblk m c 0 t) (iblk m c 1 t) (ix2 (n0 := 1024) (n1 := 512) r q)
    = rightT (tokens m c) (weights m c) (tokenOf t r) (columnOf t q) :=
  (pay1_at _ _ r q).trans (Finset.sum_congr rfl fun k _ => congrArg₂ (fun u v : EReal => u * v) (tokensBlock_at m c t r k) (weightsBlock_at m c t q k))

theorem arr : (dats m 0 c).arrAt 2 cfg0.N = fun y : S8192x1536.Idx => rightT (tokens m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r : Fin 1024) (q : Fin 512), y = ix2 r q := ⟨y 0, y 1, (ix2_eta y).symm⟩
  have ep : (win0_2.blk t).view.emb (ix2 (n0 := 1024) (n1 := 512) r q) = ix2 (n0 := 8192) (n1 := 1536) (tokenOf t r) (columnOf t q) := by
    unfold tokenOf columnOf
    blk_ext [e.2.2]
  rw [ep]
  exact block_at m c t r q

section Reference
open Cert.Reference14Ideal.Read

theorem ref (a : FVec Ideal S8192x1024 .bf16) (b : FVec Ideal S1536x1024 .bf16) :
    val_main_v3 (F := Ideal) a b = fun y : S8192x1536.Idx => rightT a b (y 0) (y 1) := by
  funext y
  obtain ⟨i, j, rfl⟩ : ∃ (i : Fin 8192) (j : Fin 1536), y = ix2 i j := ⟨y 0, y 1, (ix2_eta y).symm⟩
  unfold rightT
  pointwise [val_main_v3, val_main_v2, val_main_v1, val_main_v0]

end Reference

theorem algebraic : Cert.algebraic_Kernel14Ideal_Reference14Ideal := by
  intro m g m' g' _ he
  refine ⟨_, Cert.Kernel14Ideal.Value.run_blocks m g, (θ_run Cert.Reference14Ideal.defs _ _).mono (fun r h c => ?_) (Cert.Reference14Ideal.Value.run m' g')⟩
  obtain ⟨r0, ra⟩ := h c
  obtain ⟨e0, e1⟩ := he c
  refine ⟨r0.trans ((Cert.Reference14Ideal.Read.val_main_v3_eq _ _).trans ?_), ra⟩
  rw [e0, e1]
  exact (ref _ _).trans (arr m c).symm

end Cert.Proof.OddIn

end
-- ==== Proof.OddWeightGrad.lean ====
/-
  The gradient of the weights that lead into the sliding-window mixer: the product of the transposed cotangent and the tokens,
  summed over all the tokens, at every index; and the equation with the reference.
-/
module

public import proofs.«01_k».proof.Defs
public import proofs.«01_k».proof.Proof.Gen.Kernel15Ideal.Value
public import proofs.«01_k».proof.Proof.Gen.Reference15Ideal.Read
public import proofs.«01_k».proof.Proof.Products

@[expose] public section

set_option maxRecDepth 16384

noncomputable section

namespace Cert.Proof.OddWeightGrad

open Cert.Kernel15Ideal Cert.Kernel15Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes columns `t / 8` and tokens `t % 8`. -/
theorem index_at : ∀ t : Fin cfg0.N, win0_0.index t = ![t.val % 8, t.val / 8] ∧ win0_1.index t = ![t.val % 8, 0]
    ∧ win0_2.index t = ![t.val / 8, 0] := by decide +kernel

/-- Row `k` of a point's tokens, and column `r` of its columns. -/
def tokenOf (t : Fin 24) (k : Fin 1024) : Fin 8192 := ⟨1024 * (t.val % 8) + k.val, by omega⟩
def columnOf (t : Fin 24) (r : Fin 512) : Fin 1536 := ⟨512 * (t.val / 8) + r.val, by omega⟩

variable (m : (ℓ : Loc nD τ sig) → Buf (Elt Ideal) ℓ) (c : Dev nD)

/-- The two arguments as arrays of numbers. -/
def cotangent : S8192x1536.Idx → EReal := m ((c : Thread nD τ).loc main_arg0)
def tokens : S8192x1024.Idx → EReal := m ((c : Thread nD τ).loc main_arg1)

theorem cotangentBlock_at (t : Fin 24) (k : Fin 1024) (r : Fin 512) :
    iblk m c 0 t (ix2 (n0 := 1024) (n1 := 512) k r) = cotangent m c (ix2 (tokenOf t k) (columnOf t r)) := by
  have e := index_at t
  unfold tokenOf columnOf cotangent
  rw [← V_main_arg0 m c]
  blk_ext [iblk, e.1]

theorem tokensBlock_at (t : Fin 24) (k q : Fin 1024) :
    iblk m c 1 t (ix2 (n0 := 1024) (n1 := 1024) k q) = tokens m c (ix2 (tokenOf t k) q) := by
  have e := index_at t
  unfold tokenOf tokens
  rw [← V_main_arg1 m c]
  blk_ext [iblk, e.2.1]

theorem pay1_at (a : Vec Ideal S1024x512 .bf16) (b : Vec Ideal S1024x1024 .bf16) (r : Fin 512) (q : Fin 1024) : k0_pay1 a b (ix2 (n0 := 512) (n1 := 1024) r q)
      = ∑ k : Fin 1024, a (ix2 (n0 := 1024) (n1 := 512) k r) * b (ix2 (n0 := 1024) (n1 := 1024) k q) := by
  pointwise [k0_pay1]

/-- A point's own product. -/
def part (t : Fin cfg0.N) : S512x1024.Idx → EReal := k0_pay1 (F := Ideal) (iblk m c 0 t) (iblk m c 1 t)

theorem part_at (t : Fin 24) (r : Fin 512) (q : Fin 1024) : part m c t (ix2 (n0 := 512) (n1 := 1024) r q)
    = ∑ k : Fin 1024, cotangent m c (ix2 (tokenOf t k) (columnOf t r)) * tokens m c (ix2 (tokenOf t k) q) :=
  (pay1_at _ _ r q).trans (Finset.sum_congr rfl fun k _ => congrArg₂ (fun u v : EReal => u * v) (cotangentBlock_at m c t k r) (tokensBlock_at m c t k q))

theorem first (t : Fin cfg0.N) (h : t.val % 8 = 0) (y : S512x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S512x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S512x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

/-- The products of a run's points make up the whole product. -/
theorem total (t : Fin 24) (h : ∀ s : Fin 8, 8 * (t.val / 8) + s.val < 24) (r : Fin 512) (q : Fin 1024) :
    ∑ s : Fin 8, part m c ⟨8 * (t.val / 8) + s.val, h s⟩ (ix2 (n0 := 512) (n1 := 1024) r q) = leftT (cotangent m c) (tokens m c) (columnOf t r) q := by
  unfold leftT
  refine (Finset.sum_congr rfl fun s _ => part_at m c ⟨8 * (t.val / 8) + s.val, h s⟩ r q).trans ?_
  exact sum_run (P := 24) (J := 8) (n := 1024) (L := 8192) (by decide) (fun t l => cotangent m c (ix2 l (columnOf t r)) * tokens m c (ix2 l q)) tokenOf
    (fun _ _ => rfl) t h fun s l => congrArg (fun i => ((cotangent m c (ix2 l i)) * tokens m c (ix2 l q) : EReal))
      (Fin.ext (by show 512 * ((8 * (t.val / 8) + s.val) / 8) + r.val = 512 * (t.val / 8) + r.val; omega))

theorem arr : (dats m 0 c).arrAt 2 cfg0.N = fun y : S1536x1024.Idx => leftT (cotangent m c) (tokens m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r : Fin 512) (q : Fin 1024), y = ix2 r q := ⟨y 0, y 1, (ix2_eta y).symm⟩
  have ep : (win0_2.blk t).view.emb (ix2 (n0 := 512) (n1 := 1024) r q) = ix2 (n0 := 1536) (n1 := 1024) (columnOf t r) q := by
    unfold columnOf
    blk_ext [e.2.2]
  rw [ep, last m c t h7]
  refine (carried_add_last 8 (by omega) (fun n h => (outsAt0 m c n h).2) (part m c) (first m c) (next m c) t h7 _).trans ?_
  exact total m c t _ r q

section Reference
open Cert.Reference15Ideal.Read

theorem ref (a : FVec Ideal S8192x1536 .bf16) (b : FVec Ideal S8192x1024 .bf16) :
    val_main_v7 (F := Ideal) a b = fun y : S1536x1024.Idx => leftT a b (y 0) (y 1) := by
  funext y
  obtain ⟨i, j, rfl⟩ : ∃ (i : Fin 1536) (j : Fin 1024), y = ix2 i j := ⟨y 0, y 1, (ix2_eta y).symm⟩
  unfold leftT
  pointwise [val_main_v7, val_main_v6, val_main_v5, val_main_v4, val_main_v1]

end Reference

theorem algebraic : Cert.algebraic_Kernel15Ideal_Reference15Ideal := by
  intro m g m' g' _ he
  refine ⟨_, Cert.Kernel15Ideal.Value.run_blocks m g, (θ_run Cert.Reference15Ideal.defs _ _).mono (fun r h c => ?_) (Cert.Reference15Ideal.Value.run m' g')⟩
  obtain ⟨r0, ra⟩ := h c
  obtain ⟨e0, e1⟩ := he c
  refine ⟨r0.trans ((Cert.Reference15Ideal.Read.val_main_v7_eq _ _).trans ?_), ra⟩
  rw [e0, e1]
  exact (ref _ _).trans (arr m c).symm

end Cert.Proof.OddWeightGrad

end
-- ==== Proof.OddInputGrad.lean ====
/-
  The gradient of the tokens through the projection into the sliding-window mixer: the product of the cotangent and the weights,
  summed over all the columns, at every index; and the equation with the reference.
-/
module

public import proofs.«01_k».proof.Defs
public import proofs.«01_k».proof.Proof.Gen.Kernel16Ideal.Value
public import proofs.«01_k».proof.Proof.Gen.Reference16Ideal.Read
public import proofs.«01_k».proof.Proof.Products

@[expose] public section

set_option maxRecDepth 16384

noncomputable section

namespace Cert.Proof.OddInputGrad

open Cert.Kernel16Ideal Cert.Kernel16Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes tokens `t / 3` and columns `t % 3`. -/
theorem index_at : ∀ t : Fin cfg0.N, win0_0.index t = ![t.val / 3, t.val % 3] ∧ win0_1.index t = ![t.val % 3, 0]
    ∧ win0_2.index t = ![t.val / 3, 0] := by decide +kernel

/-- Row `r` of a point's tokens, and column `k` of its columns. -/
def tokenOf (t : Fin 24) (r : Fin 1024) : Fin 8192 := ⟨1024 * (t.val / 3) + r.val, by omega⟩
def columnOf (t : Fin 24) (k : Fin 512) : Fin 1536 := ⟨512 * (t.val % 3) + k.val, by omega⟩

variable (m : (ℓ : Loc nD τ sig) → Buf (Elt Ideal) ℓ) (c : Dev nD)

/-- The two arguments as arrays of numbers. -/
def cotangent : S8192x1536.Idx → EReal := m ((c : Thread nD τ).loc main_arg0)
def weights : S1536x1024.Idx → EReal := m ((c : Thread nD τ).loc main_arg1)

theorem cotangentBlock_at (t : Fin 24) (r : Fin 1024) (k : Fin 512) :
    iblk m c 0 t (ix2 (n0 := 1024) (n1 := 512) r k) = cotangent m c (ix2 (tokenOf t r) (columnOf t k)) := by
  have e := index_at t
  unfold tokenOf columnOf cotangent
  rw [← V_main_arg0 m c]
  blk_ext [iblk, e.1]

theorem weightsBlock_at (t : Fin 24) (k : Fin 512) (q : Fin 1024) :
    iblk m c 1 t (ix2 (n0 := 512) (n1 := 1024) k q) = weights m c (ix2 (columnOf t k) q) := by
  have e := index_at t
  unfold columnOf weights
  rw [← V_main_arg1 m c]
  blk_ext [iblk, e.2.1]

theorem pay1_at (a : Vec Ideal S1024x512 .bf16) (b : Vec Ideal S512x1024 .bf16) (r q : Fin 1024) : k0_pay1 a b (ix2 (n0 := 1024) (n1 := 1024) r q)
      = ∑ k : Fin 512, a (ix2 (n0 := 1024) (n1 := 512) r k) * b (ix2 (n0 := 512) (n1 := 1024) k q) := by
  pointwise [k0_pay1]

/-- A point's own product. -/
def part (t : Fin cfg0.N) : S1024x1024.Idx → EReal := k0_pay1 (F := Ideal) (iblk m c 0 t) (iblk m c 1 t)

theorem part_at (t : Fin 24) (r q : Fin 1024) : part m c t (ix2 (n0 := 1024) (n1 := 1024) r q)
    = ∑ k : Fin 512, cotangent m c (ix2 (tokenOf t r) (columnOf t k)) * weights m c (ix2 (columnOf t k) q) :=
  (pay1_at _ _ r q).trans (Finset.sum_congr rfl fun k _ => congrArg₂ (fun u v : EReal => u * v) (cotangentBlock_at m c t r k) (weightsBlock_at m c t k q))

theorem first (t : Fin cfg0.N) (h : t.val % 3 = 0) (y : S1024x1024.Idx) : (outsAt0 m c t.val t.isLt).2 y = part m c t y := by
  rw [outsAt0_A m c t h (by omega) (by omega)]
  frame_out
  pointwise [k0_pay2]
  rfl

theorem next (t : Fin cfg0.N) (h : ¬t.val % 3 = 0) (h2 : ¬t.val % 3 = 2) (y : S1024x1024.Idx) : (outsAt0 m c t.val t.isLt).2 y
    = (outsAt0 m c (t.val - 1) (Nat.lt_of_le_of_lt (Nat.sub_le _ _) t.isLt)).2 y + part m c t y := by
  rw [outsAt0_B m c t h (by omega) h2]
  frame_out
  pointwise [k0_pay3]
  rw [read_unread_whole, part]

theorem last (t : Fin cfg0.N) (h2 : t.val % 3 = 2) (y : S1024x1024.Idx) : (outsAt0 m c t.val t.isLt).1 y
    = (outsAt0 m c (t.val - 1) (Nat.lt_of_le_of_lt (Nat.sub_le _ _) t.isLt)).2 y + part m c t y := by
  rw [outsAt0_C m c t (by omega) (by omega) h2]
  frame_out
  pointwise [k0_pay4]
  rw [read_unread_whole, part]

/-- The products of a run's points make up the whole product. -/
theorem total (t : Fin 24) (h : ∀ s : Fin 3, 3 * (t.val / 3) + s.val < 24) (r q : Fin 1024) :
    ∑ s : Fin 3, part m c ⟨3 * (t.val / 3) + s.val, h s⟩ (ix2 (n0 := 1024) (n1 := 1024) r q) = plain (cotangent m c) (weights m c) (tokenOf t r) q := by
  unfold plain
  refine (Finset.sum_congr rfl fun s _ => part_at m c ⟨3 * (t.val / 3) + s.val, h s⟩ r q).trans ?_
  exact sum_run (P := 24) (J := 3) (n := 512) (L := 1536) (by decide) (fun t l => cotangent m c (ix2 (tokenOf t r) l) * weights m c (ix2 l q)) columnOf
    (fun _ _ => rfl) t h fun s l => congrArg (fun i => ((cotangent m c (ix2 i l)) * weights m c (ix2 l q) : EReal))
      (Fin.ext (by show 1024 * ((3 * (t.val / 3) + s.val) / 3) + r.val = 1024 * (t.val / 3) + r.val; omega))

theorem arr : (dats m 0 c).arrAt 2 cfg0.N = fun y : S8192x1024.Idx => plain (cotangent m c) (weights m c) (y 0) (y 1) := by
  refine (dats m 0 c).arrAt_eq_of_covers 2 _ (by decide +kernel) fun t hf y => ?_
  have e := index_at t
  have h2 : t.val % 3 = 2 := (flush0_2 t).mp hf
  blk_simp
  rw [after0_2]
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (tokenOf t r) q := by
    unfold tokenOf
    blk_ext [e.2.2]
  rw [ep, last m c t h2]
  refine (carried_add_last 3 (by omega) (fun n h => (outsAt0 m c n h).2) (part m c) (first m c) (next m c) t h2 _).trans ?_
  exact total m c t _ r q

section Reference
open Cert.Reference16Ideal.Read

theorem ref (a : FVec Ideal S8192x1536 .bf16) (b : FVec Ideal S1536x1024 .bf16) :
    val_main_v5 (F := Ideal) a b = fun y : S8192x1024.Idx => plain a b (y 0) (y 1) := by
  funext y
  obtain ⟨i, j, rfl⟩ : ∃ (i : Fin 8192) (j : Fin 1024), y = ix2 i j := ⟨y 0, y 1, (ix2_eta y).symm⟩
  unfold plain
  pointwise [val_main_v5, val_main_v4, val_main_v2, val_main_v1]

end Reference

theorem algebraic : Cert.algebraic_Kernel16Ideal_Reference16Ideal := by
  intro m g m' g' _ he
  refine ⟨_, Cert.Kernel16Ideal.Value.run_blocks m g, (θ_run Cert.Reference16Ideal.defs _ _).mono (fun r h c => ?_) (Cert.Reference16Ideal.Value.run m' g')⟩
  obtain ⟨r0, ra⟩ := h c
  obtain ⟨e0, e1⟩ := he c
  refine ⟨r0.trans ((Cert.Reference16Ideal.Read.val_main_v5_eq _ _).trans ?_), ra⟩
  rw [e0, e1]
  exact (ref _ _).trans (arr m c).symm

end Cert.Proof.OddInputGrad

end
-- ==== Proof.EvenIn.lean ====
/-
  The projection into the forgetting and the stick-breaking mixer: the product of the normed tokens and the transposed weights at every index; and the equation with the reference.
-/
module

public import proofs.«01_k».proof.Defs
public import proofs.«01_k».proof.Proof.Gen.Kernel17Ideal.Value
public import proofs.«01_k».proof.Proof.Gen.Reference17Ideal.Read
public import proofs.«01_k».proof.Proof.Products

@[expose] public section

set_option maxRecDepth 16384

noncomputable section

namespace Cert.Proof.EvenIn

open Cert.Kernel17Ideal Cert.Kernel17Ideal.Gen Cert.Proof.Products
open Idealize.ShloMosaic Idealize.ShloMosaic.TcCoe Idealize.ShloMosaic.Tactic Idealize.SL.Sem
open Idealize.ShloMosaic.Pipeline (Dat)

/-- The blocks a grid point works on: point `t` takes tokens `t / 3` and columns `t % 3`. -/
theorem index_at : ∀ t : Fin cfg0.N, win0_0.index t = ![t.val / 3, 0] ∧ win0_1.index t = ![t.val % 3, 0]
    ∧ win0_2.index t = ![t.val / 3, t.val % 3] := by decide +kernel

/-- Row `r` of a point's tokens, and column `q` of its columns. -/
def tokenOf (t : Fin 24) (r : Fin 1024) : Fin 8192 := ⟨1024 * (t.val / 3) + r.val, by omega⟩
def columnOf (t : Fin 24) (q : Fin 1024) : Fin 3072 := ⟨1024 * (t.val % 3) + q.val, by omega⟩

variable (m : (ℓ : Loc nD τ sig) → Buf (Elt Ideal) ℓ) (c : Dev nD)

/-- The two arguments as arrays of numbers. -/
def tokens : S8192x1024.Idx → EReal := m ((c : Thread nD τ).loc main_arg0)
def weights : S3072x1024.Idx → EReal := m ((c : Thread nD τ).loc main_arg1)

theorem tokensBlock_at (t : Fin 24) (r k : Fin 1024) :
    iblk m c 0 t (ix2 (n0 := 1024) (n1 := 1024) r k) = tokens m c (ix2 (tokenOf t r) k) := by
  have e := index_at t
  unfold tokenOf tokens
  rw [← V_main_arg0 m c]
  blk_ext [iblk, e.1]

theorem weightsBlock_at (t : Fin 24) (q : Fin 1024) (k : Fin 1024) :
    iblk m c 1 t (ix2 (n0 := 1024) (n1 := 1024) q k) = weights m c (ix2 (columnOf t q) k) := by
  have e := index_at t
  unfold columnOf weights
  rw [← V_main_arg1 m c]
  blk_ext [iblk, e.2.1]

theorem pay1_at (a : Vec Ideal S1024x1024 .bf16) (b : Vec Ideal S1024x1024 .bf16) (r q : Fin 1024) : k0_pay1 a b (ix2 (n0 := 1024) (n1 := 1024) r q)
      = ∑ k : Fin 1024, a (ix2 (n0 := 1024) (n1 := 1024) r k) * b (ix2 (n0 := 1024) (n1 := 1024) q k) := by
  pointwise [k0_pay1]

theorem block_at (t : Fin 24) (r q : Fin 1024) : k0_pay1 (F := Ideal) (iblk m c 0 t) (iblk m c 1 t) (ix2 (n0 := 1024) (n1 := 1024) r q)
    = rightT (tokens m c) (weights m c) (tokenOf t r) (columnOf t q) :=
  (pay1_at _ _ r q).trans (Finset.sum_congr rfl fun k _ => congrArg₂ (fun u v : EReal => u * v) (tokensBlock_at m c t r k) (weightsBlock_at m c t q k))

theorem arr : (dats m 0 c).arrAt 2 cfg0.N = fun y : S8192x3072.Idx => rightT (tokens m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 3072) (tokenOf t r) (columnOf t q) := by
    unfold tokenOf columnOf
    blk_ext [e.2.2]
  rw [ep]
  exact block_at m c t r q

section Reference
open Cert.Reference17Ideal.Read

theorem ref (a : FVec Ideal S8192x1024 .bf16) (b : FVec Ideal S3072x1024 .bf16) :
    val_main_v4 (F := Ideal) a b = fun y : S8192x3072.Idx => rightT a b (y 0) (y 1) := by
  funext y
  obtain ⟨i, j, rfl⟩ : ∃ (i : Fin 8192) (j : Fin 3072), y = ix2 i j := ⟨y 0, y 1, (ix2_eta y).symm⟩
  unfold rightT
  pointwise [val_main_v4, val_main_v3, val_main_v2, val_main_v1, val_main_v0]

end Reference

theorem algebraic : Cert.algebraic_Kernel17Ideal_Reference17Ideal := by
  intro m g m' g' _ he
  refine ⟨_, Cert.Kernel17Ideal.Value.run_blocks m g, (θ_run Cert.Reference17Ideal.defs _ _).mono (fun r h c => ?_) (Cert.Reference17Ideal.Value.run m' g')⟩
  obtain ⟨r0, ra⟩ := h c
  obtain ⟨e0, e1⟩ := he c
  refine ⟨r0.trans ((Cert.Reference17Ideal.Read.val_main_v4_eq _ _).trans ?_), ra⟩
  rw [e0, e1]
  exact (ref _ _).trans (arr m c).symm

end Cert.Proof.EvenIn

end
-- ==== Proof.EvenWeightGrad.lean ====
/-
  The gradient of the weights that lead into the forgetting and the stick-breaking mixer: the product of the transposed cotangent and the tokens,
  summed over all the tokens, at every index; and the equation with the reference.
-/
module

public import proofs.«01_k».proof.Defs
public import proofs.«01_k».proof.Proof.Gen.Kernel18Ideal.Value
public import proofs.«01_k».proof.Proof.Gen.Reference18Ideal.Read
public import proofs.«01_k».proof.Proof.Products

@[expose] public section

set_option maxRecDepth 16384

noncomputable section

namespace Cert.Proof.EvenWeightGrad

open Cert.Kernel18Ideal Cert.Kernel18Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes columns `t / 8` and tokens `t % 8`. -/
theorem index_at : ∀ t : Fin cfg0.N, win0_0.index t = ![t.val % 8, t.val / 8] ∧ win0_1.index t = ![t.val % 8, 0]
    ∧ win0_2.index t = ![t.val / 8, 0] := by decide +kernel

/-- Row `k` of a point's tokens, and column `r` of its columns. -/
def tokenOf (t : Fin 40) (k : Fin 1024) : Fin 8192 := ⟨1024 * (t.val % 8) + k.val, by omega⟩
def columnOf (t : Fin 40) (r : Fin 640) : Fin 3200 := ⟨640 * (t.val / 8) + r.val, by omega⟩

variable (m : (ℓ : Loc nD τ sig) → Buf (Elt Ideal) ℓ) (c : Dev nD)

/-- The two arguments as arrays of numbers. -/
def cotangent : S8192x3200.Idx → EReal := m ((c : Thread nD τ).loc main_arg0)
def tokens : S8192x1024.Idx → EReal := m ((c : Thread nD τ).loc main_arg1)

theorem cotangentBlock_at (t : Fin 40) (k : Fin 1024) (r : Fin 640) :
    iblk m c 0 t (ix2 (n0 := 1024) (n1 := 640) k r) = cotangent m c (ix2 (tokenOf t k) (columnOf t r)) := by
  have e := index_at t
  unfold tokenOf columnOf cotangent
  rw [← V_main_arg0 m c]
  blk_ext [iblk, e.1]

theorem tokensBlock_at (t : Fin 40) (k q : Fin 1024) :
    iblk m c 1 t (ix2 (n0 := 1024) (n1 := 1024) k q) = tokens m c (ix2 (tokenOf t k) q) := by
  have e := index_at t
  unfold tokenOf tokens
  rw [← V_main_arg1 m c]
  blk_ext [iblk, e.2.1]

theorem pay1_at (a : Vec Ideal S1024x640 .bf16) (b : Vec Ideal S1024x1024 .bf16) (r : Fin 640) (q : Fin 1024) : k0_pay1 a b (ix2 (n0 := 640) (n1 := 1024) r q)
      = ∑ k : Fin 1024, a (ix2 (n0 := 1024) (n1 := 640) k r) * b (ix2 (n0 := 1024) (n1 := 1024) k q) := by
  pointwise [k0_pay1]

/-- A point's own product. -/
def part (t : Fin cfg0.N) : S640x1024.Idx → EReal := k0_pay1 (F := Ideal) (iblk m c 0 t) (iblk m c 1 t)

theorem part_at (t : Fin 40) (r : Fin 640) (q : Fin 1024) : part m c t (ix2 (n0 := 640) (n1 := 1024) r q)
    = ∑ k : Fin 1024, cotangent m c (ix2 (tokenOf t k) (columnOf t r)) * tokens m c (ix2 (tokenOf t k) q) :=
  (pay1_at _ _ r q).trans (Finset.sum_congr rfl fun k _ => congrArg₂ (fun u v : EReal => u * v) (cotangentBlock_at m c t k r) (tokensBlock_at m c t k q))

theorem first (t : Fin cfg0.N) (h : t.val % 8 = 0) (y : S640x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S640x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S640x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

/-- The products of a run's points make up the whole product. -/
theorem total (t : Fin 40) (h : ∀ s : Fin 8, 8 * (t.val / 8) + s.val < 40) (r : Fin 640) (q : Fin 1024) :
    ∑ s : Fin 8, part m c ⟨8 * (t.val / 8) + s.val, h s⟩ (ix2 (n0 := 640) (n1 := 1024) r q) = leftT (cotangent m c) (tokens m c) (columnOf t r) q := by
  unfold leftT
  refine (Finset.sum_congr rfl fun s _ => part_at m c ⟨8 * (t.val / 8) + s.val, h s⟩ r q).trans ?_
  exact sum_run (P := 40) (J := 8) (n := 1024) (L := 8192) (by decide) (fun t l => cotangent m c (ix2 l (columnOf t r)) * tokens m c (ix2 l q)) tokenOf
    (fun _ _ => rfl) t h fun s l => congrArg (fun i => ((cotangent m c (ix2 l i)) * tokens m c (ix2 l q) : EReal))
      (Fin.ext (by show 640 * ((8 * (t.val / 8) + s.val) / 8) + r.val = 640 * (t.val / 8) + r.val; omega))

theorem arr : (dats m 0 c).arrAt 2 cfg0.N = fun y : S3200x1024.Idx => leftT (cotangent m c) (tokens m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r : Fin 640) (q : Fin 1024), y = ix2 r q := ⟨y 0, y 1, (ix2_eta y).symm⟩
  have ep : (win0_2.blk t).view.emb (ix2 (n0 := 640) (n1 := 1024) r q) = ix2 (n0 := 3200) (n1 := 1024) (columnOf t r) q := by
    unfold columnOf
    blk_ext [e.2.2]
  rw [ep, last m c t h7]
  refine (carried_add_last 8 (by omega) (fun n h => (outsAt0 m c n h).2) (part m c) (first m c) (next m c) t h7 _).trans ?_
  exact total m c t _ r q

section Reference
open Cert.Reference18Ideal.Read

theorem ref (a : FVec Ideal S8192x3200 .bf16) (b : FVec Ideal S8192x1024 .bf16) :
    val_main_v7 (F := Ideal) a b = fun y : S3200x1024.Idx => leftT a b (y 0) (y 1) := by
  funext y
  obtain ⟨i, j, rfl⟩ : ∃ (i : Fin 3200) (j : Fin 1024), y = ix2 i j := ⟨y 0, y 1, (ix2_eta y).symm⟩
  unfold leftT
  pointwise [val_main_v7, val_main_v6, val_main_v5, val_main_v4, val_main_v1]

end Reference

theorem algebraic : Cert.algebraic_Kernel18Ideal_Reference18Ideal := by
  intro m g m' g' _ he
  refine ⟨_, Cert.Kernel18Ideal.Value.run_blocks m g, (θ_run Cert.Reference18Ideal.defs _ _).mono (fun r h c => ?_) (Cert.Reference18Ideal.Value.run m' g')⟩
  obtain ⟨r0, ra⟩ := h c
  obtain ⟨e0, e1⟩ := he c
  refine ⟨r0.trans ((Cert.Reference18Ideal.Read.val_main_v7_eq _ _).trans ?_), ra⟩
  rw [e0, e1]
  exact (ref _ _).trans (arr m c).symm

end Cert.Proof.EvenWeightGrad

end
-- ==== Proof.EvenInputGrad.lean ====
/-
  The gradient of the tokens through the projection into the forgetting and the stick-breaking mixer: the product of the cotangent and the weights,
  summed over all the columns, at every index; and the equation with the reference.
-/
module

public import proofs.«01_k».proof.Defs
public import proofs.«01_k».proof.Proof.Gen.Kernel19Ideal.Value
public import proofs.«01_k».proof.Proof.Gen.Reference19Ideal.Read
public import proofs.«01_k».proof.Proof.Products

@[expose] public section

set_option maxRecDepth 16384

noncomputable section

namespace Cert.Proof.EvenInputGrad

open Cert.Kernel19Ideal Cert.Kernel19Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes tokens `t / 5` and columns `t % 5`. -/
theorem index_at : ∀ t : Fin cfg0.N, win0_0.index t = ![t.val / 5, t.val % 5] ∧ win0_1.index t = ![t.val % 5, 0]
    ∧ win0_2.index t = ![t.val / 5, 0] := by decide +kernel

/-- Row `r` of a point's tokens, and column `k` of its columns. -/
def tokenOf (t : Fin 40) (r : Fin 1024) : Fin 8192 := ⟨1024 * (t.val / 5) + r.val, by omega⟩
def columnOf (t : Fin 40) (k : Fin 640) : Fin 3200 := ⟨640 * (t.val % 5) + k.val, by omega⟩

variable (m : (ℓ : Loc nD τ sig) → Buf (Elt Ideal) ℓ) (c : Dev nD)

/-- The two arguments as arrays of numbers. -/
def cotangent : S8192x3200.Idx → EReal := m ((c : Thread nD τ).loc main_arg0)
def weights : S3200x1024.Idx → EReal := m ((c : Thread nD τ).loc main_arg1)

theorem cotangentBlock_at (t : Fin 40) (r : Fin 1024) (k : Fin 640) :
    iblk m c 0 t (ix2 (n0 := 1024) (n1 := 640) r k) = cotangent m c (ix2 (tokenOf t r) (columnOf t k)) := by
  have e := index_at t
  unfold tokenOf columnOf cotangent
  rw [← V_main_arg0 m c]
  blk_ext [iblk, e.1]

theorem weightsBlock_at (t : Fin 40) (k : Fin 640) (q : Fin 1024) :
    iblk m c 1 t (ix2 (n0 := 640) (n1 := 1024) k q) = weights m c (ix2 (columnOf t k) q) := by
  have e := index_at t
  unfold columnOf weights
  rw [← V_main_arg1 m c]
  blk_ext [iblk, e.2.1]

theorem pay1_at (a : Vec Ideal S1024x640 .bf16) (b : Vec Ideal S640x1024 .bf16) (r q : Fin 1024) : k0_pay1 a b (ix2 (n0 := 1024) (n1 := 1024) r q)
      = ∑ k : Fin 640, a (ix2 (n0 := 1024) (n1 := 640) r k) * b (ix2 (n0 := 640) (n1 := 1024) k q) := by
  pointwise [k0_pay1]

/-- A point's own product. -/
def part (t : Fin cfg0.N) : S1024x1024.Idx → EReal := k0_pay1 (F := Ideal) (iblk m c 0 t) (iblk m c 1 t)

theorem part_at (t : Fin 40) (r q : Fin 1024) : part m c t (ix2 (n0 := 1024) (n1 := 1024) r q)
    = ∑ k : Fin 640, cotangent m c (ix2 (tokenOf t r) (columnOf t k)) * weights m c (ix2 (columnOf t k) q) :=
  (pay1_at _ _ r q).trans (Finset.sum_congr rfl fun k _ => congrArg₂ (fun u v : EReal => u * v) (cotangentBlock_at m c t r k) (weightsBlock_at m c t k q))

theorem first (t : Fin cfg0.N) (h : t.val % 5 = 0) (y : S1024x1024.Idx) : (outsAt0 m c t.val t.isLt).2 y = part m c t y := by
  rw [outsAt0_A m c t h (by omega) (by omega)]
  frame_out
  pointwise [k0_pay2]
  rfl

theorem next (t : Fin cfg0.N) (h : ¬t.val % 5 = 0) (h4 : ¬t.val % 5 = 4) (y : S1024x1024.Idx) : (outsAt0 m c t.val t.isLt).2 y
    = (outsAt0 m c (t.val - 1) (Nat.lt_of_le_of_lt (Nat.sub_le _ _) t.isLt)).2 y + part m c t y := by
  rw [outsAt0_B m c t h (by omega) h4]
  frame_out
  pointwise [k0_pay3]
  rw [read_unread_whole, part]

theorem last (t : Fin cfg0.N) (h4 : t.val % 5 = 4) (y : S1024x1024.Idx) : (outsAt0 m c t.val t.isLt).1 y
    = (outsAt0 m c (t.val - 1) (Nat.lt_of_le_of_lt (Nat.sub_le _ _) t.isLt)).2 y + part m c t y := by
  rw [outsAt0_C m c t (by omega) (by omega) h4]
  frame_out
  pointwise [k0_pay4]
  rw [read_unread_whole, part]

/-- The products of a run's points make up the whole product. -/
theorem total (t : Fin 40) (h : ∀ s : Fin 5, 5 * (t.val / 5) + s.val < 40) (r q : Fin 1024) :
    ∑ s : Fin 5, part m c ⟨5 * (t.val / 5) + s.val, h s⟩ (ix2 (n0 := 1024) (n1 := 1024) r q) = plain (cotangent m c) (weights m c) (tokenOf t r) q := by
  unfold plain
  refine (Finset.sum_congr rfl fun s _ => part_at m c ⟨5 * (t.val / 5) + s.val, h s⟩ r q).trans ?_
  exact sum_run (P := 40) (J := 5) (n := 640) (L := 3200) (by decide) (fun t l => cotangent m c (ix2 (tokenOf t r) l) * weights m c (ix2 l q)) columnOf
    (fun _ _ => rfl) t h fun s l => congrArg (fun i => ((cotangent m c (ix2 i l)) * weights m c (ix2 l q) : EReal))
      (Fin.ext (by show 1024 * ((5 * (t.val / 5) + s.val) / 5) + r.val = 1024 * (t.val / 5) + r.val; omega))

theorem arr : (dats m 0 c).arrAt 2 cfg0.N = fun y : S8192x1024.Idx => plain (cotangent m c) (weights m c) (y 0) (y 1) := by
  refine (dats m 0 c).arrAt_eq_of_covers 2 _ (by decide +kernel) fun t hf y => ?_
  have e := index_at t
  have h4 : t.val % 5 = 4 := (flush0_2 t).mp hf
  blk_simp
  rw [after0_2]
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (tokenOf t r) q := by
    unfold tokenOf
    blk_ext [e.2.2]
  rw [ep, last m c t h4]
  refine (carried_add_last 5 (by omega) (fun n h => (outsAt0 m c n h).2) (part m c) (first m c) (next m c) t h4 _).trans ?_
  exact total m c t _ r q

section Reference
open Cert.Reference19Ideal.Read

theorem ref (a : FVec Ideal S8192x3200 .bf16) (b : FVec Ideal S3200x1024 .bf16) :
    val_main_v5 (F := Ideal) a b = fun y : S8192x1024.Idx => plain a b (y 0) (y 1) := by
  funext y
  obtain ⟨i, j, rfl⟩ : ∃ (i : Fin 8192) (j : Fin 1024), y = ix2 i j := ⟨y 0, y 1, (ix2_eta y).symm⟩
  unfold plain
  pointwise [val_main_v5, val_main_v4, val_main_v2, val_main_v1]

end Reference

theorem algebraic : Cert.algebraic_Kernel19Ideal_Reference19Ideal := by
  intro m g m' g' _ he
  refine ⟨_, Cert.Kernel19Ideal.Value.run_blocks m g, (θ_run Cert.Reference19Ideal.defs _ _).mono (fun r h c => ?_) (Cert.Reference19Ideal.Value.run m' g')⟩
  obtain ⟨r0, ra⟩ := h c
  obtain ⟨e0, e1⟩ := he c
  refine ⟨r0.trans ((Cert.Reference19Ideal.Read.val_main_v5_eq _ _).trans ?_), ra⟩
  rw [e0, e1]
  exact (ref _ _).trans (arr m c).symm

end Cert.Proof.EvenInputGrad

end
-- ==== Proof.PleProj.lean ====
/-
  The projection of the per-layer embedding: the product of the embedding and the projection's weights at every index; and the
  equation with the reference.
-/
module

public import proofs.«01_k».proof.Defs
public import proofs.«01_k».proof.Proof.Gen.Kernel20Ideal.Value
public import proofs.«01_k».proof.Proof.Gen.Reference20Ideal.Read
public import proofs.«01_k».proof.Proof.Products

@[expose] public section

set_option maxRecDepth 16384

noncomputable section

namespace Cert.Proof.PleProj

open Cert.Kernel20Ideal Cert.Kernel20Ideal.Gen Cert.Proof.Products
open Idealize.ShloMosaic Idealize.ShloMosaic.TcCoe Idealize.ShloMosaic.Tactic Idealize.SL.Sem
open Idealize.ShloMosaic.Pipeline (Dat)

/-- The blocks a grid point works on: point `t` takes row block `t` and all the weights. -/
theorem index_at : ∀ t : Fin cfg0.N, win0_0.index t = ![t.val, 0] ∧ win0_1.index t = ![0, 0]
    ∧ win0_2.index t = ![t.val, 0] := by decide +kernel

variable (m : (ℓ : Loc nD τ sig) → Buf (Elt Ideal) ℓ) (c : Dev nD)

/-- The two arguments as arrays of numbers. -/
def embedding : S8192x256.Idx → EReal := m ((c : Thread nD τ).loc main_arg0)
def weights : S256x1024.Idx → EReal := m ((c : Thread nD τ).loc main_arg1)

theorem embeddingBlock_at (t : Fin 8) (r : Fin 1024) (k : Fin 256) :
    iblk m c 0 t (ix2 (n0 := 1024) (n1 := 256) r k) = embedding m c (ix2 (row t r) k) := by
  have e := index_at t
  unfold row embedding
  rw [← V_main_arg0 m c]
  blk_ext [iblk, e.1]

theorem weightsBlock_at (t : Fin 8) (k : Fin 256) (q : Fin 1024) :
    iblk m c 1 t (ix2 (n0 := 256) (n1 := 1024) k q) = weights m c (ix2 (n0 := 256) (n1 := 1024) k q) := by
  have e := index_at t
  unfold weights
  rw [← V_main_arg1 m c]
  blk_ext [iblk, e.2.1]

theorem pay1_at (a : Vec Ideal S1024x256 .f32) (b : Vec Ideal S256x1024 .bf16) (r q : Fin 1024) : k0_pay1 a b (ix2 (n0 := 1024) (n1 := 1024) r q)
      = ∑ k : Fin 256, a (ix2 (n0 := 1024) (n1 := 256) r k) * b (ix2 (n0 := 256) (n1 := 1024) k q) := by
  pointwise [k0_pay1]

theorem block_at (t : Fin 8) (r q : Fin 1024) : k0_pay1 (F := Ideal) (iblk m c 0 t) (iblk m c 1 t) (ix2 (n0 := 1024) (n1 := 1024) r q)
    = plain (embedding m c) (weights m c) (row t r) q :=
  (pay1_at _ _ r q).trans (Finset.sum_congr rfl fun k _ => congrArg₂ (fun u v : EReal => u * v) (embeddingBlock_at m c t r k) (weightsBlock_at m c t k q))

theorem arr : (dats m 0 c).arrAt 2 cfg0.N = fun y : S8192x1024.Idx => plain (embedding m c) (weights m c) (y 0) (y 1) := by
  refine (dats m 0 c).arrAt_eq_of_covers 2 _ (by decide +kernel) fun t hf y => ?_
  have e := index_at t
  blk_simp
  rw [after0_2, outsAt0]
  frame_out
  obtain ⟨r, q, rfl⟩ : ∃ (r q : Fin 1024), y = ix2 r q := ⟨y 0, y 1, (ix2_eta y).symm⟩
  have ep : (win0_2.blk t).view.emb (ix2 (n0 := 1024) (n1 := 1024) r q) = ix2 (n0 := 8192) (n1 := 1024) (row t r) q := by
    unfold row
    blk_ext [e.2.2]
  rw [ep]
  exact block_at m c t r q

section Reference
open Cert.Reference20Ideal.Read

theorem ref (a : FVec Ideal S8192x256 .f32) (b : FVec Ideal S256x1024 .bf16) :
    val_main_v1 (F := Ideal) a b = fun y : S8192x1024.Idx => plain a b (y 0) (y 1) := by
  funext y
  obtain ⟨i, j, rfl⟩ : ∃ (i : Fin 8192) (j : Fin 1024), y = ix2 i j := ⟨y 0, y 1, (ix2_eta y).symm⟩
  unfold plain
  pointwise [val_main_v1, val_main_v0]

end Reference

theorem algebraic : Cert.algebraic_Kernel20Ideal_Reference20Ideal := by
  intro m g m' g' _ he
  refine ⟨_, Cert.Kernel20Ideal.Value.run_blocks m g, (θ_run Cert.Reference20Ideal.defs _ _).mono (fun r h c => ?_) (Cert.Reference20Ideal.Value.run m' g')⟩
  obtain ⟨r0, ra⟩ := h c
  obtain ⟨e0, e1⟩ := he c
  refine ⟨r0.trans ((Cert.Reference20Ideal.Read.val_main_v1_eq _ _).trans ?_), ra⟩
  rw [e0, e1]
  exact (ref _ _).trans (arr m c).symm

end Cert.Proof.PleProj

end
-- ==== Proof.PleProjGrad.lean ====
/-
  The gradient of the weights of the embedding's projection: the product of the transposed embedding and the cotangent, summed
  over all the tokens, at every index; and the equation with the reference.
-/
module

public import proofs.«01_k».proof.Defs
public import proofs.«01_k».proof.Proof.Gen.Kernel21Ideal.Value
public import proofs.«01_k».proof.Proof.Gen.Reference21Ideal.Read
public import proofs.«01_k».proof.Proof.Products

@[expose] public section

set_option maxRecDepth 16384

noncomputable section

namespace Cert.Proof.PleProjGrad

open Cert.Kernel21Ideal Cert.Kernel21Ideal.Gen Cert.Proof.Chunks Cert.Proof.Products
open Idealize.ShloMosaic Idealize.ShloMosaic.TcCoe Idealize.ShloMosaic.Tactic Idealize.SL.Sem
open Idealize.ShloMosaic.Pipeline (Dat)

/-- The blocks a grid point works on: point `t` takes tokens `t`. -/
theorem index_at : ∀ t : Fin cfg0.N, win0_0.index t = ![t.val, 0] ∧ win0_1.index t = ![t.val, 0]
    ∧ win0_2.index t = ![0, 0] := by decide +kernel

variable (m : (ℓ : Loc nD τ sig) → Buf (Elt Ideal) ℓ) (c : Dev nD)

/-- The two arguments as arrays of numbers. -/
def embedding : S8192x256.Idx → EReal := m ((c : Thread nD τ).loc main_arg0)
def cotangent : S8192x1024.Idx → EReal := m ((c : Thread nD τ).loc main_arg1)

theorem embeddingBlock_at (t : Fin 8) (k : Fin 1024) (r : Fin 256) :
    iblk m c 0 t (ix2 (n0 := 1024) (n1 := 256) k r) = embedding m c (ix2 (row t k) r) := by
  have e := index_at t
  unfold row embedding
  rw [← V_main_arg0 m c]
  blk_ext [iblk, e.1]

theorem cotangentBlock_at (t : Fin 8) (k q : Fin 1024) :
    iblk m c 1 t (ix2 (n0 := 1024) (n1 := 1024) k q) = cotangent m c (ix2 (row t k) q) := by
  have e := index_at t
  unfold row cotangent
  rw [← V_main_arg1 m c]
  blk_ext [iblk, e.2.1]

theorem pay1_at (a : Vec Ideal S1024x256 .f32) (b : Vec Ideal S1024x1024 .bf16) (r : Fin 256) (q : Fin 1024) : k0_pay1 a b (ix2 (n0 := 256) (n1 := 1024) r q)
      = ∑ k : Fin 1024, a (ix2 (n0 := 1024) (n1 := 256) k r) * b (ix2 (n0 := 1024) (n1 := 1024) k q) := by
  pointwise [k0_pay1]

/-- A point's own product. -/
def part (t : Fin cfg0.N) : S256x1024.Idx → EReal := k0_pay1 (F := Ideal) (iblk m c 0 t) (iblk m c 1 t)

theorem part_at (t : Fin 8) (r : Fin 256) (q : Fin 1024) : part m c t (ix2 (n0 := 256) (n1 := 1024) r q)
    = ∑ k : Fin 1024, embedding m c (ix2 (row t k) r) * cotangent m c (ix2 (row t k) q) :=
  (pay1_at _ _ r q).trans (Finset.sum_congr rfl fun k _ => congrArg₂ (fun u v : EReal => u * v) (embeddingBlock_at m c t k r) (cotangentBlock_at m c t k q))

theorem first (t : Fin cfg0.N) (h : t.val % 8 = 0) (y : S256x1024.Idx) : (outsAt0 m c t.val t.isLt).2 y = part m c t y := by
  rw [outsAt0_A m c t h (by omega) (by omega)]
  frame_out
  pointwise [k0_pay2]
  rfl

theorem next (t : Fin cfg0.N) (h : ¬t.val % 8 = 0) (h7 : ¬t.val % 8 = 7) (y : S256x1024.Idx) : (outsAt0 m c t.val t.isLt).2 y
    = (outsAt0 m c (t.val - 1) (Nat.lt_of_le_of_lt (Nat.sub_le _ _) t.isLt)).2 y + part m c t y := by
  rw [outsAt0_B m c t h (by omega) h7]
  frame_out
  pointwise [k0_pay3]
  rw [read_unread_whole, part]

theorem last (t : Fin cfg0.N) (h7 : t.val % 8 = 7) (y : S256x1024.Idx) : (outsAt0 m c t.val t.isLt).1 y
    = (outsAt0 m c (t.val - 1) (Nat.lt_of_le_of_lt (Nat.sub_le _ _) t.isLt)).2 y + part m c t y := by
  rw [outsAt0_C m c t (by omega) (by omega) h7]
  frame_out
  pointwise [k0_pay4]
  rw [read_unread_whole, part]

/-- The products of a run's points make up the whole product. -/
theorem total (t : Fin 8) (h : ∀ s : Fin 8, 8 * (t.val / 8) + s.val < 8) (r : Fin 256) (q : Fin 1024) :
    ∑ s : Fin 8, part m c ⟨8 * (t.val / 8) + s.val, h s⟩ (ix2 (n0 := 256) (n1 := 1024) r q) = leftT (embedding m c) (cotangent m c) r q := by
  unfold leftT
  refine (Finset.sum_congr rfl fun s _ => part_at m c ⟨8 * (t.val / 8) + s.val, h s⟩ r q).trans ?_
  exact sum_run (P := 8) (J := 8) (n := 1024) (L := 8192) (by decide) (fun _ l => embedding m c (ix2 l r) * cotangent m c (ix2 l q)) row
    (fun s k => by show 1024 * s.val + k.val = 1024 * (s.val % 8) + k.val; omega) t h fun _ _ => rfl

theorem arr : (dats m 0 c).arrAt 2 cfg0.N = fun y : S256x1024.Idx => leftT (embedding m c) (cotangent m c) (y 0) (y 1) := by
  refine (dats m 0 c).arrAt_eq_of_covers 2 _ (by decide +kernel) fun t hf y => ?_
  have e := index_at t
  have h7 : t.val % 8 = 7 := (flush0_2 t).mp hf
  blk_simp
  rw [after0_2]
  obtain ⟨r, q, rfl⟩ : ∃ (r : Fin 256) (q : Fin 1024), y = ix2 r q := ⟨y 0, y 1, (ix2_eta y).symm⟩
  have ep : (win0_2.blk t).view.emb (ix2 (n0 := 256) (n1 := 1024) r q) = ix2 (n0 := 256) (n1 := 1024) r q := by
    blk_ext [e.2.2]
  rw [ep, last m c t h7]
  refine (carried_add_last 8 (by omega) (fun n h => (outsAt0 m c n h).2) (part m c) (first m c) (next m c) t h7 _).trans ?_
  exact total m c t _ r q

section Reference
open Cert.Reference21Ideal.Read

theorem ref (a : FVec Ideal S8192x256 .f32) (b : FVec Ideal S8192x1024 .bf16) :
    val_main_v4 (F := Ideal) a b = fun y : S256x1024.Idx => leftT a b (y 0) (y 1) := by
  funext y
  obtain ⟨i, j, rfl⟩ : ∃ (i : Fin 256) (j : Fin 1024), y = ix2 i j := ⟨y 0, y 1, (ix2_eta y).symm⟩
  refine Eq.trans ?_ (Finset.sum_congr rfl fun l _ => mul_comm (b (ix2 (n0 := 8192) (n1 := 1024) l j) : EReal) _)
  pointwise [val_main_v4, val_main_v3, val_main_v2]

end Reference

theorem algebraic : Cert.algebraic_Kernel21Ideal_Reference21Ideal := by
  intro m g m' g' _ he
  refine ⟨_, Cert.Kernel21Ideal.Value.run_blocks m g, (θ_run Cert.Reference21Ideal.defs _ _).mono (fun r h c => ?_) (Cert.Reference21Ideal.Value.run m' g')⟩
  obtain ⟨r0, ra⟩ := h c
  obtain ⟨e0, e1⟩ := he c
  refine ⟨r0.trans ((Cert.Reference21Ideal.Read.val_main_v4_eq _ _).trans ?_), ra⟩
  rw [e0, e1]
  exact (ref _ _).trans (arr m c).symm

end Cert.Proof.PleProjGrad

end
-- ==== Proof.lean ====
/- The claims of this certificate: the frames of every program at both carriers and of its reference, that idealizing a program
   preserves it, and that each program and its reference compute the same real numbers. The first program is the sliding-window
   attention; the others are the matrix products of the feed-forward layers, of the embedding and its gate, and into and out of the mixers. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Frames
public import proofs.«01_k».proof.Proof.LayerFrames
public import proofs.«01_k».proof.Proof.Algebraic
public import proofs.«01_k».proof.Proof.GateUp
public import proofs.«01_k».proof.Proof.GateUpBwd
public import proofs.«01_k».proof.Proof.WeightGrad
public import proofs.«01_k».proof.Proof.InputGrad
public import proofs.«01_k».proof.Proof.Down
public import proofs.«01_k».proof.Proof.DownGrad
public import proofs.«01_k».proof.Proof.PleGate
public import proofs.«01_k».proof.Proof.PleWeightGrad
public import proofs.«01_k».proof.Proof.PleInputGrad
public import proofs.«01_k».proof.Proof.MixOut
public import proofs.«01_k».proof.Proof.MixWeightGrad
public import proofs.«01_k».proof.Proof.MixInputGrad
public import proofs.«01_k».proof.Proof.OddIn
public import proofs.«01_k».proof.Proof.OddWeightGrad
public import proofs.«01_k».proof.Proof.OddInputGrad
public import proofs.«01_k».proof.Proof.EvenIn
public import proofs.«01_k».proof.Proof.EvenWeightGrad
public import proofs.«01_k».proof.Proof.EvenInputGrad
public import proofs.«01_k».proof.Proof.PleProj
public import proofs.«01_k».proof.Proof.PleProjGrad

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite.Gen.facts, Cert.Pre_finite3.Gen.facts,
    frame_kernel, frame_ideal, fun m g _ => frame_ideal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, fun m g _ => Cert.Kernel3Ideal.Gen.frame m g,
    frame_reference3, fun m g _ => frame_reference3 m g trivial,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, frame_reference15,
    fun m g _ => Cert.Kernel16.Gen.frame m g, fun m g _ => Cert.Kernel16Ideal.Gen.frame m g, frame_reference16,
    fun m g _ => Cert.Kernel17.Gen.frame m g, fun m g _ => Cert.Kernel17Ideal.Gen.frame m g, frame_reference17,
    fun m g _ => Cert.Kernel18.Gen.frame m g, fun m g _ => Cert.Kernel18Ideal.Gen.frame m g, frame_reference18,
    fun m g _ => Cert.Kernel19.Gen.frame m g, fun m g _ => Cert.Kernel19Ideal.Gen.frame m g, frame_reference19,
    fun m g _ => Cert.Kernel20.Gen.frame m g, fun m g _ => Cert.Kernel20Ideal.Gen.frame m g, frame_reference20,
    fun m g _ => Cert.Kernel21.Gen.frame m g, fun m g _ => Cert.Kernel21Ideal.Gen.frame m g, frame_reference21,
    trivial, Swa.algebraic, trivial, GateUp.algebraic, trivial, GateUpBwd.algebraic, trivial, WeightGrad.algebraic,
    trivial, InputGrad.algebraic, trivial, Down.algebraic, trivial, DownGrad.algebraic,
    trivial, PleGate.algebraic, trivial, PleWeightGrad.algebraic, trivial, PleInputGrad.algebraic,
    trivial, MixOut.algebraic, trivial, MixWeightGrad.algebraic, trivial, MixInputGrad.algebraic,
    trivial, OddIn.algebraic, trivial, OddWeightGrad.algebraic, trivial, OddInputGrad.algebraic,
    trivial, EvenIn.algebraic, trivial, EvenWeightGrad.algebraic, trivial, EvenInputGrad.algebraic,
    trivial, PleProj.algebraic, trivial, PleProjGrad.algebraic⟩

end Cert.Proof

end
